-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Attend (m : (ℓ : Loc Cert.Attend.nD Cert.Attend.τ Cert.Attend.sig) → Buf (Elt Bits) ℓ) : Prop :=
  True

def Pre_AttendIdeal (m : (ℓ : Loc Cert.AttendIdeal.nD Cert.AttendIdeal.τ Cert.AttendIdeal.sig) → Buf (Elt Ideal) ℓ) : Prop :=
  True

def Pre_AttendIdeal_spans [hPre_spans : Cert.Pre_spans.Facts] (m : (ℓ : Loc Cert.AttendIdeal.nD Cert.AttendIdeal.τ Cert.AttendIdeal.sig) → Buf (Elt Ideal) ℓ) : Prop :=
  ∀ c : Dev Cert.AttendIdeal.nD,
    (Cert.Pre_spans.fn (F := Ideal) (m ((c.tc : Thread Cert.AttendIdeal.nD Cert.AttendIdeal.τ).loc Cert.AttendIdeal.main_arg0)) (m ((c.tc : Thread Cert.AttendIdeal.nD Cert.AttendIdeal.τ).loc Cert.AttendIdeal.main_arg1)) (m ((c.tc : Thread Cert.AttendIdeal.nD Cert.AttendIdeal.τ).loc Cert.AttendIdeal.main_arg2)) (m ((c.tc : Thread Cert.AttendIdeal.nD Cert.AttendIdeal.τ).loc Cert.AttendIdeal.main_arg3)) (m ((c.tc : Thread Cert.AttendIdeal.nD Cert.AttendIdeal.τ).loc Cert.AttendIdeal.main_arg4)) (m ((c.tc : Thread Cert.AttendIdeal.nD Cert.AttendIdeal.τ).loc Cert.AttendIdeal.main_arg5)) (m ((c.tc : Thread Cert.AttendIdeal.nD Cert.AttendIdeal.τ).loc Cert.AttendIdeal.main_arg6))) = (fun _ => 1#1)

def Pre_AttendReferenceIdeal (m : (ℓ : Loc Cert.AttendReferenceIdeal.nD Cert.AttendReferenceIdeal.τ Cert.AttendReferenceIdeal.sig) → Buf (Elt Ideal) ℓ) : Prop :=
  True

def Pre_AttendReferenceIdeal_spans [hPre_spans : Cert.Pre_spans.Facts] (m : (ℓ : Loc Cert.AttendReferenceIdeal.nD Cert.AttendReferenceIdeal.τ Cert.AttendReferenceIdeal.sig) → Buf (Elt Ideal) ℓ) : Prop :=
  ∀ c : Dev Cert.AttendReferenceIdeal.nD,
    (Cert.Pre_spans.fn (F := Ideal) (m ((c.tc : Thread Cert.AttendReferenceIdeal.nD Cert.AttendReferenceIdeal.τ).loc Cert.AttendReferenceIdeal.main_arg0)) (m ((c.tc : Thread Cert.AttendReferenceIdeal.nD Cert.AttendReferenceIdeal.τ).loc Cert.AttendReferenceIdeal.main_arg1)) (m ((c.tc : Thread Cert.AttendReferenceIdeal.nD Cert.AttendReferenceIdeal.τ).loc Cert.AttendReferenceIdeal.main_arg2)) (m ((c.tc : Thread Cert.AttendReferenceIdeal.nD Cert.AttendReferenceIdeal.τ).loc Cert.AttendReferenceIdeal.main_arg3)) (m ((c.tc : Thread Cert.AttendReferenceIdeal.nD Cert.AttendReferenceIdeal.τ).loc Cert.AttendReferenceIdeal.main_arg4)) (m ((c.tc : Thread Cert.AttendReferenceIdeal.nD Cert.AttendReferenceIdeal.τ).loc Cert.AttendReferenceIdeal.main_arg5)) (m ((c.tc : Thread Cert.AttendReferenceIdeal.nD Cert.AttendReferenceIdeal.τ).loc Cert.AttendReferenceIdeal.main_arg6))) = (fun _ => 1#1)

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Attend [hAttend : Cert.Attend.Facts] : Prop :=
  ∀ (m : (ℓ : Loc Cert.Attend.nD Cert.Attend.τ Cert.Attend.sig) → Buf (Elt Bits) ℓ) (g : Dev Cert.Attend.nD → PrngReg), Pre_Attend m →
    θ_run (Cert.Attend.defs (F := Bits)) (onTc (τ := Cert.Attend.τ) (Cert.Attend.main (F := Bits))) ⟨m, fun _ => 0, g⟩ (fun r => (∀ c : Dev Cert.Attend.nD,
      r.2.mem ((c.tc : Thread Cert.Attend.nD Cert.Attend.τ).loc Cert.Attend.main_arg0) = m ((c.tc : Thread Cert.Attend.nD Cert.Attend.τ).loc Cert.Attend.main_arg0)
      ∧ r.2.mem ((c.tc : Thread Cert.Attend.nD Cert.Attend.τ).loc Cert.Attend.main_arg1) = m ((c.tc : Thread Cert.Attend.nD Cert.Attend.τ).loc Cert.Attend.main_arg1)
      ∧ r.2.mem ((c.tc : Thread Cert.Attend.nD Cert.Attend.τ).loc Cert.Attend.main_arg2) = m ((c.tc : Thread Cert.Attend.nD Cert.Attend.τ).loc Cert.Attend.main_arg2)
      ∧ r.2.mem ((c.tc : Thread Cert.Attend.nD Cert.Attend.τ).loc Cert.Attend.main_arg3) = m ((c.tc : Thread Cert.Attend.nD Cert.Attend.τ).loc Cert.Attend.main_arg3)
      ∧ r.2.mem ((c.tc : Thread Cert.Attend.nD Cert.Attend.τ).loc Cert.Attend.main_arg4) = m ((c.tc : Thread Cert.Attend.nD Cert.Attend.τ).loc Cert.Attend.main_arg4)
      ∧ r.2.mem ((c.tc : Thread Cert.Attend.nD Cert.Attend.τ).loc Cert.Attend.main_arg5) = m ((c.tc : Thread Cert.Attend.nD Cert.Attend.τ).loc Cert.Attend.main_arg5)
      ∧ r.2.mem ((c.tc : Thread Cert.Attend.nD Cert.Attend.τ).loc Cert.Attend.main_arg6) = m ((c.tc : Thread Cert.Attend.nD Cert.Attend.τ).loc Cert.Attend.main_arg6))
      ∧ r.2.sem = fun _ => 0)

def quiescent_AttendIdeal [hAttendIdeal : Cert.AttendIdeal.Facts] : Prop :=
  ∀ (m : (ℓ : Loc Cert.AttendIdeal.nD Cert.AttendIdeal.τ Cert.AttendIdeal.sig) → Buf (Elt Ideal) ℓ) (g : Dev Cert.AttendIdeal.nD → PrngReg), Pre_AttendIdeal m →
    θ_run (Cert.AttendIdeal.defs (F := Ideal)) (onTc (τ := Cert.AttendIdeal.τ) (Cert.AttendIdeal.main (F := Ideal))) ⟨m, fun _ => 0, g⟩ (fun r => (∀ c : Dev Cert.AttendIdeal.nD,
      r.2.mem ((c.tc : Thread Cert.AttendIdeal.nD Cert.AttendIdeal.τ).loc Cert.AttendIdeal.main_arg0) = m ((c.tc : Thread Cert.AttendIdeal.nD Cert.AttendIdeal.τ).loc Cert.AttendIdeal.main_arg0)
      ∧ r.2.mem ((c.tc : Thread Cert.AttendIdeal.nD Cert.AttendIdeal.τ).loc Cert.AttendIdeal.main_arg1) = m ((c.tc : Thread Cert.AttendIdeal.nD Cert.AttendIdeal.τ).loc Cert.AttendIdeal.main_arg1)
      ∧ r.2.mem ((c.tc : Thread Cert.AttendIdeal.nD Cert.AttendIdeal.τ).loc Cert.AttendIdeal.main_arg2) = m ((c.tc : Thread Cert.AttendIdeal.nD Cert.AttendIdeal.τ).loc Cert.AttendIdeal.main_arg2)
      ∧ r.2.mem ((c.tc : Thread Cert.AttendIdeal.nD Cert.AttendIdeal.τ).loc Cert.AttendIdeal.main_arg3) = m ((c.tc : Thread Cert.AttendIdeal.nD Cert.AttendIdeal.τ).loc Cert.AttendIdeal.main_arg3)
      ∧ r.2.mem ((c.tc : Thread Cert.AttendIdeal.nD Cert.AttendIdeal.τ).loc Cert.AttendIdeal.main_arg4) = m ((c.tc : Thread Cert.AttendIdeal.nD Cert.AttendIdeal.τ).loc Cert.AttendIdeal.main_arg4)
      ∧ r.2.mem ((c.tc : Thread Cert.AttendIdeal.nD Cert.AttendIdeal.τ).loc Cert.AttendIdeal.main_arg5) = m ((c.tc : Thread Cert.AttendIdeal.nD Cert.AttendIdeal.τ).loc Cert.AttendIdeal.main_arg5)
      ∧ r.2.mem ((c.tc : Thread Cert.AttendIdeal.nD Cert.AttendIdeal.τ).loc Cert.AttendIdeal.main_arg6) = m ((c.tc : Thread Cert.AttendIdeal.nD Cert.AttendIdeal.τ).loc Cert.AttendIdeal.main_arg6))
      ∧ r.2.sem = fun _ => 0)

def quiescent_AttendIdeal_pre_spans [hAttendIdeal : Cert.AttendIdeal.Facts] [hPre_spans : Cert.Pre_spans.Facts] : Prop :=
  ∀ (m : (ℓ : Loc Cert.AttendIdeal.nD Cert.AttendIdeal.τ Cert.AttendIdeal.sig) → Buf (Elt Ideal) ℓ) (g : Dev Cert.AttendIdeal.nD → PrngReg), Pre_AttendIdeal_spans m →
    θ_run (Cert.AttendIdeal.defs (F := Ideal)) (onTc (τ := Cert.AttendIdeal.τ) (Cert.AttendIdeal.main (F := Ideal))) ⟨m, fun _ => 0, g⟩ (fun r => (∀ c : Dev Cert.AttendIdeal.nD,
      r.2.mem ((c.tc : Thread Cert.AttendIdeal.nD Cert.AttendIdeal.τ).loc Cert.AttendIdeal.main_arg0) = m ((c.tc : Thread Cert.AttendIdeal.nD Cert.AttendIdeal.τ).loc Cert.AttendIdeal.main_arg0)
      ∧ r.2.mem ((c.tc : Thread Cert.AttendIdeal.nD Cert.AttendIdeal.τ).loc Cert.AttendIdeal.main_arg1) = m ((c.tc : Thread Cert.AttendIdeal.nD Cert.AttendIdeal.τ).loc Cert.AttendIdeal.main_arg1)
      ∧ r.2.mem ((c.tc : Thread Cert.AttendIdeal.nD Cert.AttendIdeal.τ).loc Cert.AttendIdeal.main_arg2) = m ((c.tc : Thread Cert.AttendIdeal.nD Cert.AttendIdeal.τ).loc Cert.AttendIdeal.main_arg2)
      ∧ r.2.mem ((c.tc : Thread Cert.AttendIdeal.nD Cert.AttendIdeal.τ).loc Cert.AttendIdeal.main_arg3) = m ((c.tc : Thread Cert.AttendIdeal.nD Cert.AttendIdeal.τ).loc Cert.AttendIdeal.main_arg3)
      ∧ r.2.mem ((c.tc : Thread Cert.AttendIdeal.nD Cert.AttendIdeal.τ).loc Cert.AttendIdeal.main_arg4) = m ((c.tc : Thread Cert.AttendIdeal.nD Cert.AttendIdeal.τ).loc Cert.AttendIdeal.main_arg4)
      ∧ r.2.mem ((c.tc : Thread Cert.AttendIdeal.nD Cert.AttendIdeal.τ).loc Cert.AttendIdeal.main_arg5) = m ((c.tc : Thread Cert.AttendIdeal.nD Cert.AttendIdeal.τ).loc Cert.AttendIdeal.main_arg5)
      ∧ r.2.mem ((c.tc : Thread Cert.AttendIdeal.nD Cert.AttendIdeal.τ).loc Cert.AttendIdeal.main_arg6) = m ((c.tc : Thread Cert.AttendIdeal.nD Cert.AttendIdeal.τ).loc Cert.AttendIdeal.main_arg6))
      ∧ r.2.sem = fun _ => 0)

def quiescent_AttendReferenceIdeal [hAttendReferenceIdeal : Cert.AttendReferenceIdeal.Facts] : Prop :=
  ∀ (m : (ℓ : Loc Cert.AttendReferenceIdeal.nD Cert.AttendReferenceIdeal.τ Cert.AttendReferenceIdeal.sig) → Buf (Elt Ideal) ℓ) (g : Dev Cert.AttendReferenceIdeal.nD → PrngReg), Pre_AttendReferenceIdeal m →
    θ_run (Cert.AttendReferenceIdeal.defs (F := Ideal)) (onTc (τ := Cert.AttendReferenceIdeal.τ) (Cert.AttendReferenceIdeal.main (F := Ideal))) ⟨m, fun _ => 0, g⟩ (fun r => (∀ c : Dev Cert.AttendReferenceIdeal.nD,
      r.2.mem ((c.tc : Thread Cert.AttendReferenceIdeal.nD Cert.AttendReferenceIdeal.τ).loc Cert.AttendReferenceIdeal.main_arg0) = m ((c.tc : Thread Cert.AttendReferenceIdeal.nD Cert.AttendReferenceIdeal.τ).loc Cert.AttendReferenceIdeal.main_arg0)
      ∧ r.2.mem ((c.tc : Thread Cert.AttendReferenceIdeal.nD Cert.AttendReferenceIdeal.τ).loc Cert.AttendReferenceIdeal.main_arg1) = m ((c.tc : Thread Cert.AttendReferenceIdeal.nD Cert.AttendReferenceIdeal.τ).loc Cert.AttendReferenceIdeal.main_arg1)
      ∧ r.2.mem ((c.tc : Thread Cert.AttendReferenceIdeal.nD Cert.AttendReferenceIdeal.τ).loc Cert.AttendReferenceIdeal.main_arg2) = m ((c.tc : Thread Cert.AttendReferenceIdeal.nD Cert.AttendReferenceIdeal.τ).loc Cert.AttendReferenceIdeal.main_arg2)
      ∧ r.2.mem ((c.tc : Thread Cert.AttendReferenceIdeal.nD Cert.AttendReferenceIdeal.τ).loc Cert.AttendReferenceIdeal.main_arg3) = m ((c.tc : Thread Cert.AttendReferenceIdeal.nD Cert.AttendReferenceIdeal.τ).loc Cert.AttendReferenceIdeal.main_arg3)
      ∧ r.2.mem ((c.tc : Thread Cert.AttendReferenceIdeal.nD Cert.AttendReferenceIdeal.τ).loc Cert.AttendReferenceIdeal.main_arg4) = m ((c.tc : Thread Cert.AttendReferenceIdeal.nD Cert.AttendReferenceIdeal.τ).loc Cert.AttendReferenceIdeal.main_arg4)
      ∧ r.2.mem ((c.tc : Thread Cert.AttendReferenceIdeal.nD Cert.AttendReferenceIdeal.τ).loc Cert.AttendReferenceIdeal.main_arg5) = m ((c.tc : Thread Cert.AttendReferenceIdeal.nD Cert.AttendReferenceIdeal.τ).loc Cert.AttendReferenceIdeal.main_arg5)
      ∧ r.2.mem ((c.tc : Thread Cert.AttendReferenceIdeal.nD Cert.AttendReferenceIdeal.τ).loc Cert.AttendReferenceIdeal.main_arg6) = m ((c.tc : Thread Cert.AttendReferenceIdeal.nD Cert.AttendReferenceIdeal.τ).loc Cert.AttendReferenceIdeal.main_arg6))
      ∧ r.2.sem = fun _ => 0)

def quiescent_AttendReferenceIdeal_pre_spans [hAttendReferenceIdeal : Cert.AttendReferenceIdeal.Facts] [hPre_spans : Cert.Pre_spans.Facts] : Prop :=
  ∀ (m : (ℓ : Loc Cert.AttendReferenceIdeal.nD Cert.AttendReferenceIdeal.τ Cert.AttendReferenceIdeal.sig) → Buf (Elt Ideal) ℓ) (g : Dev Cert.AttendReferenceIdeal.nD → PrngReg), Pre_AttendReferenceIdeal_spans m →
    θ_run (Cert.AttendReferenceIdeal.defs (F := Ideal)) (onTc (τ := Cert.AttendReferenceIdeal.τ) (Cert.AttendReferenceIdeal.main (F := Ideal))) ⟨m, fun _ => 0, g⟩ (fun r => (∀ c : Dev Cert.AttendReferenceIdeal.nD,
      r.2.mem ((c.tc : Thread Cert.AttendReferenceIdeal.nD Cert.AttendReferenceIdeal.τ).loc Cert.AttendReferenceIdeal.main_arg0) = m ((c.tc : Thread Cert.AttendReferenceIdeal.nD Cert.AttendReferenceIdeal.τ).loc Cert.AttendReferenceIdeal.main_arg0)
      ∧ r.2.mem ((c.tc : Thread Cert.AttendReferenceIdeal.nD Cert.AttendReferenceIdeal.τ).loc Cert.AttendReferenceIdeal.main_arg1) = m ((c.tc : Thread Cert.AttendReferenceIdeal.nD Cert.AttendReferenceIdeal.τ).loc Cert.AttendReferenceIdeal.main_arg1)
      ∧ r.2.mem ((c.tc : Thread Cert.AttendReferenceIdeal.nD Cert.AttendReferenceIdeal.τ).loc Cert.AttendReferenceIdeal.main_arg2) = m ((c.tc : Thread Cert.AttendReferenceIdeal.nD Cert.AttendReferenceIdeal.τ).loc Cert.AttendReferenceIdeal.main_arg2)
      ∧ r.2.mem ((c.tc : Thread Cert.AttendReferenceIdeal.nD Cert.AttendReferenceIdeal.τ).loc Cert.AttendReferenceIdeal.main_arg3) = m ((c.tc : Thread Cert.AttendReferenceIdeal.nD Cert.AttendReferenceIdeal.τ).loc Cert.AttendReferenceIdeal.main_arg3)
      ∧ r.2.mem ((c.tc : Thread Cert.AttendReferenceIdeal.nD Cert.AttendReferenceIdeal.τ).loc Cert.AttendReferenceIdeal.main_arg4) = m ((c.tc : Thread Cert.AttendReferenceIdeal.nD Cert.AttendReferenceIdeal.τ).loc Cert.AttendReferenceIdeal.main_arg4)
      ∧ r.2.mem ((c.tc : Thread Cert.AttendReferenceIdeal.nD Cert.AttendReferenceIdeal.τ).loc Cert.AttendReferenceIdeal.main_arg5) = m ((c.tc : Thread Cert.AttendReferenceIdeal.nD Cert.AttendReferenceIdeal.τ).loc Cert.AttendReferenceIdeal.main_arg5)
      ∧ r.2.mem ((c.tc : Thread Cert.AttendReferenceIdeal.nD Cert.AttendReferenceIdeal.τ).loc Cert.AttendReferenceIdeal.main_arg6) = m ((c.tc : Thread Cert.AttendReferenceIdeal.nD Cert.AttendReferenceIdeal.τ).loc Cert.AttendReferenceIdeal.main_arg6))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2)
      ∧ r.2.mem ((c.tc : Thread Cert.ProjReferenceIdeal.nD Cert.ProjReferenceIdeal.τ).loc Cert.ProjReferenceIdeal.main_arg3) = m ((c.tc : Thread Cert.ProjReferenceIdeal.nD Cert.ProjReferenceIdeal.τ).loc Cert.ProjReferenceIdeal.main_arg3)
      ∧ r.2.mem ((c.tc : Thread Cert.ProjReferenceIdeal.nD Cert.ProjReferenceIdeal.τ).loc Cert.ProjReferenceIdeal.main_arg4) = m ((c.tc : Thread Cert.ProjReferenceIdeal.nD Cert.ProjReferenceIdeal.τ).loc Cert.ProjReferenceIdeal.main_arg4)
      ∧ r.2.mem ((c.tc : Thread Cert.ProjReferenceIdeal.nD Cert.ProjReferenceIdeal.τ).loc Cert.ProjReferenceIdeal.main_arg5) = m ((c.tc : Thread Cert.ProjReferenceIdeal.nD Cert.ProjReferenceIdeal.τ).loc Cert.ProjReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v7_1)) (v2 : (c : Dev Cert.KernelIdeal.nD) → Buf (Elt Ideal) ((c.tc : Thread Cert.KernelIdeal.nD Cert.KernelIdeal.τ).loc Cert.KernelIdeal.main_v7_2)) (v3 : (c : Dev Cert.KernelIdeal.nD) → Buf (Elt Ideal) ((c.tc : Thread Cert.KernelIdeal.nD Cert.KernelIdeal.τ).loc Cert.KernelIdeal.main_v7_3)) (v4 : (c : Dev Cert.KernelIdeal.nD) → Buf (Elt Ideal) ((c.tc : Thread Cert.KernelIdeal.nD Cert.KernelIdeal.τ).loc Cert.KernelIdeal.main_v7_4)) (v5 : (c : Dev Cert.KernelIdeal.nD) → Buf (Elt Ideal) ((c.tc : Thread Cert.KernelIdeal.nD Cert.KernelIdeal.τ).loc Cert.KernelIdeal.main_v7_5)) (v6 : (c : Dev Cert.KernelIdeal.nD) → Buf (Elt Ideal) ((c.tc : Thread Cert.KernelIdeal.nD Cert.KernelIdeal.τ).loc Cert.KernelIdeal.main_v7_6)) (v7 : (c : Dev Cert.KernelIdeal.nD) → Buf (Elt Ideal) ((c.tc : Thread Cert.KernelIdeal.nD Cert.KernelIdeal.τ).loc Cert.KernelIdeal.main_v7_7)) (v8 : (c : Dev Cert.KernelIdeal.nD) → Buf (Elt Ideal) ((c.tc : Thread Cert.KernelIdeal.nD Cert.KernelIdeal.τ).loc Cert.KernelIdeal.main_v7_8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v7_1) = v1 c
          ∧ r.2.mem ((c.tc : Thread Cert.KernelIdeal.nD Cert.KernelIdeal.τ).loc Cert.KernelIdeal.main_v7_2) = v2 c
          ∧ r.2.mem ((c.tc : Thread Cert.KernelIdeal.nD Cert.KernelIdeal.τ).loc Cert.KernelIdeal.main_v7_3) = v3 c
          ∧ r.2.mem ((c.tc : Thread Cert.KernelIdeal.nD Cert.KernelIdeal.τ).loc Cert.KernelIdeal.main_v7_4) = v4 c
          ∧ r.2.mem ((c.tc : Thread Cert.KernelIdeal.nD Cert.KernelIdeal.τ).loc Cert.KernelIdeal.main_v7_5) = v5 c
          ∧ r.2.mem ((c.tc : Thread Cert.KernelIdeal.nD Cert.KernelIdeal.τ).loc Cert.KernelIdeal.main_v7_6) = v6 c
          ∧ r.2.mem ((c.tc : Thread Cert.KernelIdeal.nD Cert.KernelIdeal.τ).loc Cert.KernelIdeal.main_v7_7) = v7 c
          ∧ r.2.mem ((c.tc : Thread Cert.KernelIdeal.nD Cert.KernelIdeal.τ).loc Cert.KernelIdeal.main_v7_8) = v8 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_v0_4) = v4 c
          ∧ r.2.mem ((c.tc : Thread Cert.ReferenceIdeal.nD Cert.ReferenceIdeal.τ).loc Cert.ReferenceIdeal.main_v0_5) = v5 c
          ∧ r.2.mem ((c.tc : Thread Cert.ReferenceIdeal.nD Cert.ReferenceIdeal.τ).loc Cert.ReferenceIdeal.main_v0_6) = v6 c
          ∧ r.2.mem ((c.tc : Thread Cert.ReferenceIdeal.nD Cert.ReferenceIdeal.τ).loc Cert.ReferenceIdeal.main_v0_7) = v7 c
          ∧ r.2.mem ((c.tc : Thread Cert.ReferenceIdeal.nD Cert.ReferenceIdeal.τ).loc Cert.ReferenceIdeal.main_v0_8) = v8 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Attend_AttendIdeal : Prop :=
  True

def algebraic_AttendIdeal_AttendReferenceIdeal_pre_spans [hAttendIdeal : Cert.AttendIdeal.Facts] [hAttendReferenceIdeal : Cert.AttendReferenceIdeal.Facts] [hPre_spans : Cert.Pre_spans.Facts] : Prop :=
  ∀ (m : (ℓ : Loc Cert.AttendIdeal.nD Cert.AttendIdeal.τ Cert.AttendIdeal.sig) → Buf (Elt Ideal) ℓ) (g : Dev Cert.AttendIdeal.nD → PrngReg)
    (m' : (ℓ : Loc Cert.AttendReferenceIdeal.nD Cert.AttendReferenceIdeal.τ Cert.AttendReferenceIdeal.sig) → Buf (Elt Ideal) ℓ) (g' : Dev Cert.AttendReferenceIdeal.nD → PrngReg), Pre_AttendIdeal_spans m →
    (∀ c : Dev Cert.AttendIdeal.nD,
      m' ((c.tc : Thread Cert.AttendReferenceIdeal.nD Cert.AttendReferenceIdeal.τ).loc Cert.AttendReferenceIdeal.main_arg0) = m ((c.tc : Thread Cert.AttendIdeal.nD Cert.AttendIdeal.τ).loc Cert.AttendIdeal.main_arg0)
      ∧ m' ((c.tc : Thread Cert.AttendReferenceIdeal.nD Cert.AttendReferenceIdeal.τ).loc Cert.AttendReferenceIdeal.main_arg1) = m ((c.tc : Thread Cert.AttendIdeal.nD Cert.AttendIdeal.τ).loc Cert.AttendIdeal.main_arg1)
      ∧ m' ((c.tc : Thread Cert.AttendReferenceIdeal.nD Cert.AttendReferenceIdeal.τ).loc Cert.AttendReferenceIdeal.main_arg2) = m ((c.tc : Thread Cert.AttendIdeal.nD Cert.AttendIdeal.τ).loc Cert.AttendIdeal.main_arg2)
      ∧ m' ((c.tc : Thread Cert.AttendReferenceIdeal.nD Cert.AttendReferenceIdeal.τ).loc Cert.AttendReferenceIdeal.main_arg3) = m ((c.tc : Thread Cert.AttendIdeal.nD Cert.AttendIdeal.τ).loc Cert.AttendIdeal.main_arg3)
      ∧ m' ((c.tc : Thread Cert.AttendReferenceIdeal.nD Cert.AttendReferenceIdeal.τ).loc Cert.AttendReferenceIdeal.main_arg4) = m ((c.tc : Thread Cert.AttendIdeal.nD Cert.AttendIdeal.τ).loc Cert.AttendIdeal.main_arg4)
      ∧ m' ((c.tc : Thread Cert.AttendReferenceIdeal.nD Cert.AttendReferenceIdeal.τ).loc Cert.AttendReferenceIdeal.main_arg5) = m ((c.tc : Thread Cert.AttendIdeal.nD Cert.AttendIdeal.τ).loc Cert.AttendIdeal.main_arg5)
      ∧ m' ((c.tc : Thread Cert.AttendReferenceIdeal.nD Cert.AttendReferenceIdeal.τ).loc Cert.AttendReferenceIdeal.main_arg6) = m ((c.tc : Thread Cert.AttendIdeal.nD Cert.AttendIdeal.τ).loc Cert.AttendIdeal.main_arg6)) →
    ∃ (v0 : (c : Dev Cert.AttendIdeal.nD) → Buf (Elt Ideal) ((c.tc : Thread Cert.AttendIdeal.nD Cert.AttendIdeal.τ).loc Cert.AttendIdeal.main_v7_0)) (v1 : (c : Dev Cert.AttendIdeal.nD) → Buf (Elt Ideal) ((c.tc : Thread Cert.AttendIdeal.nD Cert.AttendIdeal.τ).loc Cert.AttendIdeal.main_v7_1)) (v2 : (c : Dev Cert.AttendIdeal.nD) → Buf (Elt Ideal) ((c.tc : Thread Cert.AttendIdeal.nD Cert.AttendIdeal.τ).loc Cert.AttendIdeal.main_v7_2)),
      θ_run (Cert.AttendIdeal.defs (F := Ideal)) (onTc (τ := Cert.AttendIdeal.τ) (Cert.AttendIdeal.main (F := Ideal))) ⟨m, fun _ => 0, g⟩ (fun r => ∀ c : Dev Cert.AttendIdeal.nD,
          r.2.mem ((c.tc : Thread Cert.AttendIdeal.nD Cert.AttendIdeal.τ).loc Cert.AttendIdeal.main_v7_0) = v0 c
          ∧ r.2.mem ((c.tc : Thread Cert.AttendIdeal.nD Cert.AttendIdeal.τ).loc Cert.AttendIdeal.main_v7_1) = v1 c
          ∧ r.2.mem ((c.tc : Thread Cert.AttendIdeal.nD Cert.AttendIdeal.τ).loc Cert.AttendIdeal.main_v7_2) = v2 c
          ∧ r.2.mem ((c.tc : Thread Cert.AttendIdeal.nD Cert.AttendIdeal.τ).loc Cert.AttendIdeal.main_arg0) = m ((c.tc : Thread Cert.AttendIdeal.nD Cert.AttendIdeal.τ).loc Cert.AttendIdeal.main_arg0)
          ∧ r.2.mem ((c.tc : Thread Cert.AttendIdeal.nD Cert.AttendIdeal.τ).loc Cert.AttendIdeal.main_arg1) = m ((c.tc : Thread Cert.AttendIdeal.nD Cert.AttendIdeal.τ).loc Cert.AttendIdeal.main_arg1)
          ∧ r.2.mem ((c.tc : Thread Cert.AttendIdeal.nD Cert.AttendIdeal.τ).loc Cert.AttendIdeal.main_arg2) = m ((c.tc : Thread Cert.AttendIdeal.nD Cert.AttendIdeal.τ).loc Cert.AttendIdeal.main_arg2)
          ∧ r.2.mem ((c.tc : Thread Cert.AttendIdeal.nD Cert.AttendIdeal.τ).loc Cert.AttendIdeal.main_arg3) = m ((c.tc : Thread Cert.AttendIdeal.nD Cert.AttendIdeal.τ).loc Cert.AttendIdeal.main_arg3)
          ∧ r.2.mem ((c.tc : Thread Cert.AttendIdeal.nD Cert.AttendIdeal.τ).loc Cert.AttendIdeal.main_arg4) = m ((c.tc : Thread Cert.AttendIdeal.nD Cert.AttendIdeal.τ).loc Cert.AttendIdeal.main_arg4)
          ∧ r.2.mem ((c.tc : Thread Cert.AttendIdeal.nD Cert.AttendIdeal.τ).loc Cert.AttendIdeal.main_arg5) = m ((c.tc : Thread Cert.AttendIdeal.nD Cert.AttendIdeal.τ).loc Cert.AttendIdeal.main_arg5)
          ∧ r.2.mem ((c.tc : Thread Cert.AttendIdeal.nD Cert.AttendIdeal.τ).loc Cert.AttendIdeal.main_arg6) = m ((c.tc : Thread Cert.AttendIdeal.nD Cert.AttendIdeal.τ).loc Cert.AttendIdeal.main_arg6))
      ∧ θ_run (Cert.AttendReferenceIdeal.defs (F := Ideal)) (onTc (τ := Cert.AttendReferenceIdeal.τ) (Cert.AttendReferenceIdeal.main (F := Ideal))) ⟨m', fun _ => 0, g'⟩ (fun r => ∀ c : Dev Cert.AttendReferenceIdeal.nD,
          r.2.mem ((c.tc : Thread Cert.AttendReferenceIdeal.nD Cert.AttendReferenceIdeal.τ).loc Cert.AttendReferenceIdeal.main_v0_0) = v0 c
          ∧ r.2.mem ((c.tc : Thread Cert.AttendReferenceIdeal.nD Cert.AttendReferenceIdeal.τ).loc Cert.AttendReferenceIdeal.main_v0_1) = v1 c
          ∧ r.2.mem ((c.tc : Thread Cert.AttendReferenceIdeal.nD Cert.AttendReferenceIdeal.τ).loc Cert.AttendReferenceIdeal.main_v0_2) = v2 c
          ∧ r.2.mem ((c.tc : Thread Cert.AttendReferenceIdeal.nD Cert.AttendReferenceIdeal.τ).loc Cert.AttendReferenceIdeal.main_arg0) = m' ((c.tc : Thread Cert.AttendReferenceIdeal.nD Cert.AttendReferenceIdeal.τ).loc Cert.AttendReferenceIdeal.main_arg0)
          ∧ r.2.mem ((c.tc : Thread Cert.AttendReferenceIdeal.nD Cert.AttendReferenceIdeal.τ).loc Cert.AttendReferenceIdeal.main_arg1) = m' ((c.tc : Thread Cert.AttendReferenceIdeal.nD Cert.AttendReferenceIdeal.τ).loc Cert.AttendReferenceIdeal.main_arg1)
          ∧ r.2.mem ((c.tc : Thread Cert.AttendReferenceIdeal.nD Cert.AttendReferenceIdeal.τ).loc Cert.AttendReferenceIdeal.main_arg2) = m' ((c.tc : Thread Cert.AttendReferenceIdeal.nD Cert.AttendReferenceIdeal.τ).loc Cert.AttendReferenceIdeal.main_arg2)
          ∧ r.2.mem ((c.tc : Thread Cert.AttendReferenceIdeal.nD Cert.AttendReferenceIdeal.τ).loc Cert.AttendReferenceIdeal.main_arg3) = m' ((c.tc : Thread Cert.AttendReferenceIdeal.nD Cert.AttendReferenceIdeal.τ).loc Cert.AttendReferenceIdeal.main_arg3)
          ∧ r.2.mem ((c.tc : Thread Cert.AttendReferenceIdeal.nD Cert.AttendReferenceIdeal.τ).loc Cert.AttendReferenceIdeal.main_arg4) = m' ((c.tc : Thread Cert.AttendReferenceIdeal.nD Cert.AttendReferenceIdeal.τ).loc Cert.AttendReferenceIdeal.main_arg4)
          ∧ r.2.mem ((c.tc : Thread Cert.AttendReferenceIdeal.nD Cert.AttendReferenceIdeal.τ).loc Cert.AttendReferenceIdeal.main_arg5) = m' ((c.tc : Thread Cert.AttendReferenceIdeal.nD Cert.AttendReferenceIdeal.τ).loc Cert.AttendReferenceIdeal.main_arg5)
          ∧ r.2.mem ((c.tc : Thread Cert.AttendReferenceIdeal.nD Cert.AttendReferenceIdeal.τ).loc Cert.AttendReferenceIdeal.main_arg6) = m' ((c.tc : Thread Cert.AttendReferenceIdeal.nD Cert.AttendReferenceIdeal.τ).loc Cert.AttendReferenceIdeal.main_arg6))

def preserves_Proj_ProjIdeal : Prop :=
  True

def algebraic_ProjIdeal_ProjReferenceIdeal [hProjIdeal : Cert.ProjIdeal.Facts] [hProjReferenceIdeal : Cert.ProjReferenceIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjIdeal m →
    (∀ c : Dev Cert.ProjIdeal.nD,
      m' ((c.tc : Thread Cert.ProjReferenceIdeal.nD Cert.ProjReferenceIdeal.τ).loc Cert.ProjReferenceIdeal.main_arg0) = m ((c.tc : Thread Cert.ProjIdeal.nD Cert.ProjIdeal.τ).loc Cert.ProjIdeal.main_arg0)
      ∧ m' ((c.tc : Thread Cert.ProjReferenceIdeal.nD Cert.ProjReferenceIdeal.τ).loc Cert.ProjReferenceIdeal.main_arg1) = m ((c.tc : Thread Cert.ProjIdeal.nD Cert.ProjIdeal.τ).loc Cert.ProjIdeal.main_arg1)
      ∧ m' ((c.tc : Thread Cert.ProjReferenceIdeal.nD Cert.ProjReferenceIdeal.τ).loc Cert.ProjReferenceIdeal.main_arg2) = m ((c.tc : Thread Cert.ProjIdeal.nD Cert.ProjIdeal.τ).loc Cert.ProjIdeal.main_arg2)
      ∧ m' ((c.tc : Thread Cert.ProjReferenceIdeal.nD Cert.ProjReferenceIdeal.τ).loc Cert.ProjReferenceIdeal.main_arg3) = m ((c.tc : Thread Cert.ProjIdeal.nD Cert.ProjIdeal.τ).loc Cert.ProjIdeal.main_arg3)
      ∧ m' ((c.tc : Thread Cert.ProjReferenceIdeal.nD Cert.ProjReferenceIdeal.τ).loc Cert.ProjReferenceIdeal.main_arg4) = m ((c.tc : Thread Cert.ProjIdeal.nD Cert.ProjIdeal.τ).loc Cert.ProjIdeal.main_arg4)
      ∧ m' ((c.tc : Thread Cert.ProjReferenceIdeal.nD Cert.ProjReferenceIdeal.τ).loc Cert.ProjReferenceIdeal.main_arg5) = m ((c.tc : Thread Cert.ProjIdeal.nD Cert.ProjIdeal.τ).loc Cert.ProjIdeal.main_arg5)) →
    ∃ (v0 : (c : Dev Cert.ProjIdeal.nD) → Buf (Elt Ideal) ((c.tc : Thread Cert.ProjIdeal.nD Cert.ProjIdeal.τ).loc Cert.ProjIdeal.main_v3)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v3) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
          ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v0) = v0 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2)
          ∧ r.2.mem ((c.tc : Thread Cert.ProjReferenceIdeal.nD Cert.ProjReferenceIdeal.τ).loc Cert.ProjReferenceIdeal.main_arg3) = m' ((c.tc : Thread Cert.ProjReferenceIdeal.nD Cert.ProjReferenceIdeal.τ).loc Cert.ProjReferenceIdeal.main_arg3)
          ∧ r.2.mem ((c.tc : Thread Cert.ProjReferenceIdeal.nD Cert.ProjReferenceIdeal.τ).loc Cert.ProjReferenceIdeal.main_arg4) = m' ((c.tc : Thread Cert.ProjReferenceIdeal.nD Cert.ProjReferenceIdeal.τ).loc Cert.ProjReferenceIdeal.main_arg4)
          ∧ r.2.mem ((c.tc : Thread Cert.ProjReferenceIdeal.nD Cert.ProjReferenceIdeal.τ).loc Cert.ProjReferenceIdeal.main_arg5) = m' ((c.tc : Thread Cert.ProjReferenceIdeal.nD Cert.ProjReferenceIdeal.τ).loc Cert.ProjReferenceIdeal.main_arg5))

def Claim : Prop :=
  ∃ (hKernel : Cert.Kernel.Facts) (hKernelIdeal : Cert.KernelIdeal.Facts) (hReferenceIdeal : Cert.ReferenceIdeal.Facts) (hAttend : Cert.Attend.Facts) (hAttendIdeal : Cert.AttendIdeal.Facts) (hAttendReferenceIdeal : Cert.AttendReferenceIdeal.Facts) (hProj : Cert.Proj.Facts) (hProjIdeal : Cert.ProjIdeal.Facts) (hProjReferenceIdeal : Cert.ProjReferenceIdeal.Facts) (hPre_spans : Cert.Pre_spans.Facts),
    quiescent_Kernel (hKernel := hKernel)
    ∧ quiescent_KernelIdeal (hKernelIdeal := hKernelIdeal)
    ∧ quiescent_ReferenceIdeal (hReferenceIdeal := hReferenceIdeal)
    ∧ quiescent_Attend (hAttend := hAttend)
    ∧ quiescent_AttendIdeal (hAttendIdeal := hAttendIdeal)
    ∧ quiescent_AttendIdeal_pre_spans (hAttendIdeal := hAttendIdeal) (hPre_spans := hPre_spans)
    ∧ quiescent_AttendReferenceIdeal (hAttendReferenceIdeal := hAttendReferenceIdeal)
    ∧ quiescent_AttendReferenceIdeal_pre_spans (hAttendReferenceIdeal := hAttendReferenceIdeal) (hPre_spans := hPre_spans)
    ∧ quiescent_Proj (hProj := hProj)
    ∧ quiescent_ProjIdeal (hProjIdeal := hProjIdeal)
    ∧ quiescent_ProjReferenceIdeal (hProjReferenceIdeal := hProjReferenceIdeal)
    ∧ preserves_Kernel_KernelIdeal
    ∧ algebraic_KernelIdeal_ReferenceIdeal (hKernelIdeal := hKernelIdeal) (hReferenceIdeal := hReferenceIdeal)
    ∧ preserves_Attend_AttendIdeal
    ∧ algebraic_AttendIdeal_AttendReferenceIdeal_pre_spans (hAttendIdeal := hAttendIdeal) (hAttendReferenceIdeal := hAttendReferenceIdeal) (hPre_spans := hPre_spans)
    ∧ preserves_Proj_ProjIdeal
    ∧ algebraic_ProjIdeal_ProjReferenceIdeal (hProjIdeal := hProjIdeal) (hProjReferenceIdeal := hProjReferenceIdeal)
-- ==== Pre_spans.lean ====
abbrev S1024x13056 : Shape := ⟨2, ![1024, 13056]⟩
abbrev S6x4x3456x128 : Shape := ⟨4, ![6, 4, 3456, 128]⟩
abbrev S6x4x128x3456 : Shape := ⟨4, ![6, 4, 128, 3456]⟩
abbrev S6x4x3456 : Shape := ⟨3, ![6, 4, 3456]⟩
abbrev S6 : Shape := ⟨1, ![6]⟩
abbrev S6x2176 : Shape := ⟨2, ![6, 2176]⟩
abbrev S2176 : Shape := ⟨1, ![2176]⟩
abbrev S1x2176 : Shape := ⟨2, ![1, 2176]⟩
abbrev S_ : Shape := ⟨0, ![]⟩

class Facts : Prop where
  bcast_S2176_S1x2176_1 : S2176.BroadcastsInDim S1x2176 (![1] : Fin 1 → Fin S1x2176.rank)
  bcast_S_S1x2176 : S_.BroadcastsInDim S1x2176 (![] : Fin 0 → Fin S1x2176.rank)
  bcast_S1x2176_S6x2176_0_1 : S1x2176.BroadcastsInDim S6x2176 (![0, 1] : Fin 2 → Fin S6x2176.rank)
  reducesTo_S6x2176_S_d0_1 : S6x2176.ReducesTo [0, 1] S_
  h_S_ : 0 < S_.numel

variable [Facts]

def fn {F : FTy → Type} [FloatOps F] (main_arg0 : FVec F S1024x13056 .bf16) (main_arg1 : FVec F S6x4x3456x128 .bf16) (main_arg2 : FVec F S6x4x128x3456 .bf16) (main_arg3 : FVec F S6x4x3456 .f32) (main_arg4 : FVec F S6x4x3456 .f32) (main_arg5 : IVec S6 32) (main_arg6 : IVec S6x2176 32) : IVec S_ 1 :=
  let main_v0 : IVec S2176 32 := iotaInDim S2176 32 0
  let main_v1 : IVec S1x2176 32 := broadcastInDim S1x2176 ![1] bcast_S2176_S1x2176_1 main_v0
  let main_c : IVec S_ 32 := constantI S_ 32 256#32
  let main_v2 : IVec S1x2176 32 := broadcastInDim S1x2176 ![] bcast_S_S1x2176 main_c
  let main_v3 : IVec S1x2176 32 := addi main_v1 main_v2
  let main_v4 : IVec S6x2176 32 := broadcastInDim S6x2176 ![0, 1] bcast_S1x2176_S6x2176_0_1 main_v3
  let main_v5 : IVec S6x2176 1 := cmpi .sle main_arg6 main_v4
  let main_c_0 : IVec S_ 1 := constantI S_ 1 1#1
  let main_v6 : IVec S_ 1 := (fun x v => Host.reduce IntOp.andi x v reducesTo_S6x2176_S_d0_1 h_S_) main_v5 main_c_0
  main_v6
-- ==== Kernel.lean ====
abbrev S6x2176x5376 : Shape := ⟨3, ![6, 2176, 5376]⟩
abbrev S5376 : Shape := ⟨1, ![5376]⟩
abbrev S5376x2048 : Shape := ⟨2, ![5376, 2048]⟩
abbrev S2048 : Shape := ⟨1, ![2048]⟩
abbrev S128 : Shape := ⟨1, ![128]⟩
abbrev S6x2176x64 : Shape := ⟨3, ![6, 2176, 64]⟩
abbrev S13056x5376 : Shape := ⟨2, ![13056, 5376]⟩
abbrev S6x64x2176 : Shape := ⟨3, ![6, 64, 2176]⟩
abbrev S1x5376 : Shape := ⟨2, ![1, 5376]⟩
abbrev S1x2048 : Shape := ⟨2, ![1, 2048]⟩
abbrev S128x1 : Shape := ⟨2, ![128, 1]⟩
abbrev S102x1x128 : Shape := ⟨3, ![102, 1, 128]⟩
abbrev S1024x13056 : Shape := ⟨2, ![1024, 13056]⟩
abbrev S4x13056x128 : Shape := ⟨3, ![4, 13056, 128]⟩
abbrev S4x128x13056 : Shape := ⟨3, ![4, 128, 13056]⟩
abbrev S13056x4x128 : Shape := ⟨3, ![13056, 4, 128]⟩
abbrev S102x4x128 : Shape := ⟨3, ![102, 4, 128]⟩
abbrev S256x5376 : Shape := ⟨2, ![256, 5376]⟩
abbrev S1x64x128 : Shape := ⟨3, ![1, 64, 128]⟩
abbrev S2x1x128 : Shape := ⟨3, ![2, 1, 128]⟩
abbrev S1024x256 : Shape := ⟨2, ![1024, 256]⟩
abbrev S4x256x128 : Shape := ⟨3, ![4, 256, 128]⟩
abbrev S4x128x256 : Shape := ⟨3, ![4, 128, 256]⟩
abbrev S256x4x128 : Shape := ⟨3, ![256, 4, 128]⟩
abbrev S2x4x128 : Shape := ⟨3, ![2, 4, 128]⟩
abbrev S256x2048 : Shape := ⟨2, ![256, 2048]⟩
abbrev S256 : Shape := ⟨1, ![256]⟩
abbrev S256x1 : Shape := ⟨2, ![256, 1]⟩
abbrev S256x128 : Shape := ⟨2, ![256, 128]⟩
abbrev S128x256 : Shape := ⟨2, ![128, 256]⟩
abbrev S1x256 : Shape := ⟨2, ![1, 256]⟩
abbrev S1x128 : Shape := ⟨2, ![1, 128]⟩
abbrev S1x1x128 : Shape := ⟨3, ![1, 1, 128]⟩
abbrev S64x128 : Shape := ⟨2, ![64, 128]⟩
abbrev S128x128 : Shape := ⟨2, ![128, 128]⟩
abbrev S1x128x128 : Shape := ⟨3, ![1, 128, 128]⟩
abbrev S128x1x128 : Shape := ⟨3, ![128, 1, 128]⟩
abbrev S128x4x128 : Shape := ⟨3, ![128, 4, 128]⟩

abbrev nBuf : Space → Nat
  | .hbm => 24
  | .vmem => 34
  | .smem => 0
  | _ => 0

abbrev bufTy : (tb : Table) → Fin (tcTables nBuf tb) → BufTy
  | .hbm, ⟨0, _⟩ => ⟨S6x2176x5376, .bf16⟩
  | .hbm, ⟨1, _⟩ => ⟨S5376, .f32⟩
  | .hbm, ⟨2, _⟩ => ⟨S5376x2048, .fp8e4m3⟩
  | .hbm, ⟨3, _⟩ => ⟨S2048, .f32⟩
  | .hbm, ⟨4, _⟩ => ⟨S128, .f32⟩
  | .hbm, ⟨5, _⟩ => ⟨S128, .f32⟩
  | .hbm, ⟨6, _⟩ => ⟨S6x2176x64, .f32⟩
  | .hbm, ⟨7, _⟩ => ⟨S6x2176x64, .f32⟩
  | .hbm, ⟨8, _⟩ => ⟨S13056x5376, .bf16⟩
  | .hbm, ⟨9, _⟩ => ⟨S6x64x2176, .f32⟩
  | .hbm, ⟨10, _⟩ => ⟨S6x64x2176, .f32⟩
  | .hbm, ⟨11, _⟩ => ⟨S1x5376, .f32⟩
  | .hbm, ⟨12, _⟩ => ⟨S1x2048, .f32⟩
  | .hbm, ⟨13, _⟩ => ⟨S128x1, .f32⟩
  | .hbm, ⟨14, _⟩ => ⟨S128x1, .f32⟩
  | .hbm, ⟨15, _⟩ => ⟨S13056x5376, .fp8e4m3⟩
  | .hbm, ⟨16, _⟩ => ⟨S102x1x128, .f32⟩
  | .hbm, ⟨17, _⟩ => ⟨S1024x13056, .bf16⟩
  | .hbm, ⟨18, _⟩ => ⟨S4x13056x128, .bf16⟩
  | .hbm, ⟨19, _⟩ => ⟨S4x128x13056, .bf16⟩
  | .hbm, ⟨20, _⟩ => ⟨S13056x4x128, .fp8e4m3⟩
  | .hbm, ⟨21, _⟩ => ⟨S102x4x128, .f32⟩
  | .hbm, ⟨22, _⟩ => ⟨S13056x4x128, .fp8e4m3⟩
  | .hbm, ⟨23, _⟩ => ⟨S102x4x128, .f32⟩
  | .local _ .vmem, ⟨0, _⟩ => ⟨S256x5376, .bf16⟩
  | .local _ .vmem, ⟨1, _⟩ => ⟨S256x5376, .bf16⟩
  | .local _ .vmem, ⟨2, _⟩ => ⟨S1x5376, .f32⟩
  | .local _ .vmem, ⟨3, _⟩ => ⟨S5376x2048, .fp8e4m3⟩
  | .local _ .vmem, ⟨4, _⟩ => ⟨S1x2048, .f32⟩
  | .local _ .vmem, ⟨5, _⟩ => ⟨S128x1, .f32⟩
  | .local _ .vmem, ⟨6, _⟩ => ⟨S128x1, .f32⟩
  | .local _ .vmem, ⟨7, _⟩ => ⟨S1x64x128, .f32⟩
  | .local _ .vmem, ⟨8, _⟩ => ⟨S1x64x128, .f32⟩
  | .local _ .vmem, ⟨9, _⟩ => ⟨S1x64x128, .f32⟩
  | .local _ .vmem, ⟨10, _⟩ => ⟨S1x64x128, .f32⟩
  | .local _ .vmem, ⟨11, _⟩ => ⟨S1x64x128, .f32⟩
  | .local _ .vmem, ⟨12, _⟩ => ⟨S1x64x128, .f32⟩
  | .local _ .vmem, ⟨13, _⟩ => ⟨S1x64x128, .f32⟩
  | .local _ .vmem, ⟨14, _⟩ => ⟨S1x64x128, .f32⟩
  | .local _ .vmem, ⟨15, _⟩ => ⟨S256x5376, .fp8e4m3⟩
  | .local _ .vmem, ⟨16, _⟩ => ⟨S256x5376, .fp8e4m3⟩
  | .local _ .vmem, ⟨17, _⟩ => ⟨S2x1x128, .f32⟩
  | .local _ .vmem, ⟨18, _⟩ => ⟨S2x1x128, .f32⟩
  | .local _ .vmem, ⟨19, _⟩ => ⟨S1024x256, .bf16⟩
  | .local _ .vmem, ⟨20, _⟩ => ⟨S1024x256, .bf16⟩
  | .local _ .vmem, ⟨21, _⟩ => ⟨S4x256x128, .bf16⟩
  | .local _ .vmem, ⟨22, _⟩ => ⟨S4x256x128, .bf16⟩
  | .local _ .vmem, ⟨23, _⟩ => ⟨S4x128x256, .bf16⟩
  | .local _ .vmem, ⟨24, _⟩ => ⟨S4x128x256, .bf16⟩
  | .local _ .vmem, ⟨25, _⟩ => ⟨S256x4x128, .fp8e4m3⟩
  | .local _ .vmem, ⟨26, _⟩ => ⟨S256x4x128, .fp8e4m3⟩
  | .local _ .vmem, ⟨27, _⟩ => ⟨S2x4x128, .f32⟩
  | .local _ .vmem, ⟨28, _⟩ => ⟨S2x4x128, .f32⟩
  | .local _ .vmem, ⟨29, _⟩ => ⟨S256x4x128, .fp8e4m3⟩
  | .local _ .vmem, ⟨30, _⟩ => ⟨S256x4x128, .fp8e4m3⟩
  | .local _ .vmem, ⟨31, _⟩ => ⟨S2x4x128, .f32⟩
  | .local _ .vmem, ⟨32, _⟩ => ⟨S2x4x128, .f32⟩
  | .local _ .vmem, ⟨33, _⟩ => ⟨S256x2048, .f32⟩
  | _, _ => ⟨S6x2176x5376, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev main_v7_2 : Ref sig .tc := ⟨.hbm, 17, rfl⟩
abbrev main_v7_3 : Ref sig .tc := ⟨.hbm, 18, rfl⟩
abbrev main_v7_4 : Ref sig .tc := ⟨.hbm, 19, rfl⟩
abbrev main_v7_5 : Ref sig .tc := ⟨.hbm, 20, rfl⟩
abbrev main_v7_6 : Ref sig .tc := ⟨.hbm, 21, rfl⟩
abbrev main_v7_7 : Ref sig .tc := ⟨.hbm, 22, rfl⟩
abbrev main_v7_8 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_stg17_1 : Ref sig .tc := ⟨.vmem, 30, rfl⟩
abbrev cc0_stg18_0 : Ref sig .tc := ⟨.vmem, 31, rfl⟩
abbrev cc0_stg18_1 : Ref sig .tc := ⟨.vmem, 32, rfl⟩
abbrev cc0_scratch0 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28
abbrev cc0_sem17_0 : DmaSem sig := 29
abbrev cc0_sem17_1 : DmaSem sig := 30
abbrev cc0_sem18_0 : DmaSem sig := 31
abbrev cc0_sem18_1 : DmaSem sig := 32

abbrev nD : Nat := 1
abbrev τ : Topo := Topo.v7x

variable {F : FTy → Type} [FloatOps F]

abbrev grid0 : Pipeline.Grid := ⟨1, ![51], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c2_i32 : BitVec 32 := 2#32
  let v0 : BitVec 32 := Scalar.muli c2_i32 arg0
  let c0_i32 : BitVec 32 := 0#32
  let v1 : BitVec 32 := Scalar.addi v0 c0_i32
  let c17_i32 : BitVec 32 := 17#32
  let v2 : BitVec 32 := Scalar.divsi v1 c17_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c17_i32 c0_i32_2
  let v9 : BitVec 32 := Scalar.extui v8
  let c0_i32_3 : BitVec 32 := 0#32
  let v10 : BitVec 1 := Scalar.cmpi .slt c17_i32 c0_i32_3
  let v11 : BitVec 32 := Scalar.extui v10
  let v12 : BitVec 32 := Scalar.subi v9 v11
  let v13 : BitVec 1 := Scalar.cmpi .ne v7 v12
  let v14 : BitVec 32 := Scalar.remsi v1 c17_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c2_i32_5 : BitVec 32 := 2#32
  let v19 : BitVec 32 := Scalar.muli c2_i32_5 arg0
  let c0_i32_6 : BitVec 32 := 0#32
  let v20 : BitVec 32 := Scalar.addi v19 c0_i32_6
  let c17_i32_7 : BitVec 32 := 17#32
  let c0_i32_8 : BitVec 32 := 0#32
  let v21 : BitVec 1 := Scalar.cmpi .eq c17_i32_7 c0_i32_8
  let c1_i32_9 : BitVec 32 := 1#32
  let v22 : BitVec 32 := Scalar.select v21 c1_i32_9 c17_i32_7
  let v23 : BitVec 32 := Scalar.remsi v20 v22
  let c0_i32_10 : BitVec 32 := 0#32
  let v24 : BitVec 1 := Scalar.cmpi .ne v23 c0_i32_10
  let c0_i32_11 : BitVec 32 := 0#32
  let v25 : BitVec 1 := Scalar.cmpi .slt v23 c0_i32_11
  let c0_i32_12 : BitVec 32 := 0#32
  let v26 : BitVec 1 := Scalar.cmpi .slt v22 c0_i32_12
  let v27 : BitVec 1 := Scalar.xori v25 v26
  let v28 : BitVec 1 := Scalar.andi v27 v24
  let v29 : BitVec 32 := Scalar.addi v23 v22
  let v30 : BitVec 32 := Scalar.select v28 v29 v23
  let c0_i32_13 : BitVec 32 := 0#32
  let c0_i32_14 : BitVec 32 := 0#32
  ![v18.toNat, c0_i32_13.toNat, v30.toNat]

def cc0_transform_7 (i : grid0.Coords) : Fin 3 → Nat :=
  let arg0 : BitVec 32 := BitVec.ofNat 32 (i 0).val
  let c2_i32 : BitVec 32 := 2#32
  let v0 : BitVec 32 := Scalar.muli c2_i32 arg0
  let c0_i32 : BitVec 32 := 0#32
  let v1 : BitVec 32 := Scalar.addi v0 c0_i32
  let c17_i32 : BitVec 32 := 17#32
  let v2 : BitVec 32 := Scalar.divsi v1 c17_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c17_i32 c0_i32_2
  let v9 : BitVec 32 := Scalar.extui v8
  let c0_i32_3 : BitVec 32 := 0#32
  let v10 : BitVec 1 := Scalar.cmpi .slt c17_i32 c0_i32_3
  let v11 : BitVec 32 := Scalar.extui v10
  let v12 : BitVec 32 := Scalar.subi v9 v11
  let v13 : BitVec 1 := Scalar.cmpi .ne v7 v12
  let v14 : BitVec 32 := Scalar.remsi v1 c17_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c2_i32_5 : BitVec 32 := 2#32
  let v19 : BitVec 32 := Scalar.muli c2_i32_5 arg0
  let c0_i32_6 : BitVec 32 := 0#32
  let v20 : BitVec 32 := Scalar.addi v19 c0_i32_6
  let c17_i32_7 : BitVec 32 := 17#32
  let c0_i32_8 : BitVec 32 := 0#32
  let v21 : BitVec 1 := Scalar.cmpi .eq c17_i32_7 c0_i32_8
  let c1_i32_9 : BitVec 32 := 1#32
  let v22 : BitVec 32 := Scalar.select v21 c1_i32_9 c17_i32_7
  let v23 : BitVec 32 := Scalar.remsi v20 v22
  let c0_i32_10 : BitVec 32 := 0#32
  let v24 : BitVec 1 := Scalar.cmpi .ne v23 c0_i32_10
  let c0_i32_11 : BitVec 32 := 0#32
  let v25 : BitVec 1 := Scalar.cmpi .slt v23 c0_i32_11
  let c0_i32_12 : BitVec 32 := 0#32
  let v26 : BitVec 1 := Scalar.cmpi .slt v22 c0_i32_12
  let v27 : BitVec 1 := Scalar.xori v25 v26
  let v28 : BitVec 1 := Scalar.andi v27 v24
  let v29 : BitVec 32 := Scalar.addi v23 v22
  let v30 : BitVec 32 := Scalar.select v28 v29 v23
  let c0_i32_13 : BitVec 32 := 0#32
  let c0_i32_14 : BitVec 32 := 0#32
  ![v18.toNat, c0_i32_13.toNat, v30.toNat]

def cc0_transform_8 (i : grid0.Coords) : Fin 3 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c17_i32 : BitVec 32 := 17#32
  let v2 : BitVec 32 := Scalar.divsi v1 c17_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c17_i32 c0_i32_1
  let v9 : BitVec 32 := Scalar.extui v8
  let c0_i32_2 : BitVec 32 := 0#32
  let v10 : BitVec 1 := Scalar.cmpi .slt c17_i32 c0_i32_2
  let v11 : BitVec 32 := Scalar.extui v10
  let v12 : BitVec 32 := Scalar.subi v9 v11
  let v13 : BitVec 1 := Scalar.cmpi .ne v7 v12
  let v14 : BitVec 32 := Scalar.remsi v1 c17_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c2_i32_5 : BitVec 32 := 2#32
  let v19 : BitVec 32 := Scalar.muli c2_i32_5 arg0
  let c1_i32_6 : BitVec 32 := 1#32
  let v20 : BitVec 32 := Scalar.addi v19 c1_i32_6
  let c17_i32_7 : BitVec 32 := 17#32
  let c0_i32_8 : BitVec 32 := 0#32
  let v21 : BitVec 1 := Scalar.cmpi .eq c17_i32_7 c0_i32_8
  let c1_i32_9 : BitVec 32 := 1#32
  let v22 : BitVec 32 := Scalar.select v21 c1_i32_9 c17_i32_7
  let v23 : BitVec 32 := Scalar.remsi v20 v22
  let c0_i32_10 : BitVec 32 := 0#32
  let v24 : BitVec 1 := Scalar.cmpi .ne v23 c0_i32_10
  let c0_i32_11 : BitVec 32 := 0#32
  let v25 : BitVec 1 := Scalar.cmpi .slt v23 c0_i32_11
  let c0_i32_12 : BitVec 32 := 0#32
  let v26 : BitVec 1 := Scalar.cmpi .slt v22 c0_i32_12
  let v27 : BitVec 1 := Scalar.xori v25 v26
  let v28 : BitVec 1 := Scalar.andi v27 v24
  let v29 : BitVec 32 := Scalar.addi v23 v22
  let v30 : BitVec 32 := Scalar.select v28 v29 v23
  let c0_i32_13 : BitVec 32 := 0#32
  let c0_i32_14 : BitVec 32 := 0#32
  ![v18.toNat, c0_i32_13.toNat, v30.toNat]

def cc0_transform_9 (i : grid0.Coords) : Fin 3 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c17_i32 : BitVec 32 := 17#32
  let v2 : BitVec 32 := Scalar.divsi v1 c17_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c17_i32 c0_i32_1
  let v9 : BitVec 32 := Scalar.extui v8
  let c0_i32_2 : BitVec 32 := 0#32
  let v10 : BitVec 1 := Scalar.cmpi .slt c17_i32 c0_i32_2
  let v11 : BitVec 32 := Scalar.extui v10
  let v12 : BitVec 32 := Scalar.subi v9 v11
  let v13 : BitVec 1 := Scalar.cmpi .ne v7 v12
  let v14 : BitVec 32 := Scalar.remsi v1 c17_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c2_i32_5 : BitVec 32 := 2#32
  let v19 : BitVec 32 := Scalar.muli c2_i32_5 arg0
  let c1_i32_6 : BitVec 32 := 1#32
  let v20 : BitVec 32 := Scalar.addi v19 c1_i32_6
  let c17_i32_7 : BitVec 32 := 17#32
  let c0_i32_8 : BitVec 32 := 0#32
  let v21 : BitVec 1 := Scalar.cmpi .eq c17_i32_7 c0_i32_8
  let c1_i32_9 : BitVec 32 := 1#32
  let v22 : BitVec 32 := Scalar.select v21 c1_i32_9 c17_i32_7
  let v23 : BitVec 32 := Scalar.remsi v20 v22
  let c0_i32_10 : BitVec 32 := 0#32
  let v24 : BitVec 1 := Scalar.cmpi .ne v23 c0_i32_10
  let c0_i32_11 : BitVec 32 := 0#32
  let v25 : BitVec 1 := Scalar.cmpi .slt v23 c0_i32_11
  let c0_i32_12 : BitVec 32 := 0#32
  let v26 : BitVec 1 := Scalar.cmpi .slt v22 c0_i32_12
  let v27 : BitVec 1 := Scalar.xori v25 v26
  let v28 : BitVec 1 := Scalar.andi v27 v24
  let v29 : BitVec 32 := Scalar.addi v23 v22
  let v30 : BitVec 32 := Scalar.select v28 v29 v23
  let c0_i32_13 : BitVec 32 := 0#32
  let c0_i32_14 : BitVec 32 := 0#32
  ![v18.toNat, c0_i32_13.toNat, v30.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x5376 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x5376 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S5376x2048 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x64x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x64x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x64x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x64x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x5376 .fp8e4m3 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S2x1x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S4x256x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S4x128x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x4x128 .fp8e4m3 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S2x4x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x4x128 .fp8e4m3 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S2x4x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== ReferenceIdeal.lean ====
abbrev S6x2176x5376 : Shape := ⟨3, ![6, 2176, 5376]⟩
abbrev S5376 : Shape := ⟨1, ![5376]⟩
abbrev S5376x2048 : Shape := ⟨2, ![5376, 2048]⟩
abbrev S2048 : Shape := ⟨1, ![2048]⟩
abbrev S128 : Shape := ⟨1, ![128]⟩
abbrev S6x2176x64 : Shape := ⟨3, ![6, 2176, 64]⟩
abbrev S13056x5376 : Shape := ⟨2, ![13056, 5376]⟩
abbrev S102x1x128 : Shape := ⟨3, ![102, 1, 128]⟩
abbrev S1024x13056 : Shape := ⟨2, ![1024, 13056]⟩
abbrev S4x13056x128 : Shape := ⟨3, ![4, 13056, 128]⟩
abbrev S4x128x13056 : Shape := ⟨3, ![4, 128, 13056]⟩
abbrev S13056x4x128 : Shape := ⟨3, ![13056, 4, 128]⟩
abbrev S102x4x128 : Shape := ⟨3, ![102, 4, 128]⟩
abbrev S13056 : Shape := ⟨1, ![13056]⟩
abbrev S13056x1 : Shape := ⟨2, ![13056, 1]⟩
abbrev S1x5376 : Shape := ⟨2, ![1, 5376]⟩
abbrev S102x128x1 : Shape := ⟨3, ![102, 128, 1]⟩
abbrev S13056x2048 : Shape := ⟨2, ![13056, 2048]⟩
abbrev S1x2048 : Shape := ⟨2, ![1, 2048]⟩
abbrev S13056x1024 : Shape := ⟨2, ![13056, 1024]⟩
abbrev S13056x8x128 : Shape := ⟨3, ![13056, 8, 128]⟩
abbrev S13056x512 : Shape := ⟨2, ![13056, 512]⟩
abbrev S13056x64 : Shape := ⟨2, ![13056, 64]⟩
abbrev S13056x8 : Shape := ⟨2, ![13056, 8]⟩
abbrev S13056x8x1 : Shape := ⟨3, ![13056, 8, 1]⟩
abbrev S1x1x128 : Shape := ⟨3, ![1, 1, 128]⟩
abbrev S13056x8x64 : Shape := ⟨3, ![13056, 8, 64]⟩
abbrev S13056x1x64 : Shape := ⟨3, ![13056, 1, 64]⟩
abbrev S13056x4 : Shape := ⟨2, ![13056, 4]⟩
abbrev S13056x4x1 : Shape := ⟨3, ![13056, 4, 1]⟩
abbrev S13056x4x64 : Shape := ⟨3, ![13056, 4, 64]⟩
abbrev S102x128x4 : Shape := ⟨3, ![102, 128, 4]⟩

abbrev nBuf : Space → Nat
  | .hbm => 17
  | .vmem => 17
  | .smem => 0
  | _ => 0

abbrev bufTy : (tb : Table) → Fin (tcTables nBuf tb) → BufTy
  | .hbm, ⟨0, _⟩ => ⟨S6x2176x5376, .bf16⟩
  | .hbm, ⟨1, _⟩ => ⟨S5376, .f32⟩
  | .hbm, ⟨2, _⟩ => ⟨S5376x2048, .fp8e4m3⟩
  | .hbm, ⟨3, _⟩ => ⟨S2048, .f32⟩
  | .hbm, ⟨4, _⟩ => ⟨S128, .f32⟩
  | .hbm, ⟨5, _⟩ => ⟨S128, .f32⟩
  | .hbm, ⟨6, _⟩ => ⟨S6x2176x64, .f32⟩
  | .hbm, ⟨7, _⟩ => ⟨S6x2176x64, .f32⟩
  | .hbm, ⟨8, _⟩ => ⟨S13056x5376, .fp8e4m3⟩
  | .hbm, ⟨9, _⟩ => ⟨S102x1x128, .f32⟩
  | .hbm, ⟨10, _⟩ => ⟨S1024x13056, .bf16⟩
  | .hbm, ⟨11, _⟩ => ⟨S4x13056x128, .bf16⟩
  | .hbm, ⟨12, _⟩ => ⟨S4x128x13056, .bf16⟩
  | .hbm, ⟨13, _⟩ => ⟨S13056x4x128, .fp8e4m3⟩
  | .hbm, ⟨14, _⟩ => ⟨S102x4x128, .f32⟩
  | .hbm, ⟨15, _⟩ => ⟨S13056x4x128, .fp8e4m3⟩
  | .hbm, ⟨16, _⟩ => ⟨S102x4x128, .f32⟩
  | .local _ .vmem, ⟨0, _⟩ => ⟨S6x2176x5376, .bf16⟩
  | .local _ .vmem, ⟨1, _⟩ => ⟨S5376, .f32⟩
  | .local _ .vmem, ⟨2, _⟩ => ⟨S5376x2048, .fp8e4m3⟩
  | .local _ .vmem, ⟨3, _⟩ => ⟨S2048, .f32⟩
  | .local _ .vmem, ⟨4, _⟩ => ⟨S128, .f32⟩
  | .local _ .vmem, ⟨5, _⟩ => ⟨S128, .f32⟩
  | .local _ .vmem, ⟨6, _⟩ => ⟨S6x2176x64, .f32⟩
  | .local _ .vmem, ⟨7, _⟩ => ⟨S6x2176x64, .f32⟩
  | .local _ .vmem, ⟨8, _⟩ => ⟨S13056x5376, .fp8e4m3⟩
  | .local _ .vmem, ⟨9, _⟩ => ⟨S102x1x128, .f32⟩
  | .local _ .vmem, ⟨10, _⟩ => ⟨S1024x13056, .bf16⟩
  | .local _ .vmem, ⟨11, _⟩ => ⟨S4x13056x128, .bf16⟩
  | .local _ .vmem, ⟨12, _⟩ => ⟨S4x128x13056, .bf16⟩
  | .local _ .vmem, ⟨13, _⟩ => ⟨S13056x4x128, .fp8e4m3⟩
  | .local _ .vmem, ⟨14, _⟩ => ⟨S102x4x128, .f32⟩
  | .local _ .vmem, ⟨15, _⟩ => ⟨S13056x4x128, .fp8e4m3⟩
  | .local _ .vmem, ⟨16, _⟩ => ⟨S102x4x128, .f32⟩
  | _, _ => ⟨S6x2176x5376, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev main_v0_6 : Ref sig .tc := ⟨.hbm, 14, rfl⟩
abbrev main_v0_7 : Ref sig .tc := ⟨.hbm, 15, rfl⟩
abbrev main_v0_8 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16

abbrev nD : Nat := 1
abbrev τ : Topo := Topo.v7x

variable {F : FTy → Type} [FloatOps F]

abbrev grid0 : Pipeline.Grid := .none

abbrev stage0_0 : Fin 1 → Memref sig .tc .vmem S6x2176x5376 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S5376 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S5376x2048 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S6x2176x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S6x2176x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S13056x5376 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S102x1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1024x13056 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S4x13056x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S4x128x13056 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S13056x4x128 .fp8e4m3 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S102x4x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S13056x4x128 .fp8e4m3 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S102x4x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
-- ==== Attend.lean ====
abbrev S1024x13056 : Shape := ⟨2, ![1024, 13056]⟩
abbrev S6x4x3456x128 : Shape := ⟨4, ![6, 4, 3456, 128]⟩
abbrev S6x4x128x3456 : Shape := ⟨4, ![6, 4, 128, 3456]⟩
abbrev S6x4x3456 : Shape := ⟨3, ![6, 4, 3456]⟩
abbrev S6 : Shape := ⟨1, ![6]⟩
abbrev S6x2176 : Shape := ⟨2, ![6, 2176]⟩
abbrev S102x1x128 : Shape := ⟨3, ![102, 1, 128]⟩
abbrev S_ : Shape := ⟨0, ![]⟩
abbrev S6x4x3456x1 : Shape := ⟨4, ![6, 4, 3456, 1]⟩
abbrev S13056x1024 : Shape := ⟨2, ![13056, 1024]⟩
abbrev S1024x128 : Shape := ⟨2, ![1024, 128]⟩
abbrev S1x1x128 : Shape := ⟨3, ![1, 1, 128]⟩
abbrev S1x4x3456x128 : Shape := ⟨4, ![1, 4, 3456, 128]⟩
abbrev S1x4x128x3456 : Shape := ⟨4, ![1, 4, 128, 3456]⟩
abbrev S128x1024 : Shape := ⟨2, ![128, 1024]⟩
abbrev S1408x256 : Shape := ⟨2, ![1408, 256]⟩
abbrev S1 : Shape := ⟨1, ![1]⟩
abbrev S1x128 : Shape := ⟨2, ![1, 128]⟩
abbrev S1x256 : Shape := ⟨2, ![1, 256]⟩
abbrev S128x256 : Shape := ⟨2, ![128, 256]⟩
abbrev S128x128 : Shape := ⟨2, ![128, 128]⟩
abbrev S1x1x128x128 : Shape := ⟨4, ![1, 1, 128, 128]⟩
abbrev S16x8x256 : Shape := ⟨3, ![16, 8, 256]⟩
abbrev S8x256 : Shape := ⟨2, ![8, 256]⟩
abbrev S256 : Shape := ⟨1, ![256]⟩
abbrev S128 : Shape := ⟨1, ![128]⟩

abbrev nBuf : Space → Nat
  | .hbm => 18
  | .vmem => 19
  | .smem => 1
  | _ => 0

abbrev bufTy : (tb : Table) → Fin (tcTables nBuf tb) → BufTy
  | .hbm, ⟨0, _⟩ => ⟨S1024x13056, .bf16⟩
  | .hbm, ⟨1, _⟩ => ⟨S6x4x3456x128, .bf16⟩
  | .hbm, ⟨2, _⟩ => ⟨S6x4x128x3456, .bf16⟩
  | .hbm, ⟨3, _⟩ => ⟨S6x4x3456, .f32⟩
  | .hbm, ⟨4, _⟩ => ⟨S6x4x3456, .f32⟩
  | .hbm, ⟨5, _⟩ => ⟨S6, .i32⟩
  | .hbm, ⟨6, _⟩ => ⟨S6x2176, .i32⟩
  | .hbm, ⟨7, _⟩ => ⟨S102x1x128, .i32⟩
  | .hbm, ⟨8, _⟩ => ⟨S_, .f32⟩
  | .hbm, ⟨9, _⟩ => ⟨S6x4x3456, .f32⟩
  | .hbm, ⟨10, _⟩ => ⟨S6x4x3456, .f32⟩
  | .hbm, ⟨11, _⟩ => ⟨S6x4x3456x1, .f32⟩
  | .hbm, ⟨12, _⟩ => ⟨S6x4x3456x128, .f32⟩
  | .hbm, ⟨13, _⟩ => ⟨S6x4x3456x1, .f32⟩
  | .hbm, ⟨14, _⟩ => ⟨S6x4x3456x128, .f32⟩
  | .hbm, ⟨15, _⟩ => ⟨S13056x1024, .f32⟩
  | .hbm, ⟨16, _⟩ => ⟨S13056x1024, .fp8e4m3⟩
  | .hbm, ⟨17, _⟩ => ⟨S102x1x128, .f32⟩
  | .local _ .vmem, ⟨0, _⟩ => ⟨S1024x128, .bf16⟩
  | .local _ .vmem, ⟨1, _⟩ => ⟨S1024x128, .bf16⟩
  | .local _ .vmem, ⟨2, _⟩ => ⟨S1x1x128, .i32⟩
  | .local _ .vmem, ⟨3, _⟩ => ⟨S1x1x128, .i32⟩
  | .local _ .vmem, ⟨4, _⟩ => ⟨S1x4x3456x128, .bf16⟩
  | .local _ .vmem, ⟨5, _⟩ => ⟨S1x4x3456x128, .bf16⟩
  | .local _ .vmem, ⟨6, _⟩ => ⟨S1x4x128x3456, .bf16⟩
  | .local _ .vmem, ⟨7, _⟩ => ⟨S1x4x128x3456, .bf16⟩
  | .local _ .vmem, ⟨8, _⟩ => ⟨S1x4x3456x128, .f32⟩
  | .local _ .vmem, ⟨9, _⟩ => ⟨S1x4x3456x128, .f32⟩
  | .local _ .vmem, ⟨10, _⟩ => ⟨S1x4x3456x128, .f32⟩
  | .local _ .vmem, ⟨11, _⟩ => ⟨S1x4x3456x128, .f32⟩
  | .local _ .vmem, ⟨12, _⟩ => ⟨S128x1024, .f32⟩
  | .local _ .vmem, ⟨13, _⟩ => ⟨S128x1024, .f32⟩
  | .local _ .vmem, ⟨14, _⟩ => ⟨S128x1024, .fp8e4m3⟩
  | .local _ .vmem, ⟨15, _⟩ => ⟨S128x1024, .fp8e4m3⟩
  | .local _ .vmem, ⟨16, _⟩ => ⟨S1x1x128, .f32⟩
  | .local _ .vmem, ⟨17, _⟩ => ⟨S1x1x128, .f32⟩
  | .local _ .vmem, ⟨18, _⟩ => ⟨S1408x256, .f32⟩
  | .local _ .smem, ⟨0, _⟩ => ⟨S6, .i32⟩
  | _, _ => ⟨S1024x13056, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .smem, ⟨0, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev main_v7_2 : Ref sig .tc := ⟨.hbm, 17, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨2, ![6, 17], ![false, false]⟩

def k0_off1 (i : grid0.Coords) : Fin 1 → Nat :=
  let arg0 : BitVec 32 := BitVec.ofNat 32 (i 0).val
  let v0 : Index := Scalar.indexCast arg0
  ![v0.toNat]
def k0_mult1 (i : grid0.Coords) : BitVec 32 :=
  let arg1 : BitVec 32 := BitVec.ofNat 32 (i 1).val
  let c0_i32_5 : BitVec 32 := 0#32
  let v21 : BitVec 32 := Scalar.addi arg1 c0_i32_5
  let c128_i32_6 : BitVec 32 := 128#32
  let v22 : BitVec 32 := Scalar.muli v21 c128_i32_6
  v22
def k0_off2 (i : grid0.Coords) (c0_i32_5 : BitVec 32) : Fin 4 → Nat :=
  let c0_7 : Index := 0#32
  let c0_8 : Index := 0#32
  let arg1 : BitVec 32 := BitVec.ofNat 32 (i 1).val
  let v21 : BitVec 32 := Scalar.addi arg1 c0_i32_5
  let c128_i32_6 : BitVec 32 := 128#32
  let v22 : BitVec 32 := Scalar.muli v21 c128_i32_6
  let v23 : BitVec 32 := v22
  let v24 : Index := Scalar.indexCast v23
  let c0_9 : Index := 0#32
  ![0, 0, v24.toNat, 0]
def k0_mult2 (i : grid0.Coords) : BitVec 32 :=
  let arg1 : BitVec 32 := BitVec.ofNat 32 (i 1).val
  let c1_i32_19 : BitVec 32 := 1#32
  let v50 : BitVec 32 := Scalar.addi arg1 c1_i32_19
  let c128_i32_20 : BitVec 32 := 128#32
  let v51 : BitVec 32 := Scalar.muli v50 c128_i32_20
  v51
def k0_mult3 (i : grid0.Coords) : BitVec 32 :=
  let arg1 : BitVec 32 := BitVec.ofNat 32 (i 1).val
  let c2_i32 : BitVec 32 := 2#32
  let v80 : BitVec 32 := Scalar.addi arg1 c2_i32
  let c128_i32_35 : BitVec 32 := 128#32
  let v81 : BitVec 32 := Scalar.muli v80 c128_i32_35
  v81
def k0_mult4 (i : grid0.Coords) : BitVec 32 :=
  let arg1 : BitVec 32 := BitVec.ofNat 32 (i 1).val
  let c3_i32 : BitVec 32 := 3#32
  let v110 : BitVec 32 := Scalar.addi arg1 c3_i32
  let c128_i32_49 : BitVec 32 := 128#32
  let v111 : BitVec 32 := Scalar.muli v110 c128_i32_49
  v111
def k0_mult5 (i : grid0.Coords) : BitVec 32 :=
  let arg1 : BitVec 32 := BitVec.ofNat 32 (i 1).val
  let c4_i32 : BitVec 32 := 4#32
  let v140 : BitVec 32 := Scalar.addi arg1 c4_i32
  let c128_i32_63 : BitVec 32 := 128#32
  let v141 : BitVec 32 := Scalar.muli v140 c128_i32_63
  v141
def k0_mult6 (i : grid0.Coords) : BitVec 32 :=
  let arg1 : BitVec 32 := BitVec.ofNat 32 (i 1).val
  let c5_i32 : BitVec 32 := 5#32
  let v170 : BitVec 32 := Scalar.addi arg1 c5_i32
  let c128_i32_77 : BitVec 32 := 128#32
  let v171 : BitVec 32 := Scalar.muli v170 c128_i32_77
  v171
def k0_mult7 (i : grid0.Coords) : BitVec 32 :=
  let arg1 : BitVec 32 := BitVec.ofNat 32 (i 1).val
  let c6_i32 : BitVec 32 := 6#32
  let v200 : BitVec 32 := Scalar.addi arg1 c6_i32
  let c128_i32_91 : BitVec 32 := 128#32
  let v201 : BitVec 32 := Scalar.muli v200 c128_i32_91
  v201
def k0_mult8 (i : grid0.Coords) : BitVec 32 :=
  let arg1 : BitVec 32 := BitVec.ofNat 32 (i 1).val
  let c7_i32 : BitVec 32 := 7#32
  let v230 : BitVec 32 := Scalar.addi arg1 c7_i32
  let c128_i32_105 : BitVec 32 := 128#32
  let v231 : BitVec 32 := Scalar.muli v230 c128_i32_105
  v231
def k0_mult9 (i : grid0.Coords) : BitVec 32 :=
  let arg1 : BitVec 32 := BitVec.ofNat 32 (i 1).val
  let c8_i32_119 : BitVec 32 := 8#32
  let v260 : BitVec 32 := Scalar.addi arg1 c8_i32_119
  let c128_i32_120 : BitVec 32 := 128#32
  let v261 : BitVec 32 := Scalar.muli v260 c128_i32_120
  v261
def k0_mult10 (i : grid0.Coords) : BitVec 32 :=
  let arg1 : BitVec 32 := BitVec.ofNat 32 (i 1).val
  let c9_i32 : BitVec 32 := 9#32
  let v290 : BitVec 32 := Scalar.addi arg1 c9_i32
  let c128_i32_134 : BitVec 32 := 128#32
  let v291 : BitVec 32 := Scalar.muli v290 c128_i32_134
  v291
def k0_mult11 (i : grid0.Coords) : BitVec 32 :=
  let arg1 : BitVec 32 := BitVec.ofNat 32 (i 1).val
  let c10_i32 : BitVec 32 := 10#32
  let v320 : BitVec 32 := Scalar.addi arg1 c10_i32
  let c128_i32_148 : BitVec 32 := 128#32
  let v321 : BitVec 32 := Scalar.muli v320 c128_i32_148
  v321
def k0_mult12 (i : grid0.Coords) : BitVec 32 :=
  let arg1 : BitVec 32 := BitVec.ofNat 32 (i 1).val
  let c0_i32_163 : BitVec 32 := 0#32
  let v353 : BitVec 32 := Scalar.addi arg1 c0_i32_163
  let c128_i32_164 : BitVec 32 := 128#32
  let v354 : BitVec 32 := Scalar.muli v353 c128_i32_164
  v354
def k0_off3 (i : grid0.Coords) (c0_i32_163 : BitVec 32) : Fin 4 → Nat :=
  let c0_171 : Index := 0#32
  let c0_172 : Index := 0#32
  let c0_173 : Index := 0#32
  let arg1 : BitVec 32 := BitVec.ofNat 32 (i 1).val
  let v353 : BitVec 32 := Scalar.addi arg1 c0_i32_163
  let c128_i32_164 : BitVec 32 := 128#32
  let v354 : BitVec 32 := Scalar.muli v353 c128_i32_164
  let v355 : BitVec 32 := v354
  let v368 : Index := Scalar.indexCast v355
  ![0, 0, 0, v368.toNat]
def k0_mult13 (i : grid0.Coords) : BitVec 32 :=
  let arg1 : BitVec 32 := BitVec.ofNat 32 (i 1).val
  let c1_i32_175 : BitVec 32 := 1#32
  let v372 : BitVec 32 := Scalar.addi arg1 c1_i32_175
  let c128_i32_176 : BitVec 32 := 128#32
  let v373 : BitVec 32 := Scalar.muli v372 c128_i32_176
  v373
def k0_mult14 (i : grid0.Coords) : BitVec 32 :=
  let arg1 : BitVec 32 := BitVec.ofNat 32 (i 1).val
  let c2_i32_187 : BitVec 32 := 2#32
  let v393 : BitVec 32 := Scalar.addi arg1 c2_i32_187
  let c128_i32_188 : BitVec 32 := 128#32
  let v394 : BitVec 32 := Scalar.muli v393 c128_i32_188
  v394
def k0_mult15 (i : grid0.Coords) : BitVec 32 :=
  let arg1 : BitVec 32 := BitVec.ofNat 32 (i 1).val
  let c3_i32_199 : BitVec 32 := 3#32
  let v414 : BitVec 32 := Scalar.addi arg1 c3_i32_199
  let c128_i32_200 : BitVec 32 := 128#32
  let v415 : BitVec 32 := Scalar.muli v414 c128_i32_200
  v415
def k0_mult16 (i : grid0.Coords) : BitVec 32 :=
  let arg1 : BitVec 32 := BitVec.ofNat 32 (i 1).val
  let c4_i32_211 : BitVec 32 := 4#32
  let v435 : BitVec 32 := Scalar.addi arg1 c4_i32_211
  let c128_i32_212 : BitVec 32 := 128#32
  let v436 : BitVec 32 := Scalar.muli v435 c128_i32_212
  v436
def k0_mult17 (i : grid0.Coords) : BitVec 32 :=
  let arg1 : BitVec 32 := BitVec.ofNat 32 (i 1).val
  let c5_i32_223 : BitVec 32 := 5#32
  let v456 : BitVec 32 := Scalar.addi arg1 c5_i32_223
  let c128_i32_224 : BitVec 32 := 128#32
  let v457 : BitVec 32 := Scalar.muli v456 c128_i32_224
  v457
def k0_mult18 (i : grid0.Coords) : BitVec 32 :=
  let arg1 : BitVec 32 := BitVec.ofNat 32 (i 1).val
  let c6_i32_235 : BitVec 32 := 6#32
  let v477 : BitVec 32 := Scalar.addi arg1 c6_i32_235
  let c128_i32_236 : BitVec 32 := 128#32
  let v478 : BitVec 32 := Scalar.muli v477 c128_i32_236
  v478
def k0_mult19 (i : grid0.Coords) : BitVec 32 :=
  let arg1 : BitVec 32 := BitVec.ofNat 32 (i 1).val
  let c7_i32_247 : BitVec 32 := 7#32
  let v498 : BitVec 32 := Scalar.addi arg1 c7_i32_247
  let c128_i32_248 : BitVec 32 := 128#32
  let v499 : BitVec 32 := Scalar.muli v498 c128_i32_248
  v499
def k0_mult20 (i : grid0.Coords) : BitVec 32 :=
  let arg1 : BitVec 32 := BitVec.ofNat 32 (i 1).val
  let c8_i32_259 : BitVec 32 := 8#32
  let v519 : BitVec 32 := Scalar.addi arg1 c8_i32_259
  let c128_i32_260 : BitVec 32 := 128#32
  let v520 : BitVec 32 := Scalar.muli v519 c128_i32_260
  v520
def k0_mult21 (i : grid0.Coords) : BitVec 32 :=
  let arg1 : BitVec 32 := BitVec.ofNat 32 (i 1).val
  let c9_i32_271 : BitVec 32 := 9#32
  let v540 : BitVec 32 := Scalar.addi arg1 c9_i32_271
  let c128_i32_272 : BitVec 32 := 128#32
  let v541 : BitVec 32 := Scalar.muli v540 c128_i32_272
  v541
def k0_mult22 (i : grid0.Coords) : BitVec 32 :=
  let arg1 : BitVec 32 := BitVec.ofNat 32 (i 1).val
  let c10_i32_283 : BitVec 32 := 10#32
  let v561 : BitVec 32 := Scalar.addi arg1 c10_i32_283
  let c128_i32_284 : BitVec 32 := 128#32
  let v562 : BitVec 32 := Scalar.muli v561 c128_i32_284
  v562
def k0_mult23 (i : grid0.Coords) : BitVec 32 :=
  let arg1 : BitVec 32 := BitVec.ofNat 32 (i 1).val
  let c0_i32_300 : BitVec 32 := 0#32
  let v591 : BitVec 32 := Scalar.addi arg1 c0_i32_300
  let c128_i32_301 : BitVec 32 := 128#32
  let v592 : BitVec 32 := Scalar.muli v591 c128_i32_301
  v592
def k0_off4 (i : grid0.Coords) (c0_i32_300 : BitVec 32) : Fin 4 → Nat :=
  let c0_302 : Index := 0#32
  let c1 : Index := 1#32
  let arg1 : BitVec 32 := BitVec.ofNat 32 (i 1).val
  let v591 : BitVec 32 := Scalar.addi arg1 c0_i32_300
  let c128_i32_301 : BitVec 32 := 128#32
  let v592 : BitVec 32 := Scalar.muli v591 c128_i32_301
  let v593 : BitVec 32 := v592
  let v594 : Index := Scalar.indexCast v593
  let c0_303 : Index := 0#32
  ![0, 1, v594.toNat, 0]
def k0_mult24 (i : grid0.Coords) : BitVec 32 :=
  let arg1 : BitVec 32 := BitVec.ofNat 32 (i 1).val
  let c1_i32_315 : BitVec 32 := 1#32
  let v620 : BitVec 32 := Scalar.addi arg1 c1_i32_315
  let c128_i32_316 : BitVec 32 := 128#32
  let v621 : BitVec 32 := Scalar.muli v620 c128_i32_316
  v621
def k0_mult25 (i : grid0.Coords) : BitVec 32 :=
  let arg1 : BitVec 32 := BitVec.ofNat 32 (i 1).val
  let c2_i32_331 : BitVec 32 := 2#32
  let v650 : BitVec 32 := Scalar.addi arg1 c2_i32_331
  let c128_i32_332 : BitVec 32 := 128#32
  let v651 : BitVec 32 := Scalar.muli v650 c128_i32_332
  v651
def k0_mult26 (i : grid0.Coords) : BitVec 32 :=
  let arg1 : BitVec 32 := BitVec.ofNat 32 (i 1).val
  let c3_i32_347 : BitVec 32 := 3#32
  let v680 : BitVec 32 := Scalar.addi arg1 c3_i32_347
  let c128_i32_348 : BitVec 32 := 128#32
  let v681 : BitVec 32 := Scalar.muli v680 c128_i32_348
  v681
def k0_mult27 (i : grid0.Coords) : BitVec 32 :=
  let arg1 : BitVec 32 := BitVec.ofNat 32 (i 1).val
  let c4_i32_363 : BitVec 32 := 4#32
  let v710 : BitVec 32 := Scalar.addi arg1 c4_i32_363
  let c128_i32_364 : BitVec 32 := 128#32
  let v711 : BitVec 32 := Scalar.muli v710 c128_i32_364
  v711
def k0_mult28 (i : grid0.Coords) : BitVec 32 :=
  let arg1 : BitVec 32 := BitVec.ofNat 32 (i 1).val
  let c5_i32_379 : BitVec 32 := 5#32
  let v740 : BitVec 32 := Scalar.addi arg1 c5_i32_379
  let c128_i32_380 : BitVec 32 := 128#32
  let v741 : BitVec 32 := Scalar.muli v740 c128_i32_380
  v741
def k0_mult29 (i : grid0.Coords) : BitVec 32 :=
  let arg1 : BitVec 32 := BitVec.ofNat 32 (i 1).val
  let c6_i32_395 : BitVec 32 := 6#32
  let v770 : BitVec 32 := Scalar.addi arg1 c6_i32_395
  let c128_i32_396 : BitVec 32 := 128#32
  let v771 : BitVec 32 := Scalar.muli v770 c128_i32_396
  v771
def k0_mult30 (i : grid0.Coords) : BitVec 32 :=
  let arg1 : BitVec 32 := BitVec.ofNat 32 (i 1).val
  let c7_i32_411 : BitVec 32 := 7#32
  let v800 : BitVec 32 := Scalar.addi arg1 c7_i32_411
  let c128_i32_412 : BitVec 32 := 128#32
  let v801 : BitVec 32 := Scalar.muli v800 c128_i32_412
  v801
def k0_mult31 (i : grid0.Coords) : BitVec 32 :=
  let arg1 : BitVec 32 := BitVec.ofNat 32 (i 1).val
  let c8_i32_427 : BitVec 32 := 8#32
  let v830 : BitVec 32 := Scalar.addi arg1 c8_i32_427
  let c128_i32_428 : BitVec 32 := 128#32
  let v831 : BitVec 32 := Scalar.muli v830 c128_i32_428
  v831
def k0_mult32 (i : grid0.Coords) : BitVec 32 :=
  let arg1 : BitVec 32 := BitVec.ofNat 32 (i 1).val
  let c9_i32_443 : BitVec 32 := 9#32
  let v860 : BitVec 32 := Scalar.addi arg1 c9_i32_443
  let c128_i32_444 : BitVec 32 := 128#32
  let v861 : BitVec 32 := Scalar.muli v860 c128_i32_444
  v861
def k0_mult33 (i : grid0.Coords) : BitVec 32 :=
  let arg1 : BitVec 32 := BitVec.ofNat 32 (i 1).val
  let c10_i32_459 : BitVec 32 := 10#32
  let v890 : BitVec 32 := Scalar.addi arg1 c10_i32_459
  let c128_i32_460 : BitVec 32 := 128#32
  let v891 : BitVec 32 := Scalar.muli v890 c128_i32_460
  v891
def k0_mult34 (i : grid0.Coords) : BitVec 32 :=
  let arg1 : BitVec 32 := BitVec.ofNat 32 (i 1).val
  let c0_i32_476 : BitVec 32 := 0#32
  let v923 : BitVec 32 := Scalar.addi arg1 c0_i32_476
  let c128_i32_477 : BitVec 32 := 128#32
  let v924 : BitVec 32 := Scalar.muli v923 c128_i32_477
  v924
def k0_off5 (i : grid0.Coords) (c0_i32_476 : BitVec 32) : Fin 4 → Nat :=
  let c0_484 : Index := 0#32
  let c1_485 : Index := 1#32
  let c0_486 : Index := 0#32
  let arg1 : BitVec 32 := BitVec.ofNat 32 (i 1).val
  let v923 : BitVec 32 := Scalar.addi arg1 c0_i32_476
  let c128_i32_477 : BitVec 32 := 128#32
  let v924 : BitVec 32 := Scalar.muli v923 c128_i32_477
  let v925 : BitVec 32 := v924
  let v938 : Index := Scalar.indexCast v925
  ![0, 1, 0, v938.toNat]
def k0_mult35 (i : grid0.Coords) : BitVec 32 :=
  let arg1 : BitVec 32 := BitVec.ofNat 32 (i 1).val
  let c1_i32_488 : BitVec 32 := 1#32
  let v942 : BitVec 32 := Scalar.addi arg1 c1_i32_488
  let c128_i32_489 : BitVec 32 := 128#32
  let v943 : BitVec 32 := Scalar.muli v942 c128_i32_489
  v943
def k0_mult36 (i : grid0.Coords) : BitVec 32 :=
  let arg1 : BitVec 32 := BitVec.ofNat 32 (i 1).val
  let c2_i32_500 : BitVec 32 := 2#32
  let v963 : BitVec 32 := Scalar.addi arg1 c2_i32_500
  let c128_i32_501 : BitVec 32 := 128#32
  let v964 : BitVec 32 := Scalar.muli v963 c128_i32_501
  v964
def k0_mult37 (i : grid0.Coords) : BitVec 32 :=
  let arg1 : BitVec 32 := BitVec.ofNat 32 (i 1).val
  let c3_i32_512 : BitVec 32 := 3#32
  let v984 : BitVec 32 := Scalar.addi arg1 c3_i32_512
  let c128_i32_513 : BitVec 32 := 128#32
  let v985 : BitVec 32 := Scalar.muli v984 c128_i32_513
  v985
def k0_mult38 (i : grid0.Coords) : BitVec 32 :=
  let arg1 : BitVec 32 := BitVec.ofNat 32 (i 1).val
  let c4_i32_524 : BitVec 32 := 4#32
  let v1005 : BitVec 32 := Scalar.addi arg1 c4_i32_524
  let c128_i32_525 : BitVec 32 := 128#32
  let v1006 : BitVec 32 := Scalar.muli v1005 c128_i32_525
  v1006
def k0_mult39 (i : grid0.Coords) : BitVec 32 :=
  let arg1 : BitVec 32 := BitVec.ofNat 32 (i 1).val
  let c5_i32_536 : BitVec 32 := 5#32
  let v1026 : BitVec 32 := Scalar.addi arg1 c5_i32_536
  let c128_i32_537 : BitVec 32 := 128#32
  let v1027 : BitVec 32 := Scalar.muli v1026 c128_i32_537
  v1027
def k0_mult40 (i : grid0.Coords) : BitVec 32 :=
  let arg1 : BitVec 32 := BitVec.ofNat 32 (i 1).val
  let c6_i32_548 : BitVec 32 := 6#32
  let v1047 : BitVec 32 := Scalar.addi arg1 c6_i32_548
  let c128_i32_549 : BitVec 32 := 128#32
  let v1048 : BitVec 32 := Scalar.muli v1047 c128_i32_549
  v1048
def k0_mult41 (i : grid0.Coords) : BitVec 32 :=
  let arg1 : BitVec 32 := BitVec.ofNat 32 (i 1).val
  let c7_i32_560 : BitVec 32 := 7#32
  let v1068 : BitVec 32 := Scalar.addi arg1 c7_i32_560
  let c128_i32_561 : BitVec 32 := 128#32
  let v1069 : BitVec 32 := Scalar.muli v1068 c128_i32_561
  v1069
def k0_mult42 (i : grid0.Coords) : BitVec 32 :=
  let arg1 : BitVec 32 := BitVec.ofNat 32 (i 1).val
  let c8_i32_572 : BitVec 32 := 8#32
  let v1089 : BitVec 32 := Scalar.addi arg1 c8_i32_572
  let c128_i32_573 : BitVec 32 := 128#32
  let v1090 : BitVec 32 := Scalar.muli v1089 c128_i32_573
  v1090
def k0_mult43 (i : grid0.Coords) : BitVec 32 :=
  let arg1 : BitVec 32 := BitVec.ofNat 32 (i 1).val
  let c9_i32_584 : BitVec 32 := 9#32
  let v1110 : BitVec 32 := Scalar.addi arg1 c9_i32_584
  let c128_i32_585 : BitVec 32 := 128#32
  let v1111 : BitVec 32 := Scalar.muli v1110 c128_i32_585
  v1111
def k0_mult44 (i : grid0.Coords) : BitVec 32 :=
  let arg1 : BitVec 32 := BitVec.ofNat 32 (i 1).val
  let c10_i32_596 : BitVec 32 := 10#32
  let v1131 : BitVec 32 := Scalar.addi arg1 c10_i32_596
  let c128_i32_597 : BitVec 32 := 128#32
  let v1132 : BitVec 32 := Scalar.muli v1131 c128_i32_597
  v1132
def k0_mult45 (i : grid0.Coords) : BitVec 32 :=
  let arg1 : BitVec 32 := BitVec.ofNat 32 (i 1).val
  let c0_i32_613 : BitVec 32 := 0#32
  let v1161 : BitVec 32 := Scalar.addi arg1 c0_i32_613
  let c128_i32_614 : BitVec 32 := 128#32
  let v1162 : BitVec 32 := Scalar.muli v1161 c128_i32_614
  v1162
def k0_off6 (i : grid0.Coords) (c0_i32_613 : BitVec 32) : Fin 4 → Nat :=
  let c0_615 : Index := 0#32
  let c2 : Index := 2#32
  let arg1 : BitVec 32 := BitVec.ofNat 32 (i 1).val
  let v1161 : BitVec 32 := Scalar.addi arg1 c0_i32_613
  let c128_i32_614 : BitVec 32 := 128#32
  let v1162 : BitVec 32 := Scalar.muli v1161 c128_i32_614
  let v1163 : BitVec 32 := v1162
  let v1164 : Index := Scalar.indexCast v1163
  let c0_616 : Index := 0#32
  ![0, 2, v1164.toNat, 0]
def k0_mult46 (i : grid0.Coords) : BitVec 32 :=
  let arg1 : BitVec 32 := BitVec.ofNat 32 (i 1).val
  let c1_i32_628 : BitVec 32 := 1#32
  let v1190 : BitVec 32 := Scalar.addi arg1 c1_i32_628
  let c128_i32_629 : BitVec 32 := 128#32
  let v1191 : BitVec 32 := Scalar.muli v1190 c128_i32_629
  v1191
def k0_mult47 (i : grid0.Coords) : BitVec 32 :=
  let arg1 : BitVec 32 := BitVec.ofNat 32 (i 1).val
  let c2_i32_644 : BitVec 32 := 2#32
  let v1220 : BitVec 32 := Scalar.addi arg1 c2_i32_644
  let c128_i32_645 : BitVec 32 := 128#32
  let v1221 : BitVec 32 := Scalar.muli v1220 c128_i32_645
  v1221
def k0_mult48 (i : grid0.Coords) : BitVec 32 :=
  let arg1 : BitVec 32 := BitVec.ofNat 32 (i 1).val
  let c3_i32_660 : BitVec 32 := 3#32
  let v1250 : BitVec 32 := Scalar.addi arg1 c3_i32_660
  let c128_i32_661 : BitVec 32 := 128#32
  let v1251 : BitVec 32 := Scalar.muli v1250 c128_i32_661
  v1251
def k0_mult49 (i : grid0.Coords) : BitVec 32 :=
  let arg1 : BitVec 32 := BitVec.ofNat 32 (i 1).val
  let c4_i32_676 : BitVec 32 := 4#32
  let v1280 : BitVec 32 := Scalar.addi arg1 c4_i32_676
  let c128_i32_677 : BitVec 32 := 128#32
  let v1281 : BitVec 32 := Scalar.muli v1280 c128_i32_677
  v1281
def k0_mult50 (i : grid0.Coords) : BitVec 32 :=
  let arg1 : BitVec 32 := BitVec.ofNat 32 (i 1).val
  let c5_i32_692 : BitVec 32 := 5#32
  let v1310 : BitVec 32 := Scalar.addi arg1 c5_i32_692
  let c128_i32_693 : BitVec 32 := 128#32
  let v1311 : BitVec 32 := Scalar.muli v1310 c128_i32_693
  v1311
def k0_mult51 (i : grid0.Coords) : BitVec 32 :=
  let arg1 : BitVec 32 := BitVec.ofNat 32 (i 1).val
  let c6_i32_708 : BitVec 32 := 6#32
  let v1340 : BitVec 32 := Scalar.addi arg1 c6_i32_708
  let c128_i32_709 : BitVec 32 := 128#32
  let v1341 : BitVec 32 := Scalar.muli v1340 c128_i32_709
  v1341
def k0_mult52 (i : grid0.Coords) : BitVec 32 :=
  let arg1 : BitVec 32 := BitVec.ofNat 32 (i 1).val
  let c7_i32_724 : BitVec 32 := 7#32
  let v1370 : BitVec 32 := Scalar.addi arg1 c7_i32_724
  let c128_i32_725 : BitVec 32 := 128#32
  let v1371 : BitVec 32 := Scalar.muli v1370 c128_i32_725
  v1371
def k0_mult53 (i : grid0.Coords) : BitVec 32 :=
  let arg1 : BitVec 32 := BitVec.ofNat 32 (i 1).val
  let c8_i32_740 : BitVec 32 := 8#32
  let v1400 : BitVec 32 := Scalar.addi arg1 c8_i32_740
  let c128_i32_741 : BitVec 32 := 128#32
  let v1401 : BitVec 32 := Scalar.muli v1400 c128_i32_741
  v1401
def k0_mult54 (i : grid0.Coords) : BitVec 32 :=
  let arg1 : BitVec 32 := BitVec.ofNat 32 (i 1).val
  let c9_i32_756 : BitVec 32 := 9#32
  let v1430 : BitVec 32 := Scalar.addi arg1 c9_i32_756
  let c128_i32_757 : BitVec 32 := 128#32
  let v1431 : BitVec 32 := Scalar.muli v1430 c128_i32_757
  v1431
def k0_mult55 (i : grid0.Coords) : BitVec 32 :=
  let arg1 : BitVec 32 := BitVec.ofNat 32 (i 1).val
  let c10_i32_772 : BitVec 32 := 10#32
  let v1460 : BitVec 32 := Scalar.addi arg1 c10_i32_772
  let c128_i32_773 : BitVec 32 := 128#32
  let v1461 : BitVec 32 := Scalar.muli v1460 c128_i32_773
  v1461
def k0_mult56 (i : grid0.Coords) : BitVec 32 :=
  let arg1 : BitVec 32 := BitVec.ofNat 32 (i 1).val
  let c0_i32_789 : BitVec 32 := 0#32
  let v1493 : BitVec 32 := Scalar.addi arg1 c0_i32_789
  let c128_i32_790 : BitVec 32 := 128#32
  let v1494 : BitVec 32 := Scalar.muli v1493 c128_i32_790
  v1494
def k0_off7 (i : grid0.Coords) (c0_i32_789 : BitVec 32) : Fin 4 → Nat :=
  let c0_797 : Index := 0#32
  let c2_798 : Index := 2#32
  let c0_799 : Index := 0#32
  let arg1 : BitVec 32 := BitVec.ofNat 32 (i 1).val
  let v1493 : BitVec 32 := Scalar.addi arg1 c0_i32_789
  let c128_i32_790 : BitVec 32 := 128#32
  let v1494 : BitVec 32 := Scalar.muli v1493 c128_i32_790
  let v1495 : BitVec 32 := v1494
  let v1508 : Index := Scalar.indexCast v1495
  ![0, 2, 0, v1508.toNat]
def k0_mult57 (i : grid0.Coords) : BitVec 32 :=
  let arg1 : BitVec 32 := BitVec.ofNat 32 (i 1).val
  let c1_i32_801 : BitVec 32 := 1#32
  let v1512 : BitVec 32 := Scalar.addi arg1 c1_i32_801
  let c128_i32_802 : BitVec 32 := 128#32
  let v1513 : BitVec 32 := Scalar.muli v1512 c128_i32_802
  v1513
def k0_mult58 (i : grid0.Coords) : BitVec 32 :=
  let arg1 : BitVec 32 := BitVec.ofNat 32 (i 1).val
  let c2_i32_813 : BitVec 32 := 2#32
  let v1533 : BitVec 32 := Scalar.addi arg1 c2_i32_813
  let c128_i32_814 : BitVec 32 := 128#32
  let v1534 : BitVec 32 := Scalar.muli v1533 c128_i32_814
  v1534
def k0_mult59 (i : grid0.Coords) : BitVec 32 :=
  let arg1 : BitVec 32 := BitVec.ofNat 32 (i 1).val
  let c3_i32_825 : BitVec 32 := 3#32
  let v1554 : BitVec 32 := Scalar.addi arg1 c3_i32_825
  let c128_i32_826 : BitVec 32 := 128#32
  let v1555 : BitVec 32 := Scalar.muli v1554 c128_i32_826
  v1555
def k0_mult60 (i : grid0.Coords) : BitVec 32 :=
  let arg1 : BitVec 32 := BitVec.ofNat 32 (i 1).val
  let c4_i32_837 : BitVec 32 := 4#32
  let v1575 : BitVec 32 := Scalar.addi arg1 c4_i32_837
  let c128_i32_838 : BitVec 32 := 128#32
  let v1576 : BitVec 32 := Scalar.muli v1575 c128_i32_838
  v1576
def k0_mult61 (i : grid0.Coords) : BitVec 32 :=
  let arg1 : BitVec 32 := BitVec.ofNat 32 (i 1).val
  let c5_i32_849 : BitVec 32 := 5#32
  let v1596 : BitVec 32 := Scalar.addi arg1 c5_i32_849
  let c128_i32_850 : BitVec 32 := 128#32
  let v1597 : BitVec 32 := Scalar.muli v1596 c128_i32_850
  v1597
def k0_mult62 (i : grid0.Coords) : BitVec 32 :=
  let arg1 : BitVec 32 := BitVec.ofNat 32 (i 1).val
  let c6_i32_861 : BitVec 32 := 6#32
  let v1617 : BitVec 32 := Scalar.addi arg1 c6_i32_861
  let c128_i32_862 : BitVec 32 := 128#32
  let v1618 : BitVec 32 := Scalar.muli v1617 c128_i32_862
  v1618
def k0_mult63 (i : grid0.Coords) : BitVec 32 :=
  let arg1 : BitVec 32 := BitVec.ofNat 32 (i 1).val
  let c7_i32_873 : BitVec 32 := 7#32
  let v1638 : BitVec 32 := Scalar.addi arg1 c7_i32_873
  let c128_i32_874 : BitVec 32 := 128#32
  let v1639 : BitVec 32 := Scalar.muli v1638 c128_i32_874
  v1639
def k0_mult64 (i : grid0.Coords) : BitVec 32 :=
  let arg1 : BitVec 32 := BitVec.ofNat 32 (i 1).val
  let c8_i32_885 : BitVec 32 := 8#32
  let v1659 : BitVec 32 := Scalar.addi arg1 c8_i32_885
  let c128_i32_886 : BitVec 32 := 128#32
  let v1660 : BitVec 32 := Scalar.muli v1659 c128_i32_886
  v1660
def k0_mult65 (i : grid0.Coords) : BitVec 32 :=
  let arg1 : BitVec 32 := BitVec.ofNat 32 (i 1).val
  let c9_i32_897 : BitVec 32 := 9#32
  let v1680 : BitVec 32 := Scalar.addi arg1 c9_i32_897
  let c128_i32_898 : BitVec 32 := 128#32
  let v1681 : BitVec 32 := Scalar.muli v1680 c128_i32_898
  v1681
def k0_mult66 (i : grid0.Coords) : BitVec 32 :=
  let arg1 : BitVec 32 := BitVec.ofNat 32 (i 1).val
  let c10_i32_909 : BitVec 32 := 10#32
  let v1701 : BitVec 32 := Scalar.addi arg1 c10_i32_909
  let c128_i32_910 : BitVec 32 := 128#32
  let v1702 : BitVec 32 := Scalar.muli v1701 c128_i32_910
  v1702
def k0_mult67 (i : grid0.Coords) : BitVec 32 :=
  let arg1 : BitVec 32 := BitVec.ofNat 32 (i 1).val
  let c0_i32_926 : BitVec 32 := 0#32
  let v1731 : BitVec 32 := Scalar.addi arg1 c0_i32_926
  let c128_i32_927 : BitVec 32 := 128#32
  let v1732 : BitVec 32 := Scalar.muli v1731 c128_i32_927
  v1732
def k0_off8 (i : grid0.Coords) (c0_i32_926 : BitVec 32) : Fin 4 → Nat :=
  let c0_928 : Index := 0#32
  let c3 : Index := 3#32
  let arg1 : BitVec 32 := BitVec.ofNat 32 (i 1).val
  let v1731 : BitVec 32 := Scalar.addi arg1 c0_i32_926
  let c128_i32_927 : BitVec 32 := 128#32
  let v1732 : BitVec 32 := Scalar.muli v1731 c128_i32_927
  let v1733 : BitVec 32 := v1732
  let v1734 : Index := Scalar.indexCast v1733
  let c0_929 : Index := 0#32
  ![0, 3, v1734.toNat, 0]
def k0_mult68 (i : grid0.Coords) : BitVec 32 :=
  let arg1 : BitVec 32 := BitVec.ofNat 32 (i 1).val
  let c1_i32_941 : BitVec 32 := 1#32
  let v1760 : BitVec 32 := Scalar.addi arg1 c1_i32_941
  let c128_i32_942 : BitVec 32 := 128#32
  let v1761 : BitVec 32 := Scalar.muli v1760 c128_i32_942
  v1761
def k0_mult69 (i : grid0.Coords) : BitVec 32 :=
  let arg1 : BitVec 32 := BitVec.ofNat 32 (i 1).val
  let c2_i32_957 : BitVec 32 := 2#32
  let v1790 : BitVec 32 := Scalar.addi arg1 c2_i32_957
  let c128_i32_958 : BitVec 32 := 128#32
  let v1791 : BitVec 32 := Scalar.muli v1790 c128_i32_958
  v1791
def k0_mult70 (i : grid0.Coords) : BitVec 32 :=
  let arg1 : BitVec 32 := BitVec.ofNat 32 (i 1).val
  let c3_i32_973 : BitVec 32 := 3#32
  let v1820 : BitVec 32 := Scalar.addi arg1 c3_i32_973
  let c128_i32_974 : BitVec 32 := 128#32
  let v1821 : BitVec 32 := Scalar.muli v1820 c128_i32_974
  v1821
def k0_mult71 (i : grid0.Coords) : BitVec 32 :=
  let arg1 : BitVec 32 := BitVec.ofNat 32 (i 1).val
  let c4_i32_989 : BitVec 32 := 4#32
  let v1850 : BitVec 32 := Scalar.addi arg1 c4_i32_989
  let c128_i32_990 : BitVec 32 := 128#32
  let v1851 : BitVec 32 := Scalar.muli v1850 c128_i32_990
  v1851
def k0_mult72 (i : grid0.Coords) : BitVec 32 :=
  let arg1 : BitVec 32 := BitVec.ofNat 32 (i 1).val
  let c5_i32_1005 : BitVec 32 := 5#32
  let v1880 : BitVec 32 := Scalar.addi arg1 c5_i32_1005
  let c128_i32_1006 : BitVec 32 := 128#32
  let v1881 : BitVec 32 := Scalar.muli v1880 c128_i32_1006
  v1881
def k0_mult73 (i : grid0.Coords) : BitVec 32 :=
  let arg1 : BitVec 32 := BitVec.ofNat 32 (i 1).val
  let c6_i32_1021 : BitVec 32 := 6#32
  let v1910 : BitVec 32 := Scalar.addi arg1 c6_i32_1021
  let c128_i32_1022 : BitVec 32 := 128#32
  let v1911 : BitVec 32 := Scalar.muli v1910 c128_i32_1022
  v1911
def k0_mult74 (i : grid0.Coords) : BitVec 32 :=
  let arg1 : BitVec 32 := BitVec.ofNat 32 (i 1).val
  let c7_i32_1037 : BitVec 32 := 7#32
  let v1940 : BitVec 32 := Scalar.addi arg1 c7_i32_1037
  let c128_i32_1038 : BitVec 32 := 128#32
  let v1941 : BitVec 32 := Scalar.muli v1940 c128_i32_1038
  v1941
def k0_mult75 (i : grid0.Coords) : BitVec 32 :=
  let arg1 : BitVec 32 := BitVec.ofNat 32 (i 1).val
  let c8_i32_1053 : BitVec 32 := 8#32
  let v1970 : BitVec 32 := Scalar.addi arg1 c8_i32_1053
  let c128_i32_1054 : BitVec 32 := 128#32
  let v1971 : BitVec 32 := Scalar.muli v1970 c128_i32_1054
  v1971
def k0_mult76 (i : grid0.Coords) : BitVec 32 :=
  let arg1 : BitVec 32 := BitVec.ofNat 32 (i 1).val
  let c9_i32_1069 : BitVec 32 := 9#32
  let v2000 : BitVec 32 := Scalar.addi arg1 c9_i32_1069
  let c128_i32_1070 : BitVec 32 := 128#32
  let v2001 : BitVec 32 := Scalar.muli v2000 c128_i32_1070
  v2001
def k0_mult77 (i : grid0.Coords) : BitVec 32 :=
  let arg1 : BitVec 32 := BitVec.ofNat 32 (i 1).val
  let c10_i32_1085 : BitVec 32 := 10#32
  let v2030 : BitVec 32 := Scalar.addi arg1 c10_i32_1085
  let c128_i32_1086 : BitVec 32 := 128#32
  let v2031 : BitVec 32 := Scalar.muli v2030 c128_i32_1086
  v2031
def k0_mult78 (i : grid0.Coords) : BitVec 32 :=
  let arg1 : BitVec 32 := BitVec.ofNat 32 (i 1).val
  let c0_i32_1102 : BitVec 32 := 0#32
  let v2063 : BitVec 32 := Scalar.addi arg1 c0_i32_1102
  let c128_i32_1103 : BitVec 32 := 128#32
  let v2064 : BitVec 32 := Scalar.muli v2063 c128_i32_1103
  v2064
def k0_off9 (i : grid0.Coords) (c0_i32_1102 : BitVec 32) : Fin 4 → Nat :=
  let c0_1110 : Index := 0#32
  let c3_1111 : Index := 3#32
  let c0_1112 : Index := 0#32
  let arg1 : BitVec 32 := BitVec.ofNat 32 (i 1).val
  let v2063 : BitVec 32 := Scalar.addi arg1 c0_i32_1102
  let c128_i32_1103 : BitVec 32 := 128#32
  let v2064 : BitVec 32 := Scalar.muli v2063 c128_i32_1103
  let v2065 : BitVec 32 := v2064
  let v2078 : Index := Scalar.indexCast v2065
  ![0, 3, 0, v2078.toNat]
def k0_mult79 (i : grid0.Coords) : BitVec 32 :=
  let arg1 : BitVec 32 := BitVec.ofNat 32 (i 1).val
  let c1_i32_1114 : BitVec 32 := 1#32
  let v2082 : BitVec 32 := Scalar.addi arg1 c1_i32_1114
  let c128_i32_1115 : BitVec 32 := 128#32
  let v2083 : BitVec 32 := Scalar.muli v2082 c128_i32_1115
  v2083
def k0_mult80 (i : grid0.Coords) : BitVec 32 :=
  let arg1 : BitVec 32 := BitVec.ofNat 32 (i 1).val
  let c2_i32_1126 : BitVec 32 := 2#32
  let v2103 : BitVec 32 := Scalar.addi arg1 c2_i32_1126
  let c128_i32_1127 : BitVec 32 := 128#32
  let v2104 : BitVec 32 := Scalar.muli v2103 c128_i32_1127
  v2104
def k0_mult81 (i : grid0.Coords) : BitVec 32 :=
  let arg1 : BitVec 32 := BitVec.ofNat 32 (i 1).val
  let c3_i32_1138 : BitVec 32 := 3#32
  let v2124 : BitVec 32 := Scalar.addi arg1 c3_i32_1138
  let c128_i32_1139 : BitVec 32 := 128#32
  let v2125 : BitVec 32 := Scalar.muli v2124 c128_i32_1139
  v2125
def k0_mult82 (i : grid0.Coords) : BitVec 32 :=
  let arg1 : BitVec 32 := BitVec.ofNat 32 (i 1).val
  let c4_i32_1150 : BitVec 32 := 4#32
  let v2145 : BitVec 32 := Scalar.addi arg1 c4_i32_1150
  let c128_i32_1151 : BitVec 32 := 128#32
  let v2146 : BitVec 32 := Scalar.muli v2145 c128_i32_1151
  v2146
def k0_mult83 (i : grid0.Coords) : BitVec 32 :=
  let arg1 : BitVec 32 := BitVec.ofNat 32 (i 1).val
  let c5_i32_1162 : BitVec 32 := 5#32
  let v2166 : BitVec 32 := Scalar.addi arg1 c5_i32_1162
  let c128_i32_1163 : BitVec 32 := 128#32
  let v2167 : BitVec 32 := Scalar.muli v2166 c128_i32_1163
  v2167
def k0_mult84 (i : grid0.Coords) : BitVec 32 :=
  let arg1 : BitVec 32 := BitVec.ofNat 32 (i 1).val
  let c6_i32_1174 : BitVec 32 := 6#32
  let v2187 : BitVec 32 := Scalar.addi arg1 c6_i32_1174
  let c128_i32_1175 : BitVec 32 := 128#32
  let v2188 : BitVec 32 := Scalar.muli v2187 c128_i32_1175
  v2188
def k0_mult85 (i : grid0.Coords) : BitVec 32 :=
  let arg1 : BitVec 32 := BitVec.ofNat 32 (i 1).val
  let c7_i32_1186 : BitVec 32 := 7#32
  let v2208 : BitVec 32 := Scalar.addi arg1 c7_i32_1186
  let c128_i32_1187 : BitVec 32 := 128#32
  let v2209 : BitVec 32 := Scalar.muli v2208 c128_i32_1187
  v2209
def k0_mult86 (i : grid0.Coords) : BitVec 32 :=
  let arg1 : BitVec 32 := BitVec.ofNat 32 (i 1).val
  let c8_i32_1198 : BitVec 32 := 8#32
  let v2229 : BitVec 32 := Scalar.addi arg1 c8_i32_1198
  let c128_i32_1199 : BitVec 32 := 128#32
  let v2230 : BitVec 32 := Scalar.muli v2229 c128_i32_1199
  v2230
def k0_mult87 (i : grid0.Coords) : BitVec 32 :=
  let arg1 : BitVec 32 := BitVec.ofNat 32 (i 1).val
  let c9_i32_1210 : BitVec 32 := 9#32
  let v2250 : BitVec 32 := Scalar.addi arg1 c9_i32_1210
  let c128_i32_1211 : BitVec 32 := 128#32
  let v2251 : BitVec 32 := Scalar.muli v2250 c128_i32_1211
  v2251
def k0_mult88 (i : grid0.Coords) : BitVec 32 :=
  let arg1 : BitVec 32 := BitVec.ofNat 32 (i 1).val
  let c10_i32_1222 : BitVec 32 := 10#32
  let v2271 : BitVec 32 := Scalar.addi arg1 c10_i32_1222
  let c128_i32_1223 : BitVec 32 := 128#32
  let v2272 : BitVec 32 := Scalar.muli v2271 c128_i32_1223
  v2272
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c17_i32 : BitVec 32 := 17#32
  let v0 : BitVec 32 := Scalar.muli arg0 c17_i32
  let v1 : BitVec 32 := Scalar.addi v0 arg1
  let c0_i32 : BitVec 32 := 0#32
  let c0_i32_0 : BitVec 32 := 0#32
  ![c0_i32.toNat, v1.toNat]

def cc0_transform_2 (i : grid0.Coords) : Fin 3 → Nat :=
  let arg0 : BitVec 32 := BitVec.ofNat 32 (i 0).val
  let arg1 : BitVec 32 := BitVec.ofNat 32 (i 1).val
  let c17_i32 : BitVec 32 := 17#32
  let v0 : BitVec 32 := Scalar.muli arg0 c17_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c17_i32 : BitVec 32 := 17#32
  let v0 : BitVec 32 := Scalar.muli arg0 c17_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c17_i32 : BitVec 32 := 17#32
  let v0 : BitVec 32 := Scalar.muli arg0 c17_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 3 → Nat :=
  let arg0 : BitVec 32 := BitVec.ofNat 32 (i 0).val
  let arg1 : BitVec 32 := BitVec.ofNat 32 (i 1).val
  let c17_i32 : BitVec 32 := 17#32
  let v0 : BitVec 32 := Scalar.muli arg0 c17_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

abbrev stage0_0 : Fin 1 → Memref sig .tc .smem S6 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4x3456x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x4x128x3456 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x4x3456x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x4x3456x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x1024 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== AttendReferenceIdeal.lean ====
abbrev S1024x13056 : Shape := ⟨2, ![1024, 13056]⟩
abbrev S6x4x3456x128 : Shape := ⟨4, ![6, 4, 3456, 128]⟩
abbrev S6x4x128x3456 : Shape := ⟨4, ![6, 4, 128, 3456]⟩
abbrev S6x4x3456 : Shape := ⟨3, ![6, 4, 3456]⟩
abbrev S6 : Shape := ⟨1, ![6]⟩
abbrev S6x2176 : Shape := ⟨2, ![6, 2176]⟩
abbrev S13056x1024 : Shape := ⟨2, ![13056, 1024]⟩
abbrev S102x1x128 : Shape := ⟨3, ![102, 1, 128]⟩
abbrev S8x128x6x2176 : Shape := ⟨4, ![8, 128, 6, 2176]⟩
abbrev S6x8x2176x128 : Shape := ⟨4, ![6, 8, 2176, 128]⟩
abbrev S24x4352x128 : Shape := ⟨3, ![24, 4352, 128]⟩
abbrev S24x1x3456 : Shape := ⟨3, ![24, 1, 3456]⟩
abbrev S24x3456x128 : Shape := ⟨3, ![24, 3456, 128]⟩
abbrev S24x4352x3456 : Shape := ⟨3, ![24, 4352, 3456]⟩
abbrev S1x2176x1 : Shape := ⟨3, ![1, 2176, 1]⟩
abbrev S1x1x3456 : Shape := ⟨3, ![1, 1, 3456]⟩
abbrev S6x1x1 : Shape := ⟨3, ![6, 1, 1]⟩
abbrev S6x2176x1 : Shape := ⟨3, ![6, 2176, 1]⟩
abbrev S6x2176x3456 : Shape := ⟨3, ![6, 2176, 3456]⟩
abbrev S6x1x2176x3456 : Shape := ⟨4, ![6, 1, 2176, 3456]⟩
abbrev S6x8x2176x3456 : Shape := ⟨4, ![6, 8, 2176, 3456]⟩
abbrev S24x4352 : Shape := ⟨2, ![24, 4352]⟩
abbrev S24x4352x1 : Shape := ⟨3, ![24, 4352, 1]⟩
abbrev S24x128x3456 : Shape := ⟨3, ![24, 128, 3456]⟩
abbrev S6x2176x8x128 : Shape := ⟨4, ![6, 2176, 8, 128]⟩
abbrev S13056 : Shape := ⟨1, ![13056]⟩
abbrev S13056x1 : Shape := ⟨2, ![13056, 1]⟩

abbrev nBuf : Space → Nat
  | .hbm => 10
  | .vmem => 10
  | .smem => 0
  | _ => 0

abbrev bufTy : (tb : Table) → Fin (tcTables nBuf tb) → BufTy
  | .hbm, ⟨0, _⟩ => ⟨S1024x13056, .bf16⟩
  | .hbm, ⟨1, _⟩ => ⟨S6x4x3456x128, .bf16⟩
  | .hbm, ⟨2, _⟩ => ⟨S6x4x128x3456, .bf16⟩
  | .hbm, ⟨3, _⟩ => ⟨S6x4x3456, .f32⟩
  | .hbm, ⟨4, _⟩ => ⟨S6x4x3456, .f32⟩
  | .hbm, ⟨5, _⟩ => ⟨S6, .i32⟩
  | .hbm, ⟨6, _⟩ => ⟨S6x2176, .i32⟩
  | .hbm, ⟨7, _⟩ => ⟨S13056x1024, .f32⟩
  | .hbm, ⟨8, _⟩ => ⟨S13056x1024, .fp8e4m3⟩
  | .hbm, ⟨9, _⟩ => ⟨S102x1x128, .f32⟩
  | .local _ .vmem, ⟨0, _⟩ => ⟨S1024x13056, .bf16⟩
  | .local _ .vmem, ⟨1, _⟩ => ⟨S6x4x3456x128, .bf16⟩
  | .local _ .vmem, ⟨2, _⟩ => ⟨S6x4x128x3456, .bf16⟩
  | .local _ .vmem, ⟨3, _⟩ => ⟨S6x4x3456, .f32⟩
  | .local _ .vmem, ⟨4, _⟩ => ⟨S6x4x3456, .f32⟩
  | .local _ .vmem, ⟨5, _⟩ => ⟨S6, .i32⟩
  | .local _ .vmem, ⟨6, _⟩ => ⟨S6x2176, .i32⟩
  | .local _ .vmem, ⟨7, _⟩ => ⟨S13056x1024, .f32⟩
  | .local _ .vmem, ⟨8, _⟩ => ⟨S13056x1024, .fp8e4m3⟩
  | .local _ .vmem, ⟨9, _⟩ => ⟨S102x1x128, .f32⟩
  | _, _ => ⟨S1024x13056, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S1024x13056 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6x4x3456x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6x4x128x3456 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S6x4x3456 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S6x4x3456 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S6 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S6x2176 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S13056x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S13056x1024 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S102x1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proj.lean ====
abbrev S6x2176x5376 : Shape := ⟨3, ![6, 2176, 5376]⟩
abbrev S13056x1024 : Shape := ⟨2, ![13056, 1024]⟩
abbrev S102x1x128 : Shape := ⟨3, ![102, 1, 128]⟩
abbrev S1024x5376 : Shape := ⟨2, ![1024, 5376]⟩
abbrev S5376 : Shape := ⟨1, ![5376]⟩
abbrev S13056x5376 : Shape := ⟨2, ![13056, 5376]⟩
abbrev S1x5376 : Shape := ⟨2, ![1, 5376]⟩
abbrev S256x5376 : Shape := ⟨2, ![256, 5376]⟩
abbrev S256x1024 : Shape := ⟨2, ![256, 1024]⟩
abbrev S2x1x128 : Shape := ⟨3, ![2, 1, 128]⟩
abbrev S1x1x128 : Shape := ⟨3, ![1, 1, 128]⟩
abbrev S1x128 : Shape := ⟨2, ![1, 128]⟩
abbrev S128x128 : Shape := ⟨2, ![128, 128]⟩
abbrev S256x128 : Shape := ⟨2, ![256, 128]⟩
abbrev S256x1 : Shape := ⟨2, ![256, 1]⟩
abbrev S256 : Shape := ⟨1, ![256]⟩

abbrev nBuf : Space → Nat
  | .hbm => 10
  | .vmem => 12
  | .smem => 0
  | _ => 0

abbrev bufTy : (tb : Table) → Fin (tcTables nBuf tb) → BufTy
  | .hbm, ⟨0, _⟩ => ⟨S6x2176x5376, .bf16⟩
  | .hbm, ⟨1, _⟩ => ⟨S13056x1024, .fp8e4m3⟩
  | .hbm, ⟨2, _⟩ => ⟨S102x1x128, .f32⟩
  | .hbm, ⟨3, _⟩ => ⟨S1024x5376, .fp8e4m3⟩
  | .hbm, ⟨4, _⟩ => ⟨S5376, .f32⟩
  | .hbm, ⟨5, _⟩ => ⟨S5376, .f32⟩
  | .hbm, ⟨6, _⟩ => ⟨S13056x5376, .bf16⟩
  | .hbm, ⟨7, _⟩ => ⟨S1x5376, .f32⟩
  | .hbm, ⟨8, _⟩ => ⟨S1x5376, .f32⟩
  | .hbm, ⟨9, _⟩ => ⟨S13056x5376, .bf16⟩
  | .local _ .vmem, ⟨0, _⟩ => ⟨S256x5376, .bf16⟩
  | .local _ .vmem, ⟨1, _⟩ => ⟨S256x5376, .bf16⟩
  | .local _ .vmem, ⟨2, _⟩ => ⟨S256x1024, .fp8e4m3⟩
  | .local _ .vmem, ⟨3, _⟩ => ⟨S256x1024, .fp8e4m3⟩
  | .local _ .vmem, ⟨4, _⟩ => ⟨S2x1x128, .f32⟩
  | .local _ .vmem, ⟨5, _⟩ => ⟨S2x1x128, .f32⟩
  | .local _ .vmem, ⟨6, _⟩ => ⟨S1024x5376, .fp8e4m3⟩
  | .local _ .vmem, ⟨7, _⟩ => ⟨S1x5376, .f32⟩
  | .local _ .vmem, ⟨8, _⟩ => ⟨S1x5376, .f32⟩
  | .local _ .vmem, ⟨9, _⟩ => ⟨S256x5376, .bf16⟩
  | .local _ .vmem, ⟨10, _⟩ => ⟨S256x5376, .bf16⟩
  | .local _ .vmem, ⟨11, _⟩ => ⟨S256x5376, .f32⟩
  | _, _ => ⟨S6x2176x5376, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![51], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x5376 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x5376 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x5376 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x5376 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x5376 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ProjReferenceIdeal.lean ====
abbrev S6x2176x5376 : Shape := ⟨3, ![6, 2176, 5376]⟩
abbrev S13056x1024 : Shape := ⟨2, ![13056, 1024]⟩
abbrev S102x1x128 : Shape := ⟨3, ![102, 1, 128]⟩
abbrev S1024x5376 : Shape := ⟨2, ![1024, 5376]⟩
abbrev S5376 : Shape := ⟨1, ![5376]⟩
abbrev S13056x5376 : Shape := ⟨2, ![13056, 5376]⟩
abbrev S13056x1 : Shape := ⟨2, ![13056, 1]⟩
abbrev S1x5376 : Shape := ⟨2, ![1, 5376]⟩
abbrev S13056 : Shape := ⟨1, ![13056]⟩

abbrev nBuf : Space → Nat
  | .hbm => 7
  | .vmem => 7
  | .smem => 0
  | _ => 0

abbrev bufTy : (tb : Table) → Fin (tcTables nBuf tb) → BufTy
  | .hbm, ⟨0, _⟩ => ⟨S6x2176x5376, .bf16⟩
  | .hbm, ⟨1, _⟩ => ⟨S13056x1024, .fp8e4m3⟩
  | .hbm, ⟨2, _⟩ => ⟨S102x1x128, .f32⟩
  | .hbm, ⟨3, _⟩ => ⟨S1024x5376, .fp8e4m3⟩
  | .hbm, ⟨4, _⟩ => ⟨S5376, .f32⟩
  | .hbm, ⟨5, _⟩ => ⟨S5376, .f32⟩
  | .hbm, ⟨6, _⟩ => ⟨S13056x5376, .bf16⟩
  | .local _ .vmem, ⟨0, _⟩ => ⟨S6x2176x5376, .bf16⟩
  | .local _ .vmem, ⟨1, _⟩ => ⟨S13056x1024, .fp8e4m3⟩
  | .local _ .vmem, ⟨2, _⟩ => ⟨S102x1x128, .f32⟩
  | .local _ .vmem, ⟨3, _⟩ => ⟨S1024x5376, .fp8e4m3⟩
  | .local _ .vmem, ⟨4, _⟩ => ⟨S5376, .f32⟩
  | .local _ .vmem, ⟨5, _⟩ => ⟨S5376, .f32⟩
  | .local _ .vmem, ⟨6, _⟩ => ⟨S13056x5376, .bf16⟩
  | _, _ => ⟨S6x2176x5376, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S6x2176x5376 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S13056x1024 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S102x1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x5376 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S5376 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S5376 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S13056x5376 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.RefRun.lean ====
/- What the reference's one kernel leaves in its nine result arrays: each is the body's own stored value of the
   argument arrays (`G8` to `G16`), and the arguments are unchanged (`run`). -/
module

public import proofs.«01_k».proof.Proof.Gen.ReferenceIdeal.Frame
public import Idealize.ShloMosaic.Lib.Pipeline.Value

@[expose] public section

noncomputable section

namespace Cert.ReferenceIdeal.Value

open Cert.ReferenceIdeal Cert.ReferenceIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- After the frame run, output window 8's array is `(dats m 0 c).arrAt 8 N`. -/
theorem post8 (r : PUnit × MemSt nD τ sig (Elt F)) (h : Pipeline.FramePost cfgs (dats m) 0 (V m) r) (c : Dev nD) :
    r.2.mem ((c : Thread nD τ).loc main_v0_0) = (dats m 0 c).arrAt 8 cfg0.N :=
  (h c).1 8

/-- After the frame run, output window 9's array is `(dats m 0 c).arrAt 9 N`. -/
theorem post9 (r : PUnit × MemSt nD τ sig (Elt F)) (h : Pipeline.FramePost cfgs (dats m) 0 (V m) r) (c : Dev nD) :
    r.2.mem ((c : Thread nD τ).loc main_v0_1) = (dats m 0 c).arrAt 9 cfg0.N :=
  (h c).1 9

/-- After the frame run, output window 10's array is `(dats m 0 c).arrAt 10 N`. -/
theorem post10 (r : PUnit × MemSt nD τ sig (Elt F)) (h : Pipeline.FramePost cfgs (dats m) 0 (V m) r) (c : Dev nD) :
    r.2.mem ((c : Thread nD τ).loc main_v0_2) = (dats m 0 c).arrAt 10 cfg0.N :=
  (h c).1 10

/-- After the frame run, output window 11's array is `(dats m 0 c).arrAt 11 N`. -/
theorem post11 (r : PUnit × MemSt nD τ sig (Elt F)) (h : Pipeline.FramePost cfgs (dats m) 0 (V m) r) (c : Dev nD) :
    r.2.mem ((c : Thread nD τ).loc main_v0_3) = (dats m 0 c).arrAt 11 cfg0.N :=
  (h c).1 11

/-- After the frame run, output window 12's array is `(dats m 0 c).arrAt 12 N`. -/
theorem post12 (r : PUnit × MemSt nD τ sig (Elt F)) (h : Pipeline.FramePost cfgs (dats m) 0 (V m) r) (c : Dev nD) :
    r.2.mem ((c : Thread nD τ).loc main_v0_4) = (dats m 0 c).arrAt 12 cfg0.N :=
  (h c).1 12

/-- After the frame run, output window 13's array is `(dats m 0 c).arrAt 13 N`. -/
theorem post13 (r : PUnit × MemSt nD τ sig (Elt F)) (h : Pipeline.FramePost cfgs (dats m) 0 (V m) r) (c : Dev nD) :
    r.2.mem ((c : Thread nD τ).loc main_v0_5) = (dats m 0 c).arrAt 13 cfg0.N :=
  (h c).1 13

/-- After the frame run, output window 14's array is `(dats m 0 c).arrAt 14 N`. -/
theorem post14 (r : PUnit × MemSt nD τ sig (Elt F)) (h : Pipeline.FramePost cfgs (dats m) 0 (V m) r) (c : Dev nD) :
    r.2.mem ((c : Thread nD τ).loc main_v0_6) = (dats m 0 c).arrAt 14 cfg0.N :=
  (h c).1 14

/-- After the frame run, output window 15's array is `(dats m 0 c).arrAt 15 N`. -/
theorem post15 (r : PUnit × MemSt nD τ sig (Elt F)) (h : Pipeline.FramePost cfgs (dats m) 0 (V m) r) (c : Dev nD) :
    r.2.mem ((c : Thread nD τ).loc main_v0_7) = (dats m 0 c).arrAt 15 cfg0.N :=
  (h c).1 15

/-- After the frame run, output window 16's array is `(dats m 0 c).arrAt 16 N`. -/
theorem post16 (r : PUnit × MemSt nD τ sig (Elt F)) (h : Pipeline.FramePost cfgs (dats m) 0 (V m) r) (c : Dev nD) :
    r.2.mem ((c : Thread nD τ).loc main_v0_8) = (dats m 0 c).arrAt 16 cfg0.N :=
  (h c).1 16

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: input window 3 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-- After the frame run, argument `main_arg4` is as launched: input window 4 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 4).trans (((dats m 0 c).arrAt_in 4 rfl _).trans ((A_eq m c 4).trans (V_main_arg4 m c)))

/-- After the frame run, argument `main_arg5` is as launched: input window 5 stages it and never writes it back. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).1 5).trans (((dats m 0 c).arrAt_in 5 rfl _).trans ((A_eq m c 5).trans (V_main_arg5 m c)))

/-- After the frame run, argument `main_arg6` is as launched: input window 6 stages it and never writes it back. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).1 6).trans (((dats m 0 c).arrAt_in 6 rfl _).trans ((A_eq m c 6).trans (V_main_arg6 m c)))

/-- After the frame run, argument `main_arg7` is as launched: input window 7 stages it and never writes it back. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).1 7).trans (((dats m 0 c).arrAt_in 7 rfl _).trans ((A_eq m c 7).trans (V_main_arg7 m c)))

/-! ## Closed form at one grid point: every window's block is its array -/

theorem hz0 : (![0, 0, 0] : Fin 3 → Nat) = fun _ => 0 := funext fun a => by fin_cases a <;> rfl

/-- Window 0's block index at the one point is zero on every axis. -/
theorem idx_zero0 : ∀ t : Fin cfg0.N, win0_0.index t (0 : Fin 3) = 0 ∧ win0_0.index t (1 : Fin 3) = 0 ∧ win0_0.index t (2 : Fin 3) = 0 :=
  (by decide +kernel : ∀ t : Fin grid0.N, _)

/-- An index of window 0's block is the same index of its array. -/
theorem emb0 (t : Fin cfg0.N) (j : S6x2176x5376.Idx) : ((cfg0.win 0).blk t).view.emb j = j := by
  obtain ⟨e0, e1, e2⟩ := idx_zero0 t
  funext a; apply Fin.ext
  match a with
  | ⟨0, _⟩ => show win0_0.index t (0 : Fin 3) * 6 + 1 * (j 0).val = (j 0).val; omega
  | ⟨1, _⟩ => show win0_0.index t (1 : Fin 3) * 2176 + 1 * (j 1).val = (j 1).val; omega
  | ⟨2, _⟩ => show win0_0.index t (2 : Fin 3) * 5376 + 1 * (j 2).val = (j 2).val; omega

/-- Input window 0's block at the point is its array as the region finds it. -/
theorem iblk0_eq (c : Dev nD) (t : Fin cfg0.N) : iblk m c 0 t = V m c main_arg0 := by
  funext j; show V m c main_arg0 (((cfg0.win 0).blk t).view.emb j) = V m c main_arg0 j; rw [emb0]

theorem hz1 : (![0] : Fin 1 → Nat) = fun _ => 0 := funext fun a => by fin_cases a <;> rfl

/-- Window 1's block index at the one point is zero on every axis. -/
theorem idx_zero1 : ∀ t : Fin cfg0.N, win0_1.index t (0 : Fin 1) = 0 :=
  (by decide +kernel : ∀ t : Fin grid0.N, _)

/-- An index of window 1's block is the same index of its array. -/
theorem emb1 (t : Fin cfg0.N) (j : S5376.Idx) : ((cfg0.win 1).blk t).view.emb j = j := by
  have e0 := idx_zero1 t
  funext a; apply Fin.ext
  match a with
  | ⟨0, _⟩ => show win0_1.index t (0 : Fin 1) * 5376 + 1 * (j 0).val = (j 0).val; omega

/-- Input window 1's block at the point is its array as the region finds it. -/
theorem iblk1_eq (c : Dev nD) (t : Fin cfg0.N) : iblk m c 1 t = V m c main_arg1 := by
  funext j; show V m c main_arg1 (((cfg0.win 1).blk t).view.emb j) = V m c main_arg1 j; rw [emb1]

theorem hz2 : (![0, 0] : Fin 2 → Nat) = fun _ => 0 := funext fun a => by fin_cases a <;> rfl

/-- Window 2's block index at the one point is zero on every axis. -/
theorem idx_zero2 : ∀ t : Fin cfg0.N, win0_2.index t (0 : Fin 2) = 0 ∧ win0_2.index t (1 : Fin 2) = 0 :=
  (by decide +kernel : ∀ t : Fin grid0.N, _)

/-- An index of window 2's block is the same index of its array. -/
theorem emb2 (t : Fin cfg0.N) (j : S5376x2048.Idx) : ((cfg0.win 2).blk t).view.emb j = j := by
  obtain ⟨e0, e1⟩ := idx_zero2 t
  funext a; apply Fin.ext
  match a with
  | ⟨0, _⟩ => show win0_2.index t (0 : Fin 2) * 5376 + 1 * (j 0).val = (j 0).val; omega
  | ⟨1, _⟩ => show win0_2.index t (1 : Fin 2) * 2048 + 1 * (j 1).val = (j 1).val; omega

/-- Input window 2's block at the point is its array as the region finds it. -/
theorem iblk2_eq (c : Dev nD) (t : Fin cfg0.N) : iblk m c 2 t = V m c main_arg2 := by
  funext j; show V m c main_arg2 (((cfg0.win 2).blk t).view.emb j) = V m c main_arg2 j; rw [emb2]

theorem hz3 : (![0] : Fin 1 → Nat) = fun _ => 0 := funext fun a => by fin_cases a <;> rfl

/-- Window 3's block index at the one point is zero on every axis. -/
theorem idx_zero3 : ∀ t : Fin cfg0.N, win0_3.index t (0 : Fin 1) = 0 :=
  (by decide +kernel : ∀ t : Fin grid0.N, _)

/-- An index of window 3's block is the same index of its array. -/
theorem emb3 (t : Fin cfg0.N) (j : S2048.Idx) : ((cfg0.win 3).blk t).view.emb j = j := by
  have e0 := idx_zero3 t
  funext a; apply Fin.ext
  match a with
  | ⟨0, _⟩ => show win0_3.index t (0 : Fin 1) * 2048 + 1 * (j 0).val = (j 0).val; omega

/-- Input window 3's block at the point is its array as the region finds it. -/
theorem iblk3_eq (c : Dev nD) (t : Fin cfg0.N) : iblk m c 3 t = V m c main_arg3 := by
  funext j; show V m c main_arg3 (((cfg0.win 3).blk t).view.emb j) = V m c main_arg3 j; rw [emb3]

theorem hz4 : (![0] : Fin 1 → Nat) = fun _ => 0 := funext fun a => by fin_cases a <;> rfl

/-- Window 4's block index at the one point is zero on every axis. -/
theorem idx_zero4 : ∀ t : Fin cfg0.N, win0_4.index t (0 : Fin 1) = 0 :=
  (by decide +kernel : ∀ t : Fin grid0.N, _)

/-- An index of window 4's block is the same index of its array. -/
theorem emb4 (t : Fin cfg0.N) (j : S128.Idx) : ((cfg0.win 4).blk t).view.emb j = j := by
  have e0 := idx_zero4 t
  funext a; apply Fin.ext
  match a with
  | ⟨0, _⟩ => show win0_4.index t (0 : Fin 1) * 128 + 1 * (j 0).val = (j 0).val; omega

/-- Input window 4's block at the point is its array as the region finds it. -/
theorem iblk4_eq (c : Dev nD) (t : Fin cfg0.N) : iblk m c 4 t = V m c main_arg4 := by
  funext j; show V m c main_arg4 (((cfg0.win 4).blk t).view.emb j) = V m c main_arg4 j; rw [emb4]

theorem hz5 : (![0] : Fin 1 → Nat) = fun _ => 0 := funext fun a => by fin_cases a <;> rfl

/-- Window 5's block index at the one point is zero on every axis. -/
theorem idx_zero5 : ∀ t : Fin cfg0.N, win0_5.index t (0 : Fin 1) = 0 :=
  (by decide +kernel : ∀ t : Fin grid0.N, _)

/-- An index of window 5's block is the same index of its array. -/
theorem emb5 (t : Fin cfg0.N) (j : S128.Idx) : ((cfg0.win 5).blk t).view.emb j = j := by
  have e0 := idx_zero5 t
  funext a; apply Fin.ext
  match a with
  | ⟨0, _⟩ => show win0_5.index t (0 : Fin 1) * 128 + 1 * (j 0).val = (j 0).val; omega

/-- Input window 5's block at the point is its array as the region finds it. -/
theorem iblk5_eq (c : Dev nD) (t : Fin cfg0.N) : iblk m c 5 t = V m c main_arg5 := by
  funext j; show V m c main_arg5 (((cfg0.win 5).blk t).view.emb j) = V m c main_arg5 j; rw [emb5]

theorem hz6 : (![0, 0, 0] : Fin 3 → Nat) = fun _ => 0 := funext fun a => by fin_cases a <;> rfl

/-- Window 6's block index at the one point is zero on every axis. -/
theorem idx_zero6 : ∀ t : Fin cfg0.N, win0_6.index t (0 : Fin 3) = 0 ∧ win0_6.index t (1 : Fin 3) = 0 ∧ win0_6.index t (2 : Fin 3) = 0 :=
  (by decide +kernel : ∀ t : Fin grid0.N, _)

/-- An index of window 6's block is the same index of its array. -/
theorem emb6 (t : Fin cfg0.N) (j : S6x2176x64.Idx) : ((cfg0.win 6).blk t).view.emb j = j := by
  obtain ⟨e0, e1, e2⟩ := idx_zero6 t
  funext a; apply Fin.ext
  match a with
  | ⟨0, _⟩ => show win0_6.index t (0 : Fin 3) * 6 + 1 * (j 0).val = (j 0).val; omega
  | ⟨1, _⟩ => show win0_6.index t (1 : Fin 3) * 2176 + 1 * (j 1).val = (j 1).val; omega
  | ⟨2, _⟩ => show win0_6.index t (2 : Fin 3) * 64 + 1 * (j 2).val = (j 2).val; omega

/-- Input window 6's block at the point is its array as the region finds it. -/
theorem iblk6_eq (c : Dev nD) (t : Fin cfg0.N) : iblk m c 6 t = V m c main_arg6 := by
  funext j; show V m c main_arg6 (((cfg0.win 6).blk t).view.emb j) = V m c main_arg6 j; rw [emb6]

theorem hz7 : (![0, 0, 0] : Fin 3 → Nat) = fun _ => 0 := funext fun a => by fin_cases a <;> rfl

/-- Window 7's block index at the one point is zero on every axis. -/
theorem idx_zero7 : ∀ t : Fin cfg0.N, win0_7.index t (0 : Fin 3) = 0 ∧ win0_7.index t (1 : Fin 3) = 0 ∧ win0_7.index t (2 : Fin 3) = 0 :=
  (by decide +kernel : ∀ t : Fin grid0.N, _)

/-- An index of window 7's block is the same index of its array. -/
theorem emb7 (t : Fin cfg0.N) (j : S6x2176x64.Idx) : ((cfg0.win 7).blk t).view.emb j = j := by
  obtain ⟨e0, e1, e2⟩ := idx_zero7 t
  funext a; apply Fin.ext
  match a with
  | ⟨0, _⟩ => show win0_7.index t (0 : Fin 3) * 6 + 1 * (j 0).val = (j 0).val; omega
  | ⟨1, _⟩ => show win0_7.index t (1 : Fin 3) * 2176 + 1 * (j 1).val = (j 1).val; omega
  | ⟨2, _⟩ => show win0_7.index t (2 : Fin 3) * 64 + 1 * (j 2).val = (j 2).val; omega

/-- Input window 7's block at the point is its array as the region finds it. -/
theorem iblk7_eq (c : Dev nD) (t : Fin cfg0.N) : iblk m c 7 t = V m c main_arg7 := by
  funext j; show V m c main_arg7 (((cfg0.win 7).blk t).view.emb j) = V m c main_arg7 j; rw [emb7]

theorem hz8 : (![0, 0] : Fin 2 → Nat) = fun _ => 0 := funext fun a => by fin_cases a <;> rfl

/-- Window 8's block index at the one point is zero on every axis. -/
theorem idx_zero8 : ∀ t : Fin cfg0.N, win0_8.index t (0 : Fin 2) = 0 ∧ win0_8.index t (1 : Fin 2) = 0 :=
  (by decide +kernel : ∀ t : Fin grid0.N, _)

/-- An index of window 8's block is the same index of its array. -/
theorem emb8 (t : Fin cfg0.N) (j : S13056x5376.Idx) : ((cfg0.win 8).blk t).view.emb j = j := by
  obtain ⟨e0, e1⟩ := idx_zero8 t
  funext a; apply Fin.ext
  match a with
  | ⟨0, _⟩ => show win0_8.index t (0 : Fin 2) * 13056 + 1 * (j 0).val = (j 0).val; omega
  | ⟨1, _⟩ => show win0_8.index t (1 : Fin 2) * 5376 + 1 * (j 1).val = (j 1).val; omega

theorem hz9 : (![0, 0, 0] : Fin 3 → Nat) = fun _ => 0 := funext fun a => by fin_cases a <;> rfl

/-- Window 9's block index at the one point is zero on every axis. -/
theorem idx_zero9 : ∀ t : Fin cfg0.N, win0_9.index t (0 : Fin 3) = 0 ∧ win0_9.index t (1 : Fin 3) = 0 ∧ win0_9.index t (2 : Fin 3) = 0 :=
  (by decide +kernel : ∀ t : Fin grid0.N, _)

/-- An index of window 9's block is the same index of its array. -/
theorem emb9 (t : Fin cfg0.N) (j : S102x1x128.Idx) : ((cfg0.win 9).blk t).view.emb j = j := by
  obtain ⟨e0, e1, e2⟩ := idx_zero9 t
  funext a; apply Fin.ext
  match a with
  | ⟨0, _⟩ => show win0_9.index t (0 : Fin 3) * 102 + 1 * (j 0).val = (j 0).val; omega
  | ⟨1, _⟩ => show win0_9.index t (1 : Fin 3) * 1 + 1 * (j 1).val = (j 1).val; omega
  | ⟨2, _⟩ => show win0_9.index t (2 : Fin 3) * 128 + 1 * (j 2).val = (j 2).val; omega

theorem hz10 : (![0, 0] : Fin 2 → Nat) = fun _ => 0 := funext fun a => by fin_cases a <;> rfl

/-- Window 10's block index at the one point is zero on every axis. -/
theorem idx_zero10 : ∀ t : Fin cfg0.N, win0_10.index t (0 : Fin 2) = 0 ∧ win0_10.index t (1 : Fin 2) = 0 :=
  (by decide +kernel : ∀ t : Fin grid0.N, _)

/-- An index of window 10's block is the same index of its array. -/
theorem emb10 (t : Fin cfg0.N) (j : S1024x13056.Idx) : ((cfg0.win 10).blk t).view.emb j = j := by
  obtain ⟨e0, e1⟩ := idx_zero10 t
  funext a; apply Fin.ext
  match a with
  | ⟨0, _⟩ => show win0_10.index t (0 : Fin 2) * 1024 + 1 * (j 0).val = (j 0).val; omega
  | ⟨1, _⟩ => show win0_10.index t (1 : Fin 2) * 13056 + 1 * (j 1).val = (j 1).val; omega

theorem hz11 : (![0, 0, 0] : Fin 3 → Nat) = fun _ => 0 := funext fun a => by fin_cases a <;> rfl

/-- Window 11's block index at the one point is zero on every axis. -/
theorem idx_zero11 : ∀ t : Fin cfg0.N, win0_11.index t (0 : Fin 3) = 0 ∧ win0_11.index t (1 : Fin 3) = 0 ∧ win0_11.index t (2 : Fin 3) = 0 :=
  (by decide +kernel : ∀ t : Fin grid0.N, _)

/-- An index of window 11's block is the same index of its array. -/
theorem emb11 (t : Fin cfg0.N) (j : S4x13056x128.Idx) : ((cfg0.win 11).blk t).view.emb j = j := by
  obtain ⟨e0, e1, e2⟩ := idx_zero11 t
  funext a; apply Fin.ext
  match a with
  | ⟨0, _⟩ => show win0_11.index t (0 : Fin 3) * 4 + 1 * (j 0).val = (j 0).val; omega
  | ⟨1, _⟩ => show win0_11.index t (1 : Fin 3) * 13056 + 1 * (j 1).val = (j 1).val; omega
  | ⟨2, _⟩ => show win0_11.index t (2 : Fin 3) * 128 + 1 * (j 2).val = (j 2).val; omega

theorem hz12 : (![0, 0, 0] : Fin 3 → Nat) = fun _ => 0 := funext fun a => by fin_cases a <;> rfl

/-- Window 12's block index at the one point is zero on every axis. -/
theorem idx_zero12 : ∀ t : Fin cfg0.N, win0_12.index t (0 : Fin 3) = 0 ∧ win0_12.index t (1 : Fin 3) = 0 ∧ win0_12.index t (2 : Fin 3) = 0 :=
  (by decide +kernel : ∀ t : Fin grid0.N, _)

/-- An index of window 12's block is the same index of its array. -/
theorem emb12 (t : Fin cfg0.N) (j : S4x128x13056.Idx) : ((cfg0.win 12).blk t).view.emb j = j := by
  obtain ⟨e0, e1, e2⟩ := idx_zero12 t
  funext a; apply Fin.ext
  match a with
  | ⟨0, _⟩ => show win0_12.index t (0 : Fin 3) * 4 + 1 * (j 0).val = (j 0).val; omega
  | ⟨1, _⟩ => show win0_12.index t (1 : Fin 3) * 128 + 1 * (j 1).val = (j 1).val; omega
  | ⟨2, _⟩ => show win0_12.index t (2 : Fin 3) * 13056 + 1 * (j 2).val = (j 2).val; omega

theorem hz13 : (![0, 0, 0] : Fin 3 → Nat) = fun _ => 0 := funext fun a => by fin_cases a <;> rfl

/-- Window 13's block index at the one point is zero on every axis. -/
theorem idx_zero13 : ∀ t : Fin cfg0.N, win0_13.index t (0 : Fin 3) = 0 ∧ win0_13.index t (1 : Fin 3) = 0 ∧ win0_13.index t (2 : Fin 3) = 0 :=
  (by decide +kernel : ∀ t : Fin grid0.N, _)

/-- An index of window 13's block is the same index of its array. -/
theorem emb13 (t : Fin cfg0.N) (j : S13056x4x128.Idx) : ((cfg0.win 13).blk t).view.emb j = j := by
  obtain ⟨e0, e1, e2⟩ := idx_zero13 t
  funext a; apply Fin.ext
  match a with
  | ⟨0, _⟩ => show win0_13.index t (0 : Fin 3) * 13056 + 1 * (j 0).val = (j 0).val; omega
  | ⟨1, _⟩ => show win0_13.index t (1 : Fin 3) * 4 + 1 * (j 1).val = (j 1).val; omega
  | ⟨2, _⟩ => show win0_13.index t (2 : Fin 3) * 128 + 1 * (j 2).val = (j 2).val; omega

theorem hz14 : (![0, 0, 0] : Fin 3 → Nat) = fun _ => 0 := funext fun a => by fin_cases a <;> rfl

/-- Window 14's block index at the one point is zero on every axis. -/
theorem idx_zero14 : ∀ t : Fin cfg0.N, win0_14.index t (0 : Fin 3) = 0 ∧ win0_14.index t (1 : Fin 3) = 0 ∧ win0_14.index t (2 : Fin 3) = 0 :=
  (by decide +kernel : ∀ t : Fin grid0.N, _)

/-- An index of window 14's block is the same index of its array. -/
theorem emb14 (t : Fin cfg0.N) (j : S102x4x128.Idx) : ((cfg0.win 14).blk t).view.emb j = j := by
  obtain ⟨e0, e1, e2⟩ := idx_zero14 t
  funext a; apply Fin.ext
  match a with
  | ⟨0, _⟩ => show win0_14.index t (0 : Fin 3) * 102 + 1 * (j 0).val = (j 0).val; omega
  | ⟨1, _⟩ => show win0_14.index t (1 : Fin 3) * 4 + 1 * (j 1).val = (j 1).val; omega
  | ⟨2, _⟩ => show win0_14.index t (2 : Fin 3) * 128 + 1 * (j 2).val = (j 2).val; omega

theorem hz15 : (![0, 0, 0] : Fin 3 → Nat) = fun _ => 0 := funext fun a => by fin_cases a <;> rfl

/-- Window 15's block index at the one point is zero on every axis. -/
theorem idx_zero15 : ∀ t : Fin cfg0.N, win0_15.index t (0 : Fin 3) = 0 ∧ win0_15.index t (1 : Fin 3) = 0 ∧ win0_15.index t (2 : Fin 3) = 0 :=
  (by decide +kernel : ∀ t : Fin grid0.N, _)

/-- An index of window 15's block is the same index of its array. -/
theorem emb15 (t : Fin cfg0.N) (j : S13056x4x128.Idx) : ((cfg0.win 15).blk t).view.emb j = j := by
  obtain ⟨e0, e1, e2⟩ := idx_zero15 t
  funext a; apply Fin.ext
  match a with
  | ⟨0, _⟩ => show win0_15.index t (0 : Fin 3) * 13056 + 1 * (j 0).val = (j 0).val; omega
  | ⟨1, _⟩ => show win0_15.index t (1 : Fin 3) * 4 + 1 * (j 1).val = (j 1).val; omega
  | ⟨2, _⟩ => show win0_15.index t (2 : Fin 3) * 128 + 1 * (j 2).val = (j 2).val; omega

theorem hz16 : (![0, 0, 0] : Fin 3 → Nat) = fun _ => 0 := funext fun a => by fin_cases a <;> rfl

/-- Window 16's block index at the one point is zero on every axis. -/
theorem idx_zero16 : ∀ t : Fin cfg0.N, win0_16.index t (0 : Fin 3) = 0 ∧ win0_16.index t (1 : Fin 3) = 0 ∧ win0_16.index t (2 : Fin 3) = 0 :=
  (by decide +kernel : ∀ t : Fin grid0.N, _)

/-- An index of window 16's block is the same index of its array. -/
theorem emb16 (t : Fin cfg0.N) (j : S102x4x128.Idx) : ((cfg0.win 16).blk t).view.emb j = j := by
  obtain ⟨e0, e1, e2⟩ := idx_zero16 t
  funext a; apply Fin.ext
  match a with
  | ⟨0, _⟩ => show win0_16.index t (0 : Fin 3) * 102 + 1 * (j 0).val = (j 0).val; omega
  | ⟨1, _⟩ => show win0_16.index t (1 : Fin 3) * 4 + 1 * (j 1).val = (j 1).val; omega
  | ⟨2, _⟩ => show win0_16.index t (2 : Fin 3) * 128 + 1 * (j 2).val = (j 2).val; omega

/-! ### Output window 8: the array after the run -/

/-- What the window's array ends holding: `out0_8` applied to the argument arrays in place of the input blocks (a value that the
    frame states apart, `kK_payN a…`, keeps its loads inside its own definition). -/
abbrev G8 (a0 : Vec F S6x2176x5376 .bf16) (a1 : Vec F S5376 .f32) (a2 : Vec F S5376x2048 .fp8e4m3) (a3 : Vec F S2048 .f32) (a4 : Vec F S128 .f32) (a5 : Vec F S128 .f32) (a6 : Vec F S6x2176x64 .f32) (a7 : Vec F S6x2176x64 .f32) : Vec F S13056x5376 .fp8e4m3 :=
  k0_pay3 a0 a1

/-- A load of the whole of a block reads the block, and the one store through the whole rectangle leaves its payload. -/
theorem out8_eq (a0 : Vec F S6x2176x5376 .bf16) (a1 : Vec F S5376 .f32) (a2 : Vec F S5376x2048 .fp8e4m3) (a3 : Vec F S2048 .f32) (a4 : Vec F S128 .f32) (a5 : Vec F S128 .f32) (a6 : Vec F S6x2176x64 .f32) (a7 : Vec F S6x2176x64 .f32) : out0_8 (F := F) a0 a1 a2 a3 a4 a5 a6 a7 = G8 a0 a1 a2 a3 a4 a5 a6 a7 := by
  unfold out0_8
  rw [View.canon_unit_zero hz8, View.ld_unit_zero (S := S6x2176x5376) hz0 _ a0, View.ld_unit_zero (S := S5376) hz1 _ a1]

/-- Cutting the point's block out of `X` and reading `X` through the block's view give the same. -/
theorem cut8_eq (t : Fin cfg0.N) (X : Vec F S13056x5376 .fp8e4m3) :
    (cfg0.win 8).cut (grid0.coords t) X = ((cfg0.win 8).blk t).view.read (Elt F) X := by
  funext j
  show X j = X (((cfg0.win 8).blk t).view.emb j)
  rw [emb8]

/-- WHAT THE POINT WRITES BACK is its block of `G8` of the argument arrays as the region finds them. -/
theorem flushed8_eq (c : Dev nD) (t : Fin cfg0.N) :
    (dats m 0 c).flushed 8 t = ((cfg0.win 8).blk t).view.read (Elt F) (G8 (V m c main_arg0) (V m c main_arg1) (V m c main_arg2) (V m c main_arg3) (V m c main_arg4) (V m c main_arg5) (V m c main_arg6) (V m c main_arg7)) := by
  show (cfg0.win 8).cut (grid0.coords t) ((dats m 0 c).after 8 t) = _
  rw [after0_8, out8_eq, iblk0_eq, iblk1_eq, iblk2_eq, iblk3_eq, iblk4_eq, iblk5_eq, iblk6_eq, iblk7_eq]
  exact cut8_eq t _

/-- Every index of the array is in the point's block. -/
theorem covered8 (i : S13056x5376.Idx) :
    ∃ t : Fin cfg0.N, (cfg0.win 8).flush t = true ∧ i ∈ ((cfg0.win 8).blk t).view.set :=
  ⟨(⟨0, by decide⟩ : Fin cfg0.N), flush0_8 _, by have h := ((cfg0.win 8).blk (⟨0, by decide⟩ : Fin cfg0.N)).view.emb_mem_set i; rwa [emb8] at h⟩

/-- THE ARRAY after the run: `G8` of the argument arrays as launched. -/
theorem final8 (c : Dev nD) : (dats m 0 c).arrAt 8 cfg0.N = G8 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  ((dats m 0 c).arrAt_eq_of_cover 8 (G8 (V m c main_arg0) (V m c main_arg1) (V m c main_arg2) (V m c main_arg3) (V m c main_arg4) (V m c main_arg5) (V m c main_arg6) (V m c main_arg7)) (fun t _ => flushed8_eq m c t) covered8).trans (by rw [V_main_arg0, V_main_arg1, V_main_arg2, V_main_arg3, V_main_arg4, V_main_arg5, V_main_arg6, V_main_arg7])

/-! ### Output window 9: the array after the run -/

/-- What the window's array ends holding: `out0_9` applied to the argument arrays in place of the input blocks (a value that the
    frame states apart, `kK_payN a…`, keeps its loads inside its own definition). -/
abbrev G9 (a0 : Vec F S6x2176x5376 .bf16) (a1 : Vec F S5376 .f32) (a2 : Vec F S5376x2048 .fp8e4m3) (a3 : Vec F S2048 .f32) (a4 : Vec F S128 .f32) (a5 : Vec F S128 .f32) (a6 : Vec F S6x2176x64 .f32) (a7 : Vec F S6x2176x64 .f32) : Vec F S102x1x128 .f32 :=
  k0_pay4 a0 a1

/-- A load of the whole of a block reads the block, and the one store through the whole rectangle leaves its payload. -/
theorem out9_eq (a0 : Vec F S6x2176x5376 .bf16) (a1 : Vec F S5376 .f32) (a2 : Vec F S5376x2048 .fp8e4m3) (a3 : Vec F S2048 .f32) (a4 : Vec F S128 .f32) (a5 : Vec F S128 .f32) (a6 : Vec F S6x2176x64 .f32) (a7 : Vec F S6x2176x64 .f32) : out0_9 (F := F) a0 a1 a2 a3 a4 a5 a6 a7 = G9 a0 a1 a2 a3 a4 a5 a6 a7 := by
  unfold out0_9
  rw [View.canon_unit_zero hz9, View.ld_unit_zero (S := S6x2176x5376) hz0 _ a0, View.ld_unit_zero (S := S5376) hz1 _ a1]

/-- Cutting the point's block out of `X` and reading `X` through the block's view give the same. -/
theorem cut9_eq (t : Fin cfg0.N) (X : Vec F S102x1x128 .f32) :
    (cfg0.win 9).cut (grid0.coords t) X = ((cfg0.win 9).blk t).view.read (Elt F) X := by
  funext j
  show X j = X (((cfg0.win 9).blk t).view.emb j)
  rw [emb9]

/-- WHAT THE POINT WRITES BACK is its block of `G9` of the argument arrays as the region finds them. -/
theorem flushed9_eq (c : Dev nD) (t : Fin cfg0.N) :
    (dats m 0 c).flushed 9 t = ((cfg0.win 9).blk t).view.read (Elt F) (G9 (V m c main_arg0) (V m c main_arg1) (V m c main_arg2) (V m c main_arg3) (V m c main_arg4) (V m c main_arg5) (V m c main_arg6) (V m c main_arg7)) := by
  show (cfg0.win 9).cut (grid0.coords t) ((dats m 0 c).after 9 t) = _
  rw [after0_9, out9_eq, iblk0_eq, iblk1_eq, iblk2_eq, iblk3_eq, iblk4_eq, iblk5_eq, iblk6_eq, iblk7_eq]
  exact cut9_eq t _

/-- Every index of the array is in the point's block. -/
theorem covered9 (i : S102x1x128.Idx) :
    ∃ t : Fin cfg0.N, (cfg0.win 9).flush t = true ∧ i ∈ ((cfg0.win 9).blk t).view.set :=
  ⟨(⟨0, by decide⟩ : Fin cfg0.N), flush0_9 _, by have h := ((cfg0.win 9).blk (⟨0, by decide⟩ : Fin cfg0.N)).view.emb_mem_set i; rwa [emb9] at h⟩

/-- THE ARRAY after the run: `G9` of the argument arrays as launched. -/
theorem final9 (c : Dev nD) : (dats m 0 c).arrAt 9 cfg0.N = G9 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  ((dats m 0 c).arrAt_eq_of_cover 9 (G9 (V m c main_arg0) (V m c main_arg1) (V m c main_arg2) (V m c main_arg3) (V m c main_arg4) (V m c main_arg5) (V m c main_arg6) (V m c main_arg7)) (fun t _ => flushed9_eq m c t) covered9).trans (by rw [V_main_arg0, V_main_arg1, V_main_arg2, V_main_arg3, V_main_arg4, V_main_arg5, V_main_arg6, V_main_arg7])

/-! ### Output window 10: the array after the run -/

/-- What the window's array ends holding: `out0_10` applied to the argument arrays in place of the input blocks (a value that the
    frame states apart, `kK_payN a…`, keeps its loads inside its own definition). -/
abbrev G10 (a0 : Vec F S6x2176x5376 .bf16) (a1 : Vec F S5376 .f32) (a2 : Vec F S5376x2048 .fp8e4m3) (a3 : Vec F S2048 .f32) (a4 : Vec F S128 .f32) (a5 : Vec F S128 .f32) (a6 : Vec F S6x2176x64 .f32) (a7 : Vec F S6x2176x64 .f32) : Vec F S1024x13056 .bf16 :=
  k0_pay18 (k0_pay10 (k0_pay23 a0 a1 a2 a3 a4 a5 a6 a7) (k0_pay24 a0 a1 a2 a3 a4 a5 a6 a7) a2 a3 a6 a7 a4)

/-- A load of the whole of a block reads the block, and the one store through the whole rectangle leaves its payload. -/
theorem out10_eq (a0 : Vec F S6x2176x5376 .bf16) (a1 : Vec F S5376 .f32) (a2 : Vec F S5376x2048 .fp8e4m3) (a3 : Vec F S2048 .f32) (a4 : Vec F S128 .f32) (a5 : Vec F S128 .f32) (a6 : Vec F S6x2176x64 .f32) (a7 : Vec F S6x2176x64 .f32) : out0_10 (F := F) a0 a1 a2 a3 a4 a5 a6 a7 = G10 a0 a1 a2 a3 a4 a5 a6 a7 := by
  unfold out0_10
  rw [View.canon_unit_zero hz10, View.ld_unit_zero (S := S5376x2048) hz2 _ a2, View.ld_unit_zero (S := S2048) hz3 _ a3, View.ld_unit_zero (S := S6x2176x64) hz6 _ a6, View.ld_unit_zero (S := S6x2176x64) hz7 _ a7, View.ld_unit_zero (S := S128) hz4 _ a4]

/-- Cutting the point's block out of `X` and reading `X` through the block's view give the same. -/
theorem cut10_eq (t : Fin cfg0.N) (X : Vec F S1024x13056 .bf16) :
    (cfg0.win 10).cut (grid0.coords t) X = ((cfg0.win 10).blk t).view.read (Elt F) X := by
  funext j
  show X j = X (((cfg0.win 10).blk t).view.emb j)
  rw [emb10]

/-- WHAT THE POINT WRITES BACK is its block of `G10` of the argument arrays as the region finds them. -/
theorem flushed10_eq (c : Dev nD) (t : Fin cfg0.N) :
    (dats m 0 c).flushed 10 t = ((cfg0.win 10).blk t).view.read (Elt F) (G10 (V m c main_arg0) (V m c main_arg1) (V m c main_arg2) (V m c main_arg3) (V m c main_arg4) (V m c main_arg5) (V m c main_arg6) (V m c main_arg7)) := by
  show (cfg0.win 10).cut (grid0.coords t) ((dats m 0 c).after 10 t) = _
  rw [after0_10, out10_eq, iblk0_eq, iblk1_eq, iblk2_eq, iblk3_eq, iblk4_eq, iblk5_eq, iblk6_eq, iblk7_eq]
  exact cut10_eq t _

/-- Every index of the array is in the point's block. -/
theorem covered10 (i : S1024x13056.Idx) :
    ∃ t : Fin cfg0.N, (cfg0.win 10).flush t = true ∧ i ∈ ((cfg0.win 10).blk t).view.set :=
  ⟨(⟨0, by decide⟩ : Fin cfg0.N), flush0_10 _, by have h := ((cfg0.win 10).blk (⟨0, by decide⟩ : Fin cfg0.N)).view.emb_mem_set i; rwa [emb10] at h⟩

/-- THE ARRAY after the run: `G10` of the argument arrays as launched. -/
theorem final10 (c : Dev nD) : (dats m 0 c).arrAt 10 cfg0.N = G10 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  ((dats m 0 c).arrAt_eq_of_cover 10 (G10 (V m c main_arg0) (V m c main_arg1) (V m c main_arg2) (V m c main_arg3) (V m c main_arg4) (V m c main_arg5) (V m c main_arg6) (V m c main_arg7)) (fun t _ => flushed10_eq m c t) covered10).trans (by rw [V_main_arg0, V_main_arg1, V_main_arg2, V_main_arg3, V_main_arg4, V_main_arg5, V_main_arg6, V_main_arg7])

/-! ### Output window 11: the array after the run -/

/-- What the window's array ends holding: `out0_11` applied to the argument arrays in place of the input blocks (a value that the
    frame states apart, `kK_payN a…`, keeps its loads inside its own definition). -/
abbrev G11 (a0 : Vec F S6x2176x5376 .bf16) (a1 : Vec F S5376 .f32) (a2 : Vec F S5376x2048 .fp8e4m3) (a3 : Vec F S2048 .f32) (a4 : Vec F S128 .f32) (a5 : Vec F S128 .f32) (a6 : Vec F S6x2176x64 .f32) (a7 : Vec F S6x2176x64 .f32) : Vec F S4x13056x128 .bf16 :=
  k0_pay19 (k0_pay29 a0 a1 a2 a3 a4 a5 a6 a7)

/-- The one store through the whole rectangle leaves its payload. -/
theorem out11_eq (a0 : Vec F S6x2176x5376 .bf16) (a1 : Vec F S5376 .f32) (a2 : Vec F S5376x2048 .fp8e4m3) (a3 : Vec F S2048 .f32) (a4 : Vec F S128 .f32) (a5 : Vec F S128 .f32) (a6 : Vec F S6x2176x64 .f32) (a7 : Vec F S6x2176x64 .f32) : out0_11 (F := F) a0 a1 a2 a3 a4 a5 a6 a7 = G11 a0 a1 a2 a3 a4 a5 a6 a7 := by
  unfold out0_11
  rw [View.canon_unit_zero hz11]

/-- Cutting the point's block out of `X` and reading `X` through the block's view give the same. -/
theorem cut11_eq (t : Fin cfg0.N) (X : Vec F S4x13056x128 .bf16) :
    (cfg0.win 11).cut (grid0.coords t) X = ((cfg0.win 11).blk t).view.read (Elt F) X := by
  funext j
  show X j = X (((cfg0.win 11).blk t).view.emb j)
  rw [emb11]

/-- WHAT THE POINT WRITES BACK is its block of `G11` of the argument arrays as the region finds them. -/
theorem flushed11_eq (c : Dev nD) (t : Fin cfg0.N) :
    (dats m 0 c).flushed 11 t = ((cfg0.win 11).blk t).view.read (Elt F) (G11 (V m c main_arg0) (V m c main_arg1) (V m c main_arg2) (V m c main_arg3) (V m c main_arg4) (V m c main_arg5) (V m c main_arg6) (V m c main_arg7)) := by
  show (cfg0.win 11).cut (grid0.coords t) ((dats m 0 c).after 11 t) = _
  rw [after0_11, out11_eq, iblk0_eq, iblk1_eq, iblk2_eq, iblk3_eq, iblk4_eq, iblk5_eq, iblk6_eq, iblk7_eq]
  exact cut11_eq t _

/-- Every index of the array is in the point's block. -/
theorem covered11 (i : S4x13056x128.Idx) :
    ∃ t : Fin cfg0.N, (cfg0.win 11).flush t = true ∧ i ∈ ((cfg0.win 11).blk t).view.set :=
  ⟨(⟨0, by decide⟩ : Fin cfg0.N), flush0_11 _, by have h := ((cfg0.win 11).blk (⟨0, by decide⟩ : Fin cfg0.N)).view.emb_mem_set i; rwa [emb11] at h⟩

/-- THE ARRAY after the run: `G11` of the argument arrays as launched. -/
theorem final11 (c : Dev nD) : (dats m 0 c).arrAt 11 cfg0.N = G11 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  ((dats m 0 c).arrAt_eq_of_cover 11 (G11 (V m c main_arg0) (V m c main_arg1) (V m c main_arg2) (V m c main_arg3) (V m c main_arg4) (V m c main_arg5) (V m c main_arg6) (V m c main_arg7)) (fun t _ => flushed11_eq m c t) covered11).trans (by rw [V_main_arg0, V_main_arg1, V_main_arg2, V_main_arg3, V_main_arg4, V_main_arg5, V_main_arg6, V_main_arg7])

/-! ### Output window 12: the array after the run -/

/-- What the window's array ends holding: `out0_12` applied to the argument arrays in place of the input blocks (a value that the
    frame states apart, `kK_payN a…`, keeps its loads inside its own definition). -/
abbrev G12 (a0 : Vec F S6x2176x5376 .bf16) (a1 : Vec F S5376 .f32) (a2 : Vec F S5376x2048 .fp8e4m3) (a3 : Vec F S2048 .f32) (a4 : Vec F S128 .f32) (a5 : Vec F S128 .f32) (a6 : Vec F S6x2176x64 .f32) (a7 : Vec F S6x2176x64 .f32) : Vec F S4x128x13056 .bf16 :=
  k0_pay20 (k0_pay26 a0 a1 a2 a3 a4 a5 a6 a7) (k0_pay30 a0 a1 a2 a3 a4 a5 a6 a7) (k0_pay31 a0 a1 a2 a3 a4 a5 a6 a7)

/-- The one store through the whole rectangle leaves its payload. -/
theorem out12_eq (a0 : Vec F S6x2176x5376 .bf16) (a1 : Vec F S5376 .f32) (a2 : Vec F S5376x2048 .fp8e4m3) (a3 : Vec F S2048 .f32) (a4 : Vec F S128 .f32) (a5 : Vec F S128 .f32) (a6 : Vec F S6x2176x64 .f32) (a7 : Vec F S6x2176x64 .f32) : out0_12 (F := F) a0 a1 a2 a3 a4 a5 a6 a7 = G12 a0 a1 a2 a3 a4 a5 a6 a7 := by
  unfold out0_12
  rw [View.canon_unit_zero hz12]

/-- Cutting the point's block out of `X` and reading `X` through the block's view give the same. -/
theorem cut12_eq (t : Fin cfg0.N) (X : Vec F S4x128x13056 .bf16) :
    (cfg0.win 12).cut (grid0.coords t) X = ((cfg0.win 12).blk t).view.read (Elt F) X := by
  funext j
  show X j = X (((cfg0.win 12).blk t).view.emb j)
  rw [emb12]

/-- WHAT THE POINT WRITES BACK is its block of `G12` of the argument arrays as the region finds them. -/
theorem flushed12_eq (c : Dev nD) (t : Fin cfg0.N) :
    (dats m 0 c).flushed 12 t = ((cfg0.win 12).blk t).view.read (Elt F) (G12 (V m c main_arg0) (V m c main_arg1) (V m c main_arg2) (V m c main_arg3) (V m c main_arg4) (V m c main_arg5) (V m c main_arg6) (V m c main_arg7)) := by
  show (cfg0.win 12).cut (grid0.coords t) ((dats m 0 c).after 12 t) = _
  rw [after0_12, out12_eq, iblk0_eq, iblk1_eq, iblk2_eq, iblk3_eq, iblk4_eq, iblk5_eq, iblk6_eq, iblk7_eq]
  exact cut12_eq t _

/-- Every index of the array is in the point's block. -/
theorem covered12 (i : S4x128x13056.Idx) :
    ∃ t : Fin cfg0.N, (cfg0.win 12).flush t = true ∧ i ∈ ((cfg0.win 12).blk t).view.set :=
  ⟨(⟨0, by decide⟩ : Fin cfg0.N), flush0_12 _, by have h := ((cfg0.win 12).blk (⟨0, by decide⟩ : Fin cfg0.N)).view.emb_mem_set i; rwa [emb12] at h⟩

/-- THE ARRAY after the run: `G12` of the argument arrays as launched. -/
theorem final12 (c : Dev nD) : (dats m 0 c).arrAt 12 cfg0.N = G12 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  ((dats m 0 c).arrAt_eq_of_cover 12 (G12 (V m c main_arg0) (V m c main_arg1) (V m c main_arg2) (V m c main_arg3) (V m c main_arg4) (V m c main_arg5) (V m c main_arg6) (V m c main_arg7)) (fun t _ => flushed12_eq m c t) covered12).trans (by rw [V_main_arg0, V_main_arg1, V_main_arg2, V_main_arg3, V_main_arg4, V_main_arg5, V_main_arg6, V_main_arg7])

/-! ### Output window 13: the array after the run -/

/-- What the window's array ends holding: `out0_13` applied to the argument arrays in place of the input blocks (a value that the
    frame states apart, `kK_payN a…`, keeps its loads inside its own definition). -/
abbrev G13 (a0 : Vec F S6x2176x5376 .bf16) (a1 : Vec F S5376 .f32) (a2 : Vec F S5376x2048 .fp8e4m3) (a3 : Vec F S2048 .f32) (a4 : Vec F S128 .f32) (a5 : Vec F S128 .f32) (a6 : Vec F S6x2176x64 .f32) (a7 : Vec F S6x2176x64 .f32) : Vec F S13056x4x128 .fp8e4m3 :=
  k0_pay29 a0 a1 a2 a3 a4 a5 a6 a7

/-- The one store through the whole rectangle leaves its payload. -/
theorem out13_eq (a0 : Vec F S6x2176x5376 .bf16) (a1 : Vec F S5376 .f32) (a2 : Vec F S5376x2048 .fp8e4m3) (a3 : Vec F S2048 .f32) (a4 : Vec F S128 .f32) (a5 : Vec F S128 .f32) (a6 : Vec F S6x2176x64 .f32) (a7 : Vec F S6x2176x64 .f32) : out0_13 (F := F) a0 a1 a2 a3 a4 a5 a6 a7 = G13 a0 a1 a2 a3 a4 a5 a6 a7 := by
  unfold out0_13
  rw [View.canon_unit_zero hz13]

/-- Cutting the point's block out of `X` and reading `X` through the block's view give the same. -/
theorem cut13_eq (t : Fin cfg0.N) (X : Vec F S13056x4x128 .fp8e4m3) :
    (cfg0.win 13).cut (grid0.coords t) X = ((cfg0.win 13).blk t).view.read (Elt F) X := by
  funext j
  show X j = X (((cfg0.win 13).blk t).view.emb j)
  rw [emb13]

/-- WHAT THE POINT WRITES BACK is its block of `G13` of the argument arrays as the region finds them. -/
theorem flushed13_eq (c : Dev nD) (t : Fin cfg0.N) :
    (dats m 0 c).flushed 13 t = ((cfg0.win 13).blk t).view.read (Elt F) (G13 (V m c main_arg0) (V m c main_arg1) (V m c main_arg2) (V m c main_arg3) (V m c main_arg4) (V m c main_arg5) (V m c main_arg6) (V m c main_arg7)) := by
  show (cfg0.win 13).cut (grid0.coords t) ((dats m 0 c).after 13 t) = _
  rw [after0_13, out13_eq, iblk0_eq, iblk1_eq, iblk2_eq, iblk3_eq, iblk4_eq, iblk5_eq, iblk6_eq, iblk7_eq]
  exact cut13_eq t _

/-- Every index of the array is in the point's block. -/
theorem covered13 (i : S13056x4x128.Idx) :
    ∃ t : Fin cfg0.N, (cfg0.win 13).flush t = true ∧ i ∈ ((cfg0.win 13).blk t).view.set :=
  ⟨(⟨0, by decide⟩ : Fin cfg0.N), flush0_13 _, by have h := ((cfg0.win 13).blk (⟨0, by decide⟩ : Fin cfg0.N)).view.emb_mem_set i; rwa [emb13] at h⟩

/-- THE ARRAY after the run: `G13` of the argument arrays as launched. -/
theorem final13 (c : Dev nD) : (dats m 0 c).arrAt 13 cfg0.N = G13 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  ((dats m 0 c).arrAt_eq_of_cover 13 (G13 (V m c main_arg0) (V m c main_arg1) (V m c main_arg2) (V m c main_arg3) (V m c main_arg4) (V m c main_arg5) (V m c main_arg6) (V m c main_arg7)) (fun t _ => flushed13_eq m c t) covered13).trans (by rw [V_main_arg0, V_main_arg1, V_main_arg2, V_main_arg3, V_main_arg4, V_main_arg5, V_main_arg6, V_main_arg7])

/-! ### Output window 14: the array after the run -/

/-- What the window's array ends holding: `out0_14` applied to the argument arrays in place of the input blocks (a value that the
    frame states apart, `kK_payN a…`, keeps its loads inside its own definition). -/
abbrev G14 (a0 : Vec F S6x2176x5376 .bf16) (a1 : Vec F S5376 .f32) (a2 : Vec F S5376x2048 .fp8e4m3) (a3 : Vec F S2048 .f32) (a4 : Vec F S128 .f32) (a5 : Vec F S128 .f32) (a6 : Vec F S6x2176x64 .f32) (a7 : Vec F S6x2176x64 .f32) : Vec F S102x4x128 .f32 :=
  k0_pay21 (k0_pay12 (k0_pay25 a0 a1 a2 a3 a4 a5 a6 a7) (k0_pay27 a0 a1 a2 a3 a4 a5 a6 a7) (k0_pay28 a0 a1 a2 a3 a4 a5 a6 a7) a5)

/-- A load of the whole of a block reads the block, and the one store through the whole rectangle leaves its payload. -/
theorem out14_eq (a0 : Vec F S6x2176x5376 .bf16) (a1 : Vec F S5376 .f32) (a2 : Vec F S5376x2048 .fp8e4m3) (a3 : Vec F S2048 .f32) (a4 : Vec F S128 .f32) (a5 : Vec F S128 .f32) (a6 : Vec F S6x2176x64 .f32) (a7 : Vec F S6x2176x64 .f32) : out0_14 (F := F) a0 a1 a2 a3 a4 a5 a6 a7 = G14 a0 a1 a2 a3 a4 a5 a6 a7 := by
  unfold out0_14
  rw [View.canon_unit_zero hz14, View.ld_unit_zero (S := S128) hz5 _ a5]

/-- Cutting the point's block out of `X` and reading `X` through the block's view give the same. -/
theorem cut14_eq (t : Fin cfg0.N) (X : Vec F S102x4x128 .f32) :
    (cfg0.win 14).cut (grid0.coords t) X = ((cfg0.win 14).blk t).view.read (Elt F) X := by
  funext j
  show X j = X (((cfg0.win 14).blk t).view.emb j)
  rw [emb14]

/-- WHAT THE POINT WRITES BACK is its block of `G14` of the argument arrays as the region finds them. -/
theorem flushed14_eq (c : Dev nD) (t : Fin cfg0.N) :
    (dats m 0 c).flushed 14 t = ((cfg0.win 14).blk t).view.read (Elt F) (G14 (V m c main_arg0) (V m c main_arg1) (V m c main_arg2) (V m c main_arg3) (V m c main_arg4) (V m c main_arg5) (V m c main_arg6) (V m c main_arg7)) := by
  show (cfg0.win 14).cut (grid0.coords t) ((dats m 0 c).after 14 t) = _
  rw [after0_14, out14_eq, iblk0_eq, iblk1_eq, iblk2_eq, iblk3_eq, iblk4_eq, iblk5_eq, iblk6_eq, iblk7_eq]
  exact cut14_eq t _

/-- Every index of the array is in the point's block. -/
theorem covered14 (i : S102x4x128.Idx) :
    ∃ t : Fin cfg0.N, (cfg0.win 14).flush t = true ∧ i ∈ ((cfg0.win 14).blk t).view.set :=
  ⟨(⟨0, by decide⟩ : Fin cfg0.N), flush0_14 _, by have h := ((cfg0.win 14).blk (⟨0, by decide⟩ : Fin cfg0.N)).view.emb_mem_set i; rwa [emb14] at h⟩

/-- THE ARRAY after the run: `G14` of the argument arrays as launched. -/
theorem final14 (c : Dev nD) : (dats m 0 c).arrAt 14 cfg0.N = G14 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  ((dats m 0 c).arrAt_eq_of_cover 14 (G14 (V m c main_arg0) (V m c main_arg1) (V m c main_arg2) (V m c main_arg3) (V m c main_arg4) (V m c main_arg5) (V m c main_arg6) (V m c main_arg7)) (fun t _ => flushed14_eq m c t) covered14).trans (by rw [V_main_arg0, V_main_arg1, V_main_arg2, V_main_arg3, V_main_arg4, V_main_arg5, V_main_arg6, V_main_arg7])

/-! ### Output window 15: the array after the run -/

/-- What the window's array ends holding: `out0_15` applied to the argument arrays in place of the input blocks (a value that the
    frame states apart, `kK_payN a…`, keeps its loads inside its own definition). -/
abbrev G15 (a0 : Vec F S6x2176x5376 .bf16) (a1 : Vec F S5376 .f32) (a2 : Vec F S5376x2048 .fp8e4m3) (a3 : Vec F S2048 .f32) (a4 : Vec F S128 .f32) (a5 : Vec F S128 .f32) (a6 : Vec F S6x2176x64 .f32) (a7 : Vec F S6x2176x64 .f32) : Vec F S13056x4x128 .fp8e4m3 :=
  k0_pay17 (k0_pay26 a0 a1 a2 a3 a4 a5 a6 a7) (k0_pay30 a0 a1 a2 a3 a4 a5 a6 a7) (k0_pay31 a0 a1 a2 a3 a4 a5 a6 a7)

/-- The one store through the whole rectangle leaves its payload. -/
theorem out15_eq (a0 : Vec F S6x2176x5376 .bf16) (a1 : Vec F S5376 .f32) (a2 : Vec F S5376x2048 .fp8e4m3) (a3 : Vec F S2048 .f32) (a4 : Vec F S128 .f32) (a5 : Vec F S128 .f32) (a6 : Vec F S6x2176x64 .f32) (a7 : Vec F S6x2176x64 .f32) : out0_15 (F := F) a0 a1 a2 a3 a4 a5 a6 a7 = G15 a0 a1 a2 a3 a4 a5 a6 a7 := by
  unfold out0_15
  rw [View.canon_unit_zero hz15]

/-- Cutting the point's block out of `X` and reading `X` through the block's view give the same. -/
theorem cut15_eq (t : Fin cfg0.N) (X : Vec F S13056x4x128 .fp8e4m3) :
    (cfg0.win 15).cut (grid0.coords t) X = ((cfg0.win 15).blk t).view.read (Elt F) X := by
  funext j
  show X j = X (((cfg0.win 15).blk t).view.emb j)
  rw [emb15]

/-- WHAT THE POINT WRITES BACK is its block of `G15` of the argument arrays as the region finds them. -/
theorem flushed15_eq (c : Dev nD) (t : Fin cfg0.N) :
    (dats m 0 c).flushed 15 t = ((cfg0.win 15).blk t).view.read (Elt F) (G15 (V m c main_arg0) (V m c main_arg1) (V m c main_arg2) (V m c main_arg3) (V m c main_arg4) (V m c main_arg5) (V m c main_arg6) (V m c main_arg7)) := by
  show (cfg0.win 15).cut (grid0.coords t) ((dats m 0 c).after 15 t) = _
  rw [after0_15, out15_eq, iblk0_eq, iblk1_eq, iblk2_eq, iblk3_eq, iblk4_eq, iblk5_eq, iblk6_eq, iblk7_eq]
  exact cut15_eq t _

/-- Every index of the array is in the point's block. -/
theorem covered15 (i : S13056x4x128.Idx) :
    ∃ t : Fin cfg0.N, (cfg0.win 15).flush t = true ∧ i ∈ ((cfg0.win 15).blk t).view.set :=
  ⟨(⟨0, by decide⟩ : Fin cfg0.N), flush0_15 _, by have h := ((cfg0.win 15).blk (⟨0, by decide⟩ : Fin cfg0.N)).view.emb_mem_set i; rwa [emb15] at h⟩

/-- THE ARRAY after the run: `G15` of the argument arrays as launched. -/
theorem final15 (c : Dev nD) : (dats m 0 c).arrAt 15 cfg0.N = G15 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  ((dats m 0 c).arrAt_eq_of_cover 15 (G15 (V m c main_arg0) (V m c main_arg1) (V m c main_arg2) (V m c main_arg3) (V m c main_arg4) (V m c main_arg5) (V m c main_arg6) (V m c main_arg7)) (fun t _ => flushed15_eq m c t) covered15).trans (by rw [V_main_arg0, V_main_arg1, V_main_arg2, V_main_arg3, V_main_arg4, V_main_arg5, V_main_arg6, V_main_arg7])

/-! ### Output window 16: the array after the run -/

/-- What the window's array ends holding: `out0_16` applied to the argument arrays in place of the input blocks (a value that the
    frame states apart, `kK_payN a…`, keeps its loads inside its own definition). -/
abbrev G16 (a0 : Vec F S6x2176x5376 .bf16) (a1 : Vec F S5376 .f32) (a2 : Vec F S5376x2048 .fp8e4m3) (a3 : Vec F S2048 .f32) (a4 : Vec F S128 .f32) (a5 : Vec F S128 .f32) (a6 : Vec F S6x2176x64 .f32) (a7 : Vec F S6x2176x64 .f32) : Vec F S102x4x128 .f32 :=
  k0_pay22 (k0_pay30 a0 a1 a2 a3 a4 a5 a6 a7) (k0_pay31 a0 a1 a2 a3 a4 a5 a6 a7)

/-- The one store through the whole rectangle leaves its payload. -/
theorem out16_eq (a0 : Vec F S6x2176x5376 .bf16) (a1 : Vec F S5376 .f32) (a2 : Vec F S5376x2048 .fp8e4m3) (a3 : Vec F S2048 .f32) (a4 : Vec F S128 .f32) (a5 : Vec F S128 .f32) (a6 : Vec F S6x2176x64 .f32) (a7 : Vec F S6x2176x64 .f32) : out0_16 (F := F) a0 a1 a2 a3 a4 a5 a6 a7 = G16 a0 a1 a2 a3 a4 a5 a6 a7 := by
  unfold out0_16
  rw [View.canon_unit_zero hz16]

/-- Cutting the point's block out of `X` and reading `X` through the block's view give the same. -/
theorem cut16_eq (t : Fin cfg0.N) (X : Vec F S102x4x128 .f32) :
    (cfg0.win 16).cut (grid0.coords t) X = ((cfg0.win 16).blk t).view.read (Elt F) X := by
  funext j
  show X j = X (((cfg0.win 16).blk t).view.emb j)
  rw [emb16]

/-- WHAT THE POINT WRITES BACK is its block of `G16` of the argument arrays as the region finds them. -/
theorem flushed16_eq (c : Dev nD) (t : Fin cfg0.N) :
    (dats m 0 c).flushed 16 t = ((cfg0.win 16).blk t).view.read (Elt F) (G16 (V m c main_arg0) (V m c main_arg1) (V m c main_arg2) (V m c main_arg3) (V m c main_arg4) (V m c main_arg5) (V m c main_arg6) (V m c main_arg7)) := by
  show (cfg0.win 16).cut (grid0.coords t) ((dats m 0 c).after 16 t) = _
  rw [after0_16, out16_eq, iblk0_eq, iblk1_eq, iblk2_eq, iblk3_eq, iblk4_eq, iblk5_eq, iblk6_eq, iblk7_eq]
  exact cut16_eq t _

/-- Every index of the array is in the point's block. -/
theorem covered16 (i : S102x4x128.Idx) :
    ∃ t : Fin cfg0.N, (cfg0.win 16).flush t = true ∧ i ∈ ((cfg0.win 16).blk t).view.set :=
  ⟨(⟨0, by decide⟩ : Fin cfg0.N), flush0_16 _, by have h := ((cfg0.win 16).blk (⟨0, by decide⟩ : Fin cfg0.N)).view.emb_mem_set i; rwa [emb16] at h⟩

/-- THE ARRAY after the run: `G16` of the argument arrays as launched. -/
theorem final16 (c : Dev nD) : (dats m 0 c).arrAt 16 cfg0.N = G16 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  ((dats m 0 c).arrAt_eq_of_cover 16 (G16 (V m c main_arg0) (V m c main_arg1) (V m c main_arg2) (V m c main_arg3) (V m c main_arg4) (V m c main_arg5) (V m c main_arg6) (V m c main_arg7)) (fun t _ => flushed16_eq m c t) covered16).trans (by rw [V_main_arg0, V_main_arg1, V_main_arg2, V_main_arg3, V_main_arg4, V_main_arg5, V_main_arg6, V_main_arg7])

/-! ## The run, read -/

/-- The frame run re-posted: each output array at its function of the arguments, the arguments unchanged. -/
theorem run : θ_run defs (onTc (τ := τ) (main (F := F))) ⟨m, fun _ => 0, ρ⟩ fun r => ∀ c : Dev nD,
      r.2.mem ((c : Thread nD τ).loc main_v0_0) = G8 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c : Thread nD τ).loc main_v0_1) = G9 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c : Thread nD τ).loc main_v0_2) = G10 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c : Thread nD τ).loc main_v0_3) = G11 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c : Thread nD τ).loc main_v0_4) = G12 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c : Thread nD τ).loc main_v0_5) = G13 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c : Thread nD τ).loc main_v0_6) = G14 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c : Thread nD τ).loc main_v0_7) = G15 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c : Thread nD τ).loc main_v0_8) = G16 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(post8 m r h c).trans (final8 m c),
      (post9 m r h c).trans (final9 m c),
      (post10 m r h c).trans (final10 m c),
      (post11 m r h c).trans (final11 m c),
      (post12 m r h c).trans (final12 m c),
      (post13 m r h c).trans (final13 m c),
      (post14 m r h c).trans (final14 m c),
      (post15 m r h c).trans (final15 m c),
      (post16 m r h c).trans (final16 m c),
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c⟩)
    (run_main m ρ)

end Cert.ReferenceIdeal.Value

end
-- ==== Proof.RowMath.lean ====
/- The arithmetic of one row, over the extended reals, that both sides of the claims share: the root mean square a
   row is divided by, and the scale a row is quantised with. Neither is ever zero, so multiplying by the reciprocal
   (as the kernels do) is dividing (as the references do), at the infinities too. -/
module

public import Idealize.ShloMosaic.Lib.IdealHost
public import Idealize.ShloMosaic.Lib.Pointwise

@[expose] public section

noncomputable section

namespace Cert.Row

open Idealize.ShloMosaic

/-- A square of an extended real is not negative. -/
theorem mul_self_nonneg (x : EReal) : 0 ≤ x * x := by
  induction x using EReal.rec with
  | bot => simp
  | top => simp
  | coe r => rw [← EReal.coe_mul]; exact EReal.coe_nonneg.mpr (_root_.mul_self_nonneg r)

/-- The square root of a positive extended real is not zero. -/
theorem sqrt_ne_zero {x : EReal} (h : 0 < x) : Ideal.sqrt x ≠ 0 := by
  induction x using EReal.rec with
  | bot => simp at h
  | top => exact EReal.top_ne_zero
  | coe r =>
    have hr : 0 < r := EReal.coe_pos.mp h
    have h2 : Ideal.sqrt (r : EReal) = ((Real.sqrt r : ℝ) : EReal) := by
      show (if r < 0 then (⊥ : EReal) else _) = _
      rw [if_neg (not_lt.mpr hr.le)]
    rw [h2]
    exact_mod_cast (Real.sqrt_pos.mpr hr).ne'

/-- The constant added under the square root: a positive real. -/
theorem eps_pos : ∃ r : ℝ, 0 < r ∧ Ideal.ofBits .f32 0x358637BD#32 = (r : EReal) := by
  refine ⟨_, ?_, by simp only [Ideal.ofBits, Ideal.ieee]; rw [if_neg (by decide), if_neg (by decide)]⟩
  have h : ¬ ((BitVec.extractLsb' (8 + 23) 1 0x358637BD#32 == 1#1) = true) := by decide
  simp only [if_neg h]
  positivity

/-- The width of a row of activations, a positive real. -/
theorem width_pos : ∃ r : ℝ, 0 < r ∧ Ideal.ofBits .f32 0x45A80000#32 = (r : EReal) := by
  refine ⟨_, ?_, by simp only [Ideal.ofBits, Ideal.ieee]; rw [if_neg (by decide), if_neg (by decide)]⟩
  have h : ¬ ((BitVec.extractLsb' (8 + 23) 1 0x45A80000#32 == 1#1) = true) := by decide
  simp only [if_neg h]
  positivity

/-- The width of a head, a positive real. -/
theorem head_pos : ∃ r : ℝ, 0 < r ∧ Ideal.ofBits .f32 0x43000000#32 = (r : EReal) := by
  refine ⟨_, ?_, by simp only [Ideal.ofBits, Ideal.ieee]; rw [if_neg (by decide), if_neg (by decide)]⟩
  have h : ¬ ((BitVec.extractLsb' (8 + 23) 1 0x43000000#32 == 1#1) = true) := by decide
  simp only [if_neg h]
  positivity

/-- The largest code, a positive real. -/
theorem code_pos : ∃ r : ℝ, 0 < r ∧ Ideal.ofBits .f32 0x43E00000#32 = (r : EReal) := by
  refine ⟨_, ?_, by simp only [Ideal.ofBits, Ideal.ieee]; rw [if_neg (by decide), if_neg (by decide)]⟩
  have h : ¬ ((BitVec.extractLsb' (8 + 23) 1 0x43E00000#32 == 1#1) = true) := by decide
  simp only [if_neg h]
  positivity

/-- What a row `p` is divided by: the root of its mean square (over the count `n`) plus `e`. -/
def rms {N : ℕ} (n : EReal) (p : Fin N → EReal) : EReal :=
  Ideal.sqrt (Ideal.div (∑ k, p k * p k) n + Ideal.ofBits .f32 0x358637BD#32)

/-- The root mean square is not zero. -/
theorem rms_ne_zero {N : ℕ} {n : EReal} (hn : ∃ r : ℝ, 0 < r ∧ n = (r : EReal)) (p : Fin N → EReal) : rms n p ≠ 0 := by
  obtain ⟨r, hr, rfl⟩ := hn
  obtain ⟨e, he, hE⟩ := eps_pos
  unfold rms
  rw [hE, Ideal.div_coe hr.ne']
  refine sqrt_ne_zero ?_
  have h0 : (0 : EReal) ≤ (∑ k, p k * p k) * ((1 / r : ℝ) : EReal) :=
    mul_nonneg (Finset.sum_nonneg fun k _ => mul_self_nonneg (p k)) (EReal.coe_nonneg.mpr (by positivity))
  calc (0 : EReal) < (e : EReal) := EReal.coe_pos.mpr he
    _ ≤ _ := le_add_of_nonneg_left h0

/-- Multiplying by the reciprocal of the root mean square is dividing by it. -/
theorem mul_rms {N : ℕ} {n : EReal} (hn : ∃ r : ℝ, 0 < r ∧ n = (r : EReal)) (p : Fin N → EReal) (x : EReal) :
    x * Ideal.div 1 (rms n p) = Ideal.div x (rms n p) := Ideal.mul_one_div (rms_ne_zero hn p)

/-- The scale of a row whose largest magnitude is `a`: 1 for a row of zeros, else `a` over the largest code. -/
def scale (a : EReal) : EReal := if a = 0 then 1 else Ideal.div a (Ideal.ofBits .f32 0x43E00000#32)

/-- The scale is not zero. -/
theorem scale_ne_zero (a : EReal) : scale a ≠ 0 := by
  unfold scale
  split
  · exact one_ne_zero
  · rename_i h
    obtain ⟨r, hr, hR⟩ := code_pos
    rw [hR, Ideal.div_coe hr.ne']
    exact mul_ne_zero h (by exact_mod_cast (one_div_pos.mpr hr).ne')

/-- Multiplying by the reciprocal of the scale is dividing by it. -/
theorem mul_scale (a x : EReal) : x * Ideal.div 1 (scale a) = Ideal.div x (scale a) :=
  Ideal.mul_one_div (scale_ne_zero a)

end Cert.Row
-- ==== Proof.Amax.lean ====
/- The largest magnitude along one axis of an array, at an index. -/
module

public import proofs.«01_k».proof.Proof.RowMath
public import Idealize.ShloMosaic.Lib.Pointwise
public import Idealize.ShloMosaic.Lib.IdealHost

@[expose] public section

noncomputable section

namespace Cert.Row

open Idealize.ShloMosaic

/-- The largest magnitude of a row. -/
def amax {N : Nat} (p : Fin N → EReal) : EReal :=
  Finset.univ.fold max (Ideal.ofBits .f32 0xFF800000#32) fun k => FloatOps.absf (F := Ideal) (φ := .f32) (p k)

/-- Along the last of two axes. -/
theorem amax_last {R C : Nat} (v : FVec Ideal ⟨2, ![R, C]⟩ .f32) (h : (⟨2, ![R, C]⟩ : Shape).Reduces [1] ⟨1, ![R]⟩)
    (hφ : FKind.Formats .f32) (hacc : 0xFF800000#32 = FKind.maximumf.neutral .f32 hφ) (r : Fin R) :
    multiReduction .maximumf [1] ⟨1, ![R]⟩ (absf v) 0xFF800000#32 h hφ hacc (ix1 r) = amax fun k => v (ix2 r k) := by
  rw [multiReduction_maximumf_eq_fold]
  simp only [pointwise]
  rfl

/-- Along the first of two axes. -/
theorem amax_first {R C : Nat} (v : FVec Ideal ⟨2, ![R, C]⟩ .f32) (h : (⟨2, ![R, C]⟩ : Shape).Reduces [0] ⟨1, ![C]⟩)
    (hφ : FKind.Formats .f32) (hacc : 0xFF800000#32 = FKind.maximumf.neutral .f32 hφ) (c : Fin C) :
    multiReduction .maximumf [0] ⟨1, ![C]⟩ (absf v) 0xFF800000#32 h hφ hacc (ix1 c) = amax fun k => v (ix2 k c) := by
  rw [multiReduction_maximumf_eq_fold]
  simp only [pointwise]
  rfl

/-- Along the last of three axes. -/
theorem amax_third {A B C : Nat} (v : FVec Ideal ⟨3, ![A, B, C]⟩ .f32)
    (h : (⟨3, ![A, B, C]⟩ : Shape).Reduces [2] ⟨2, ![A, B]⟩) (hφ : FKind.Formats .f32)
    (hacc : 0xFF800000#32 = FKind.maximumf.neutral .f32 hφ) (a : Fin A) (b : Fin B) :
    multiReduction .maximumf [2] ⟨2, ![A, B]⟩ (absf v) 0xFF800000#32 h hφ hacc (ix2 a b) =
      amax fun k => v (ix3 a b k) := by
  rw [multiReduction_maximumf_eq_fold]
  simp only [pointwise]
  rfl

/-- The code of a value at a scale: their quotient, clipped. -/
def code (v s : EReal) : EReal :=
  min (Ideal.ofBits .f32 0x43E00000#32) (max (Ideal.ofBits .f32 0xC3E00000#32) (Ideal.div v s))

end Cert.Row

end
-- ==== Proof.QkvSpec.lean ====
/- The projection call's mathematics, one token row at a time: norm and quantise the row, project it, norm and rotate the
   heads, quantise the keys and the values. Plain functions of the arguments' elements. -/
module

public import proofs.«01_k».proof.Proof.Amax

@[expose] public section

noncomputable section

namespace Cert.Row

open Idealize.ShloMosaic

/-- A row, normed and multiplied by a gain. -/
def normed {N : Nat} (n : EReal) (p g : Fin N → EReal) (d : Fin N) : EReal := Ideal.div (p d) (rms n p) * g d

/-- A head, normed and rotated: its halves `a` and `b` become `a * cos - b * sin` and `b * cos + a * sin`. -/
def rotated (p g : Fin 128 → EReal) (c s : Fin 64 → EReal) (d : Fin 128) : EReal :=
  if h : d.val < 64 then
    normed (Ideal.ofBits .f32 0x43000000#32) p g d * c ⟨d.val, h⟩ -
      normed (Ideal.ofBits .f32 0x43000000#32) p g ⟨64 + d.val, by omega⟩ * s ⟨d.val, h⟩
  else
    normed (Ideal.ofBits .f32 0x43000000#32) p g d * c ⟨d.val - 64, by omega⟩ +
      normed (Ideal.ofBits .f32 0x43000000#32) p g ⟨d.val - 64, by omega⟩ * s ⟨d.val - 64, by omega⟩

/-- The scale of a row: its largest magnitude over 448, or one. -/
def rowScale {N : Nat} (p : Fin N → EReal) : EReal := scale (amax p)

/-- The code of a row's element. -/
def rowCode {N : Nat} (p : Fin N → EReal) (d : Fin N) : EReal := code (p d) (rowScale p)

/-- One column of the projection of a row: the product of the row's codes with the column of the weights, times the row's
    scale and the column's. -/
def projected {N : Nat} (p w : Fin N → EReal) (s : EReal) : EReal :=
  (∑ k, rowCode p k * w k) * (rowScale p * s)

end Cert.Row

end
-- ==== Proof.RefRows.lean ====
/- The reference's arrays as functions of whole arrays, each read at an index: rows, heads, scales and codes. -/
module

public import proofs.«01_k».proof.Proof.QkvSpec
public import proofs.«01_k».proof.Proof.Gen.ReferenceIdeal.Skeleton

@[expose] public section

set_option maxRecDepth 16384

noncomputable section

namespace Cert.ReferenceIdeal.Value

open Cert.ReferenceIdeal Cert.ReferenceIdeal.Gen Idealize.ShloMosaic

/-- The largest magnitudes of the rows of an array. -/
def amaxRows (h : FVec Ideal S13056x5376 .f32) : FVec Ideal S13056 .f32 :=
  multiReduction .maximumf [1] S13056 (absf h) 0xFF800000#32 reduces_S13056x5376_S13056 (.inl rfl) rfl

/-- The scales at these magnitudes. -/
def scaleRowsOf (a : FVec Ideal S13056 .f32) : FVec Ideal S13056x1 .f32 :=
  have v19 : FVec Ideal S13056x1 .f32 := shapeCast S13056x1 a shapeCasts_S13056_S13056x1
  have cst_6 : Ideal .f32 := Scalar.ofBits .f32 0x00000000#32
  have v20 : FVec Ideal S13056x1 .f32 := broadcast S13056x1 cst_6
  have v21 : IVec S13056x1 1 := cmpf .oeq v19 v20
  have cst_7 : Ideal .f32 := Scalar.ofBits .f32 0x43E00000#32
  have v22 : FVec Ideal S13056x1 .f32 := broadcast S13056x1 cst_7
  have v23 : FVec Ideal S13056x1 .f32 := divf v19 v22
  have cst_8 : Ideal .f32 := Scalar.ofBits .f32 0x3F800000#32
  have v24 : FVec Ideal S13056x1 .f32 := broadcast S13056x1 cst_8
  have v25 : FVec Ideal S13056x1 .f32 := select v21 v24 v23
  v25

/-- The codes of an array at its rows' scales. -/
def codeRows (h : FVec Ideal S13056x5376 .f32) (s : FVec Ideal S13056x1 .f32) : FVec Ideal S13056x5376 .fp8e4m3 :=
  have v26 : FVec Ideal S13056x5376 .f32 := broadcastTo S13056x5376 s broadcasts_S13056x1_S13056x5376
  have v27 : FVec Ideal S13056x5376 .f32 := divf h v26
  have cst_9 : Ideal .f32 := Scalar.ofBits .f32 0xC3E00000#32
  have cst_10 : Ideal .f32 := Scalar.ofBits .f32 0x43E00000#32
  have v28 : FVec Ideal S13056x5376 .f32 := broadcast S13056x5376 cst_9
  have v29 : FVec Ideal S13056x5376 .f32 := maximumf v28 v27
  have v30 : FVec Ideal S13056x5376 .f32 := broadcast S13056x5376 cst_10
  have v31 : FVec Ideal S13056x5376 .f32 := minimumf v30 v29
  have v32 : FVec Ideal S13056x5376 .fp8e4m3 := truncf .fp8e4m3 v31 bitsLt_fp8e4m3_f32
  v32

/-- The rows' scales in tiles of 128. -/
def tileRows (s : FVec Ideal S13056x1 .f32) : FVec Ideal S102x1x128 .f32 :=
  have v34 : FVec Ideal S102x128x1 .f32 := shapeCast S102x128x1 s shapeCasts_S13056x1_S102x128x1
  have v35 : FVec Ideal S102x1x128 .f32 := transpose S102x1x128 [0, 2, 1] v34 transposes_S102x128x1_p0_2_1_S102x1x128
  v35

/-- The first eight heads of the projected rows. -/
def headsQ (y : FVec Ideal S13056x2048 .f32) : FVec Ideal S13056x8x128 .f32 :=
  have v45 : FVec Ideal S13056x1024 .f32 := extractStridedSlice S13056x1024 ![0, 0] y slices_S13056x2048_o0_0_S13056x1024
  have v46 : FVec Ideal S13056x8x128 .f32 := shapeCast S13056x8x128 v45 shapeCasts_S13056x1024_S13056x8x128
  v46

/-- The four heads of keys. -/
def headsK (y : FVec Ideal S13056x2048 .f32) : FVec Ideal S13056x4x128 .f32 :=
  have v47 : FVec Ideal S13056x512 .f32 := extractStridedSlice S13056x512 ![0, 1024] y slices_S13056x2048_o0_1024_S13056x512
  have v48 : FVec Ideal S13056x4x128 .f32 := shapeCast S13056x4x128 v47 shapeCasts_S13056x512_S13056x4x128
  v48

/-- The four heads of values. -/
def headsV (y : FVec Ideal S13056x2048 .f32) : FVec Ideal S13056x4x128 .f32 :=
  have v49 : FVec Ideal S13056x512 .f32 := extractStridedSlice S13056x512 ![0, 1536] y slices_S13056x2048_o0_1536_S13056x512
  have v50 : FVec Ideal S13056x4x128 .f32 := shapeCast S13056x4x128 v49 shapeCasts_S13056x512_S13056x4x128
  v50

/-- Eight heads, normed and rotated. -/
def rotate8 (v46 : FVec Ideal S13056x8x128 .f32) (v52 v54 : FVec Ideal S13056x64 .f32) (v55 : Vec Ideal S128 .f32) : FVec Ideal S13056x8x128 .f32 :=
  have v56 : FVec Ideal S13056x8x128 .f32 := mulf v46 v46
  have v57 : FVec Ideal S13056x8 .f32 := multiReduction .add [2] S13056x8 v56 0x00000000#32 reduces_S13056x8x128_S13056x8 (.inl rfl) rfl
  have v58 : FVec Ideal S13056x8x1 .f32 := shapeCast S13056x8x1 v57 shapeCasts_S13056x8_S13056x8x1
  have cst_28 : Ideal .f32 := Scalar.ofBits .f32 0x43000000#32
  have v59 : FVec Ideal S13056x8x1 .f32 := broadcast S13056x8x1 cst_28
  have v60 : FVec Ideal S13056x8x1 .f32 := divf v58 v59
  have cst_29 : Ideal .f32 := Scalar.ofBits .f32 0x358637BD#32
  have v61 : FVec Ideal S13056x8x1 .f32 := broadcast S13056x8x1 cst_29
  have v62 : FVec Ideal S13056x8x1 .f32 := addf v60 v61
  have v63 : FVec Ideal S13056x8x1 .f32 := sqrt v62
  have v64 : FVec Ideal S13056x8x128 .f32 := broadcastTo S13056x8x128 v63 broadcasts_S13056x8x1_S13056x8x128
  have v65 : FVec Ideal S13056x8x128 .f32 := divf v46 v64
  have v66 : FVec Ideal S1x1x128 .f32 := shapeCast S1x1x128 v55 shapeCasts_S128_S1x1x128
  have v67 : FVec Ideal S13056x8x128 .f32 := broadcastTo S13056x8x128 v66 broadcasts_S1x1x128_S13056x8x128
  have v68 : FVec Ideal S13056x8x128 .f32 := mulf v65 v67
  have v69 : FVec Ideal S13056x8x64 .f32 := extractStridedSlice S13056x8x64 ![0, 0, 0] v68 slices_S13056x8x128_o0_0_0_S13056x8x64
  have v70 : FVec Ideal S13056x8x64 .f32 := extractStridedSlice S13056x8x64 ![0, 0, 64] v68 slices_S13056x8x128_o0_0_64_S13056x8x64
  have v71 : FVec Ideal S13056x1x64 .f32 := shapeCast S13056x1x64 v52 shapeCasts_S13056x64_S13056x1x64
  have v72 : FVec Ideal S13056x1x64 .f32 := shapeCast S13056x1x64 v54 shapeCasts_S13056x64_S13056x1x64
  have v73 : FVec Ideal S13056x8x64 .f32 := broadcastTo S13056x8x64 v71 broadcasts_S13056x1x64_S13056x8x64
  have v74 : FVec Ideal S13056x8x64 .f32 := mulf v69 v73
  have v75 : FVec Ideal S13056x8x64 .f32 := broadcastTo S13056x8x64 v72 broadcasts_S13056x1x64_S13056x8x64
  have v76 : FVec Ideal S13056x8x64 .f32 := mulf v70 v75
  have v77 : FVec Ideal S13056x8x64 .f32 := subf v74 v76
  have v78 : FVec Ideal S13056x8x64 .f32 := broadcastTo S13056x8x64 v71 broadcasts_S13056x1x64_S13056x8x64
  have v79 : FVec Ideal S13056x8x64 .f32 := mulf v70 v78
  have v80 : FVec Ideal S13056x8x64 .f32 := broadcastTo S13056x8x64 v72 broadcasts_S13056x1x64_S13056x8x64
  have v81 : FVec Ideal S13056x8x64 .f32 := mulf v69 v80
  have v82 : FVec Ideal S13056x8x64 .f32 := addf v79 v81
  have v83 : FVec Ideal S13056x8x128 .f32 := concatenate S13056x8x128 2 [⟨S13056x8x64, v77⟩, ⟨S13056x8x64, v82⟩] concatenates_S13056x8x64_S13056x8x64_S13056x8x128_d2
  v83

/-- The largest magnitudes of four heads. -/
def amax4 (h : FVec Ideal S13056x4x128 .f32) : FVec Ideal S13056x4 .f32 :=
  multiReduction .maximumf [2] S13056x4 (absf h) 0xFF800000#32 reduces_S13056x4x128_S13056x4 (.inl rfl) rfl

/-- The scales at these magnitudes. -/
def scale4Of (a : FVec Ideal S13056x4 .f32) : FVec Ideal S13056x4x1 .f32 :=
  have v115 : FVec Ideal S13056x4x1 .f32 := shapeCast S13056x4x1 a shapeCasts_S13056x4_S13056x4x1
  have cst_35 : Ideal .f32 := Scalar.ofBits .f32 0x00000000#32
  have v116 : FVec Ideal S13056x4x1 .f32 := broadcast S13056x4x1 cst_35
  have v117 : IVec S13056x4x1 1 := cmpf .oeq v115 v116
  have cst_36 : Ideal .f32 := Scalar.ofBits .f32 0x43E00000#32
  have v118 : FVec Ideal S13056x4x1 .f32 := broadcast S13056x4x1 cst_36
  have v119 : FVec Ideal S13056x4x1 .f32 := divf v115 v118
  have cst_37 : Ideal .f32 := Scalar.ofBits .f32 0x3F800000#32
  have v120 : FVec Ideal S13056x4x1 .f32 := broadcast S13056x4x1 cst_37
  have v121 : FVec Ideal S13056x4x1 .f32 := select v117 v120 v119
  v121

/-- The codes of four heads at their scales. -/
def code4 (h : FVec Ideal S13056x4x128 .f32) (s : FVec Ideal S13056x4x1 .f32) : FVec Ideal S13056x4x128 .fp8e4m3 :=
  have v122 : FVec Ideal S13056x4x128 .f32 := broadcastTo S13056x4x128 s broadcasts_S13056x4x1_S13056x4x128
  have v123 : FVec Ideal S13056x4x128 .f32 := divf h v122
  have cst_38 : Ideal .f32 := Scalar.ofBits .f32 0xC3E00000#32
  have cst_39 : Ideal .f32 := Scalar.ofBits .f32 0x43E00000#32
  have v124 : FVec Ideal S13056x4x128 .f32 := broadcast S13056x4x128 cst_38
  have v125 : FVec Ideal S13056x4x128 .f32 := maximumf v124 v123
  have v126 : FVec Ideal S13056x4x128 .f32 := broadcast S13056x4x128 cst_39
  have v127 : FVec Ideal S13056x4x128 .f32 := minimumf v126 v125
  have v128 : FVec Ideal S13056x4x128 .fp8e4m3 := truncf .fp8e4m3 v127 bitsLt_fp8e4m3_f32
  v128

/-- The codes of the values, heads and features first. -/
def featuresFirst (c : FVec Ideal S13056x4x128 .fp8e4m3) : FVec Ideal S4x128x13056 .bf16 :=
  have v152 : FVec Ideal S13056x4x128 .bf16 := extf .bf16 c bitsLt_fp8e4m3_bf16
  have v153 : FVec Ideal S4x128x13056 .bf16 := transpose S4x128x13056 [1, 2, 0] v152 transposes_S13056x4x128_p1_2_0_S4x128x13056
  v153

theorem amaxRows_apply (h : FVec Ideal S13056x5376 .f32) (r : Fin 13056) :
    amaxRows h (ix1 r) = Row.amax fun d => h (ix2 r d) :=
  Row.amax_last h _ _ _ r

theorem scaleRowsOf_apply (a : FVec Ideal S13056 .f32) (r : Fin 13056) :
    scaleRowsOf a (ix2 r 0) = Row.scale (a (ix1 r)) := by
  pointwise [scaleRowsOf]
  rfl

theorem codeRows_apply (h : FVec Ideal S13056x5376 .f32) (s : FVec Ideal S13056x1 .f32) (r : Fin 13056) (d : Fin 5376) :
    codeRows h s (ix2 r d) = Row.code (h (ix2 r d)) (s (ix2 r 0)) := by
  pointwise [codeRows]
  rfl

theorem tileRows_apply (s : FVec Ideal S13056x1 .f32) (a : Fin 102) (b : Fin 128) :
    tileRows s (ix3 a 0 b) = s (ix2 ⟨a.val * 128 + b.val, by omega⟩ 0) := by
  pointwise [tileRows]

theorem headsQ_apply (y : FVec Ideal S13056x2048 .f32) (r : Fin 13056) (i : Fin 8) (d : Fin 128) :
    headsQ y (ix3 r i d) = y (ix2 r ⟨i.val * 128 + d.val, by omega⟩) := by
  pointwise [headsQ]

theorem headsK_apply (y : FVec Ideal S13056x2048 .f32) (r : Fin 13056) (i : Fin 4) (d : Fin 128) :
    headsK y (ix3 r i d) = y (ix2 r ⟨1024 + (i.val * 128 + d.val), by omega⟩) := by
  pointwise [headsK]

theorem headsV_apply (y : FVec Ideal S13056x2048 .f32) (r : Fin 13056) (i : Fin 4) (d : Fin 128) :
    headsV y (ix3 r i d) = y (ix2 r ⟨1536 + (i.val * 128 + d.val), by omega⟩) := by
  pointwise [headsV]

theorem rotate8_apply (t : FVec Ideal S13056x8x128 .f32) (c s : FVec Ideal S13056x64 .f32) (g : Vec Ideal S128 .f32)
    (r : Fin 13056) (i : Fin 8) (d : Fin 128) :
    rotate8 t c s g (ix3 r i d) = Row.rotated (fun d => t (ix3 r i d)) (fun d => g (ix1 d)) (fun d => c (ix2 r d))
      (fun d => s (ix2 r d)) d := by
  pointwise [rotate8, Row.rotated, Row.normed, Row.rms]
  refine dite_congr rfl (fun _ => rfl) fun h => ?_
  have e : ∀ h', (⟨64 + (d.val - 64), h'⟩ : Fin 128) = d := fun _ => Fin.ext (by simp at h ⊢; omega)
  simp only [e]

theorem rotate4_apply (t : FVec Ideal S13056x4x128 .f32) (c s : FVec Ideal S13056x64 .f32) (g : Vec Ideal S128 .f32)
    (r : Fin 13056) (i : Fin 4) (d : Fin 128) :
    k0_pay11 t c s g (ix3 r i d) = Row.rotated (fun d => t (ix3 r i d)) (fun d => g (ix1 d)) (fun d => c (ix2 r d))
      (fun d => s (ix2 r d)) d := by
  pointwise [k0_pay11, Row.rotated, Row.normed, Row.rms]
  refine dite_congr rfl (fun _ => rfl) fun h => ?_
  have e : ∀ h', (⟨64 + (d.val - 64), h'⟩ : Fin 128) = d := fun _ => Fin.ext (by simp at h ⊢; omega)
  simp only [e]

theorem amax4_apply (h : FVec Ideal S13056x4x128 .f32) (r : Fin 13056) (i : Fin 4) :
    amax4 h (ix2 r i) = Row.amax fun d => h (ix3 r i d) :=
  Row.amax_third h _ _ _ r i

theorem scale4Of_apply (a : FVec Ideal S13056x4 .f32) (r : Fin 13056) (i : Fin 4) :
    scale4Of a (ix3 r i 0) = Row.scale (a (ix2 r i)) := by
  pointwise [scale4Of]
  rfl

theorem code4_apply (h : FVec Ideal S13056x4x128 .f32) (s : FVec Ideal S13056x4x1 .f32) (r : Fin 13056) (i : Fin 4)
    (d : Fin 128) : code4 h s (ix3 r i d) = Row.code (h (ix3 r i d)) (s (ix3 r i 0)) := by
  pointwise [code4]
  rfl

theorem featuresFirst_apply (c : FVec Ideal S13056x4x128 .fp8e4m3) (r : Fin 13056) (i : Fin 4) (d : Fin 128) :
    featuresFirst c (ix3 i d r) = c (ix3 r i d) := by
  pointwise [featuresFirst]

end Cert.ReferenceIdeal.Value

end
-- ==== Proof.RefValue.lean ====
/- The reference's nine arrays at an index: the row arithmetic of the arguments' elements. -/
module

public import proofs.«01_k».proof.Proof.RefRows
public import proofs.«01_k».proof.Proof.RefRun

@[expose] public section

set_option maxRecDepth 16384

noncomputable section

namespace Cert.ReferenceIdeal.Value

open Cert.ReferenceIdeal Cert.ReferenceIdeal.Gen Idealize.ShloMosaic

variable (a0 : Vec Ideal S6x2176x5376 .bf16) (a1 : Vec Ideal S5376 .f32) (a2 : Vec Ideal S5376x2048 .fp8e4m3)
  (a3 : Vec Ideal S2048 .f32) (a4 a5 : Vec Ideal S128 .f32) (a6 a7 : Vec Ideal S6x2176x64 .f32)

/-! ## The row arithmetic of the arguments -/

/-- A token's row, normed. -/
def row (r : Fin 13056) : Fin 5376 → EReal :=
  Row.normed (Ideal.ofBits .f32 0x45A80000#32) (fun d => a0 (ix3 ⟨r.val / 2176, by omega⟩ ⟨r.val % 2176, by omega⟩ d))
    fun d => a1 (ix1 d)

/-- An element of the projected row. -/
def col (r : Fin 13056) (e : Fin 2048) : EReal :=
  Row.projected (row a0 a1 r) (fun k => a2 (ix2 k e)) (a3 (ix1 e))

/-- A token's row of a table of angles. -/
def angle (a : Vec Ideal S6x2176x64 .f32) (r : Fin 13056) (d : Fin 64) : EReal :=
  a (ix3 ⟨r.val / 2176, by omega⟩ ⟨r.val % 2176, by omega⟩ d)

/-- A head of the queries. -/
def headQ (r : Fin 13056) (i : Fin 8) : Fin 128 → EReal :=
  Row.rotated (fun d => col a0 a1 a2 a3 r ⟨i.val * 128 + d.val, by omega⟩) (fun d => a4 (ix1 d)) (angle a6 r) (angle a7 r)

/-- A head of the keys. -/
def headK (r : Fin 13056) (i : Fin 4) : Fin 128 → EReal :=
  Row.rotated (fun d => col a0 a1 a2 a3 r ⟨1024 + (i.val * 128 + d.val), by omega⟩) (fun d => a5 (ix1 d)) (angle a6 r)
    (angle a7 r)

/-- A head of the values. -/
def headV (r : Fin 13056) (i : Fin 4) (d : Fin 128) : EReal :=
  col a0 a1 a2 a3 r ⟨1536 + (i.val * 128 + d.val), by omega⟩

/-! ## The reference's arrays, step by step -/

theorem pay1_apply (r : Fin 13056) (d : Fin 5376) : k0_pay1 (F := Ideal) a0 a1 (ix2 r d) = row a0 a1 r d := by
  pointwise [k0_pay1]
  rfl

theorem pay2_eq : k0_pay2 (F := Ideal) a0 a1 = scaleRowsOf (amaxRows (k0_pay1 a0 a1)) := rfl

theorem pay3_eq : k0_pay3 (F := Ideal) a0 a1 = codeRows (k0_pay1 a0 a1) (k0_pay2 a0 a1) := rfl

theorem pay2_apply (r : Fin 13056) : k0_pay2 (F := Ideal) a0 a1 (ix2 r 0) = Row.rowScale (row a0 a1 r) := by
  rw [pay2_eq, scaleRowsOf_apply, amaxRows_apply]
  simp only [pay1_apply]
  rfl

theorem pay3_apply (r : Fin 13056) (d : Fin 5376) :
    k0_pay3 (F := Ideal) a0 a1 (ix2 r d) = Row.rowCode (row a0 a1 r) d := by
  rw [pay3_eq, codeRows_apply, pay1_apply, pay2_apply]
  rfl

theorem pay5_apply (s : FVec Ideal S13056x1 .f32) (x : FVec Ideal S13056x5376 .fp8e4m3) (r : Fin 13056) (e : Fin 2048) :
    k0_pay5 (F := Ideal) s x a2 a3 (ix2 r e) =
      (∑ k : Fin 5376, x (ix2 r k) * a2 (ix2 k e)) * (s (ix2 r 0) * a3 (ix1 e)) := by
  pointwise [k0_pay5]

/-- The projected rows. -/
def projectedRows : FVec Ideal S13056x2048 .f32 := k0_pay5 (F := Ideal) (k0_pay2 a0 a1) (k0_pay3 a0 a1) a2 a3

theorem projectedRows_apply (r : Fin 13056) (e : Fin 2048) :
    projectedRows a0 a1 a2 a3 (ix2 r e) = col a0 a1 a2 a3 r e := by
  unfold projectedRows
  rw [pay5_apply, pay2_apply]
  simp only [pay3_apply]
  rfl

theorem cos_apply (r : Fin 13056) (d : Fin 64) : k0_pay8 (F := Ideal) a6 (ix2 r d) = angle a6 r d := by
  pointwise [k0_pay8]
  rfl

theorem sin_apply (r : Fin 13056) (d : Fin 64) : k0_pay9 (F := Ideal) a7 (ix2 r d) = angle a7 r d := by
  pointwise [k0_pay9]
  rfl

/-- The queries' heads. -/
def queries : FVec Ideal S13056x8x128 .f32 :=
  rotate8 (headsQ (projectedRows a0 a1 a2 a3)) (k0_pay8 a6) (k0_pay9 a7) a4

/-- The keys' heads. -/
def keys : FVec Ideal S13056x4x128 .f32 :=
  k0_pay11 (headsK (projectedRows a0 a1 a2 a3)) (k0_pay8 a6) (k0_pay9 a7) a5

/-- The values' heads. -/
def values : FVec Ideal S13056x4x128 .f32 := headsV (projectedRows a0 a1 a2 a3)

theorem queries_apply (r : Fin 13056) (i : Fin 8) (d : Fin 128) :
    queries a0 a1 a2 a3 a4 a6 a7 (ix3 r i d) = headQ a0 a1 a2 a3 a4 a6 a7 r i d := by
  unfold queries
  rw [rotate8_apply]
  simp only [headsQ_apply, projectedRows_apply, cos_apply, sin_apply]
  rfl

theorem keys_apply (r : Fin 13056) (i : Fin 4) (d : Fin 128) :
    keys a0 a1 a2 a3 a5 a6 a7 (ix3 r i d) = headK a0 a1 a2 a3 a5 a6 a7 r i d := by
  unfold keys
  rw [rotate4_apply]
  simp only [headsK_apply, projectedRows_apply, cos_apply, sin_apply]
  rfl

theorem values_apply (r : Fin 13056) (i : Fin 4) (d : Fin 128) :
    values a0 a1 a2 a3 (ix3 r i d) = headV a0 a1 a2 a3 r i d := by
  unfold values
  rw [headsV_apply, projectedRows_apply]
  rfl

theorem scale4_apply (h : FVec Ideal S13056x4x128 .f32) (r : Fin 13056) (i : Fin 4) :
    scale4Of (amax4 h) (ix3 r i 0) = Row.rowScale fun d => h (ix3 r i d) := by
  rw [scale4Of_apply, amax4_apply]
  rfl

theorem codes_apply (h : FVec Ideal S13056x4x128 .f32) (r : Fin 13056) (i : Fin 4) (d : Fin 128) :
    code4 h (scale4Of (amax4 h)) (ix3 r i d) = Row.rowCode (fun d => h (ix3 r i d)) d := by
  rw [code4_apply, scale4_apply]
  rfl

theorem tiles_apply (s : FVec Ideal S13056x4x1 .f32) (a : Fin 102) (i : Fin 4) (b : Fin 128) :
    k0_pay21 s (ix3 a i b) = s (ix3 ⟨a.val * 128 + b.val, by omega⟩ i 0) := by
  pointwise [k0_pay21]

theorem rowsLast_apply (q : FVec Ideal S13056x8x128 .f32) (e : Fin 1024) (r : Fin 13056) :
    k0_pay18 q (ix2 e r) = q (ix3 r ⟨e.val / 128, by omega⟩ ⟨e.val % 128, by omega⟩) := by
  pointwise [k0_pay18]

theorem headsFirst_apply (c : FVec Ideal S13056x4x128 .fp8e4m3) (i : Fin 4) (r : Fin 13056) (d : Fin 128) :
    k0_pay19 c (ix3 i r d) = c (ix3 r i d) := by
  pointwise [k0_pay19]

theorem zero3 : (![0, 0, 0] : Fin 3 → Nat) = fun _ => 0 := funext fun a => by fin_cases a <;> rfl

theorem zero2 : (![0, 0] : Fin 2 → Nat) = fun _ => 0 := funext fun a => by fin_cases a <;> rfl

theorem zero1 : (![0] : Fin 1 → Nat) = fun _ => 0 := funext fun a => by fin_cases a <;> rfl

theorem pay23_eq : k0_pay23 (F := Ideal) a0 a1 a2 a3 a4 a5 a6 a7 = k0_pay2 a0 a1 := by
  unfold k0_pay23
  rw [View.ld_unit_zero zero3, View.ld_unit_zero zero1]

theorem pay24_eq : k0_pay24 (F := Ideal) a0 a1 a2 a3 a4 a5 a6 a7 = k0_pay3 a0 a1 := by
  unfold k0_pay24
  rw [View.ld_unit_zero zero3, View.ld_unit_zero zero1]

theorem pay25_eq : k0_pay25 (F := Ideal) a0 a1 a2 a3 a4 a5 a6 a7 = headsK (projectedRows a0 a1 a2 a3) := by
  unfold k0_pay25
  rw [pay23_eq, pay24_eq, View.ld_unit_zero zero2, View.ld_unit_zero zero1]
  rfl

theorem pay26_eq : k0_pay26 (F := Ideal) a0 a1 a2 a3 a4 a5 a6 a7 = values a0 a1 a2 a3 := by
  unfold k0_pay26
  rw [pay23_eq, pay24_eq, View.ld_unit_zero zero2, View.ld_unit_zero zero1]
  rfl

theorem pay27_eq : k0_pay27 (F := Ideal) a0 a1 a2 a3 a4 a5 a6 a7 = k0_pay8 a6 := by
  unfold k0_pay27
  rw [View.ld_unit_zero zero3]

theorem pay28_eq : k0_pay28 (F := Ideal) a0 a1 a2 a3 a4 a5 a6 a7 = k0_pay9 a7 := by
  unfold k0_pay28
  rw [View.ld_unit_zero zero3]

theorem pay29_eq : k0_pay29 (F := Ideal) a0 a1 a2 a3 a4 a5 a6 a7 =
    code4 (keys a0 a1 a2 a3 a5 a6 a7) (scale4Of (amax4 (keys a0 a1 a2 a3 a5 a6 a7))) := by
  unfold k0_pay29
  rw [pay25_eq, pay27_eq, pay28_eq, View.ld_unit_zero zero1]
  rfl

/-! ## The nine arrays -/

/-- The rows' codes. -/
theorem G8_apply (r : Fin 13056) (d : Fin 5376) :
    G8 (F := Ideal) a0 a1 a2 a3 a4 a5 a6 a7 (ix2 r d) = Row.rowCode (row a0 a1 r) d := by
  exact pay3_apply a0 a1 r d

/-- The rows' scales. -/
theorem G9_apply (a : Fin 102) (b : Fin 128) :
    G9 (F := Ideal) a0 a1 a2 a3 a4 a5 a6 a7 (ix3 a 0 b) = Row.rowScale (row a0 a1 ⟨a.val * 128 + b.val, by omega⟩) := by
  rw [show G9 (F := Ideal) a0 a1 a2 a3 a4 a5 a6 a7 = tileRows (k0_pay2 a0 a1) from rfl, tileRows_apply, pay2_apply]

/-- The queries. -/
theorem G10_apply (e : Fin 1024) (r : Fin 13056) :
    G10 (F := Ideal) a0 a1 a2 a3 a4 a5 a6 a7 (ix2 e r) = headQ a0 a1 a2 a3 a4 a6 a7 r ⟨e.val / 128, by omega⟩ ⟨e.val % 128, by omega⟩ := by
  rw [show G10 (F := Ideal) a0 a1 a2 a3 a4 a5 a6 a7 = k0_pay18 (k0_pay10 (k0_pay23 a0 a1 a2 a3 a4 a5 a6 a7)
    (k0_pay24 a0 a1 a2 a3 a4 a5 a6 a7) a2 a3 a6 a7 a4) from rfl, pay23_eq, pay24_eq]
  rw [show k0_pay10 (k0_pay2 a0 a1) (k0_pay3 a0 a1) a2 a3 a6 a7 a4 = queries a0 a1 a2 a3 a4 a6 a7 from rfl,
    rowsLast_apply, queries_apply]

/-- The keys' codes, heads first. -/
theorem G11_apply (i : Fin 4) (r : Fin 13056) (d : Fin 128) :
    G11 (F := Ideal) a0 a1 a2 a3 a4 a5 a6 a7 (ix3 i r d) = Row.rowCode (headK a0 a1 a2 a3 a5 a6 a7 r i) d := by
  rw [show G11 (F := Ideal) a0 a1 a2 a3 a4 a5 a6 a7 = k0_pay19 (k0_pay29 a0 a1 a2 a3 a4 a5 a6 a7) from rfl, pay29_eq,
    headsFirst_apply, codes_apply]
  simp only [keys_apply]

/-- The values' codes, heads and features first. -/
theorem G12_apply (i : Fin 4) (d : Fin 128) (r : Fin 13056) :
    G12 (F := Ideal) a0 a1 a2 a3 a4 a5 a6 a7 (ix3 i d r) = Row.rowCode (headV a0 a1 a2 a3 r i) d := by
  rw [show G12 (F := Ideal) a0 a1 a2 a3 a4 a5 a6 a7 = featuresFirst (code4 (k0_pay26 a0 a1 a2 a3 a4 a5 a6 a7)
    (scale4Of (amax4 (k0_pay26 a0 a1 a2 a3 a4 a5 a6 a7)))) from rfl, pay26_eq, featuresFirst_apply, codes_apply]
  simp only [values_apply]

/-- The keys' codes. -/
theorem G13_apply (r : Fin 13056) (i : Fin 4) (d : Fin 128) :
    G13 (F := Ideal) a0 a1 a2 a3 a4 a5 a6 a7 (ix3 r i d) = Row.rowCode (headK a0 a1 a2 a3 a5 a6 a7 r i) d := by
  rw [show G13 (F := Ideal) a0 a1 a2 a3 a4 a5 a6 a7 = k0_pay29 a0 a1 a2 a3 a4 a5 a6 a7 from rfl, pay29_eq, codes_apply]
  simp only [keys_apply]

/-- The keys' scales. -/
theorem G14_apply (a : Fin 102) (i : Fin 4) (b : Fin 128) :
    G14 (F := Ideal) a0 a1 a2 a3 a4 a5 a6 a7 (ix3 a i b) = Row.rowScale (headK a0 a1 a2 a3 a5 a6 a7 ⟨a.val * 128 + b.val, by omega⟩ i) := by
  rw [show G14 (F := Ideal) a0 a1 a2 a3 a4 a5 a6 a7 = k0_pay21 (k0_pay12 (k0_pay25 a0 a1 a2 a3 a4 a5 a6 a7)
    (k0_pay27 a0 a1 a2 a3 a4 a5 a6 a7) (k0_pay28 a0 a1 a2 a3 a4 a5 a6 a7) a5) from rfl, pay25_eq, pay27_eq, pay28_eq]
  rw [show k0_pay12 (headsK (projectedRows a0 a1 a2 a3)) (k0_pay8 a6) (k0_pay9 a7) a5 =
    scale4Of (amax4 (keys a0 a1 a2 a3 a5 a6 a7)) from rfl, tiles_apply, scale4_apply]
  simp only [keys_apply]

/-- The values' codes. -/
theorem G15_apply (r : Fin 13056) (i : Fin 4) (d : Fin 128) :
    G15 (F := Ideal) a0 a1 a2 a3 a4 a5 a6 a7 (ix3 r i d) = Row.rowCode (headV a0 a1 a2 a3 r i) d := by
  rw [show G15 (F := Ideal) a0 a1 a2 a3 a4 a5 a6 a7 = code4 (k0_pay26 a0 a1 a2 a3 a4 a5 a6 a7)
    (scale4Of (amax4 (k0_pay26 a0 a1 a2 a3 a4 a5 a6 a7))) from rfl, pay26_eq, codes_apply]
  simp only [values_apply]

/-- The values' scales. -/
theorem G16_apply (a : Fin 102) (i : Fin 4) (b : Fin 128) :
    G16 (F := Ideal) a0 a1 a2 a3 a4 a5 a6 a7 (ix3 a i b) = Row.rowScale (headV a0 a1 a2 a3 ⟨a.val * 128 + b.val, by omega⟩ i) := by
  rw [show G16 (F := Ideal) a0 a1 a2 a3 a4 a5 a6 a7 = k0_pay21 (scale4Of (amax4 (k0_pay26 a0 a1 a2 a3 a4 a5 a6 a7)))
    from rfl, pay26_eq, tiles_apply, scale4_apply]
  simp only [values_apply]

end Cert.ReferenceIdeal.Value

end
-- ==== Proof.KernelBlocks.lean ====
/- The kernel at one grid point: its input blocks read off the arguments, and where its output blocks lie. -/
module

public import proofs.«01_k».proof.Proof.Gen.KernelIdeal.Value
public import proofs.«01_k».proof.Proof.RefValue
public import Idealize.ShloMosaic.Lib.Pipeline.ValueKit

@[expose] public section

set_option maxRecDepth 16384

noncomputable section

namespace Cert.KernelIdeal.Value

open Cert.KernelIdeal Cert.KernelIdeal.Gen Idealize.ShloMosaic Idealize.ShloMosaic.TcCoe Idealize.SL.Sem
open Idealize.ShloMosaic.Pipeline (Dat)
open Cert.ReferenceIdeal.Value (row col angle headQ headK headV)

variable (m : (ℓ : Loc nD τ sig) → Buf (Elt Ideal) ℓ)

/-- The input windows' block indices at every grid point. -/
theorem idx : ∀ t : Fin grid0.N, win0_0.index t = ![t.val, 0] ∧ win0_1.index t = ![0, 0] ∧
    win0_2.index t = ![0, 0] ∧ win0_3.index t = ![0, 0] ∧ win0_4.index t = ![0, 0] ∧ win0_5.index t = ![0, 0] ∧
    win0_6.index t = ![2 * t.val / 17, 0, 2 * t.val % 17] ∧ win0_7.index t = ![2 * t.val / 17, 0, 2 * t.val % 17] ∧
    win0_8.index t = ![(2 * t.val + 1) / 17, 0, (2 * t.val + 1) % 17] ∧
    win0_9.index t = ![(2 * t.val + 1) / 17, 0, (2 * t.val + 1) % 17] := by decide +kernel

/-- The output windows' block indices at every grid point. -/
theorem oidx : ∀ t : Fin grid0.N, win0_10.index t = ![t.val, 0] ∧ win0_11.index t = ![t.val, 0, 0] ∧
    win0_12.index t = ![0, t.val] ∧ win0_13.index t = ![0, t.val, 0] ∧ win0_14.index t = ![0, 0, t.val] ∧
    win0_15.index t = ![t.val, 0, 0] ∧ win0_16.index t = ![t.val, 0, 0] ∧ win0_17.index t = ![t.val, 0, 0] ∧
    win0_18.index t = ![t.val, 0, 0] := by decide +kernel

/-- The block of token rows, read off the argument. -/
theorem iblk0 (c : Dev nD) (t : Fin cfg0.N) (a : Fin 256) (b : Fin 5376) (r : Fin 13056)
    (hr : r.val = t.val * 256 + a.val) :
    iblk m c 0 t (ix2 a b) = (m ((c : Thread nD τ).loc main_arg0) : Vec Ideal S6x2176x5376 .bf16)
      (ix3 ⟨r.val / 2176, by omega⟩ ⟨r.val % 2176, by omega⟩ b) := by
  blk_ext! [iblk, V, idx t]

/-- The norm's gain, whole at every point. -/
theorem iblk1 (c : Dev nD) (t : Fin cfg0.N) (b : Fin 5376) :
    iblk m c 1 t (ix2 0 b) = (m ((c : Thread nD τ).loc main_arg1) : Vec Ideal S5376 .f32) (ix1 b) := by
  blk_ext! [iblk, V, idx t]

/-- The weights, whole at every point. -/
theorem iblk2 (c : Dev nD) (t : Fin cfg0.N) (k : Fin 5376) (e : Fin 2048) :
    iblk m c 2 t (ix2 k e) = (m ((c : Thread nD τ).loc main_arg2) : Vec Ideal S5376x2048 .fp8e4m3) (ix2 k e) := by
  blk_ext! [iblk, V, idx t]

/-- The columns' scales, whole at every point. -/
theorem iblk3 (c : Dev nD) (t : Fin cfg0.N) (e : Fin 2048) :
    iblk m c 3 t (ix2 0 e) = (m ((c : Thread nD τ).loc main_arg3) : Vec Ideal S2048 .f32) (ix1 e) := by
  blk_ext! [iblk, V, idx t]

/-- The queries' gain, whole at every point. -/
theorem iblk4 (c : Dev nD) (t : Fin cfg0.N) (d : Fin 128) :
    iblk m c 4 t (ix2 d 0) = (m ((c : Thread nD τ).loc main_arg4) : Vec Ideal S128 .f32) (ix1 d) := by
  blk_ext! [iblk, V, idx t]

/-- The keys' gain, whole at every point. -/
theorem iblk5 (c : Dev nD) (t : Fin cfg0.N) (d : Fin 128) :
    iblk m c 5 t (ix2 d 0) = (m ((c : Thread nD τ).loc main_arg5) : Vec Ideal S128 .f32) (ix1 d) := by
  blk_ext! [iblk, V, idx t]

/-- The cosines of the first 128 rows. -/
theorem iblk6 (c : Dev nD) (t : Fin cfg0.N) (d : Fin 64) (b : Fin 128) (r : Fin 13056)
    (hr : r.val = t.val * 256 + b.val) :
    iblk m c 6 t (ix3 0 d b) = angle (m ((c : Thread nD τ).loc main_arg6)) r d := by
  unfold angle
  blk_ext! [iblk, V, idx t]

/-- The sines of the first 128 rows. -/
theorem iblk7 (c : Dev nD) (t : Fin cfg0.N) (d : Fin 64) (b : Fin 128) (r : Fin 13056)
    (hr : r.val = t.val * 256 + b.val) :
    iblk m c 7 t (ix3 0 d b) = angle (m ((c : Thread nD τ).loc main_arg7)) r d := by
  unfold angle
  blk_ext! [iblk, V, idx t]

/-- The cosines of the last 128 rows. -/
theorem iblk8 (c : Dev nD) (t : Fin cfg0.N) (d : Fin 64) (b : Fin 128) (r : Fin 13056)
    (hr : r.val = t.val * 256 + (128 + b.val)) :
    iblk m c 8 t (ix3 0 d b) = angle (m ((c : Thread nD τ).loc main_arg6)) r d := by
  unfold angle
  blk_ext! [iblk, V, idx t]

/-- The sines of the last 128 rows. -/
theorem iblk9 (c : Dev nD) (t : Fin cfg0.N) (d : Fin 64) (b : Fin 128) (r : Fin 13056)
    (hr : r.val = t.val * 256 + (128 + b.val)) :
    iblk m c 9 t (ix3 0 d b) = angle (m ((c : Thread nD τ).loc main_arg7)) r d := by
  unfold angle
  blk_ext! [iblk, V, idx t]

/-! ## Where an element of a point's block lies in its result -/

theorem emb10 (t : Fin cfg0.N) (a : Fin 256) (d : Fin 5376) (r : Fin 13056) (hr : r.val = t.val * 256 + a.val) :
    (((cfg0.win 10).blk t).view.emb (ix2 a d) : S13056x5376.Idx) = ix2 r d := by
  blk_ext! [oidx t]

theorem emb11 (t : Fin cfg0.N) (a : Fin 2) (b : Fin 128) (p : Fin 102) (hp : p.val = t.val * 2 + a.val) :
    (((cfg0.win 11).blk t).view.emb (ix3 a 0 b) : S102x1x128.Idx) = ix3 p 0 b := by
  blk_ext! [oidx t]

theorem emb12 (t : Fin cfg0.N) (e : Fin 1024) (a : Fin 256) (r : Fin 13056) (hr : r.val = t.val * 256 + a.val) :
    (((cfg0.win 12).blk t).view.emb (ix2 e a) : S1024x13056.Idx) = ix2 e r := by
  blk_ext! [oidx t]

theorem emb13 (t : Fin cfg0.N) (i : Fin 4) (a : Fin 256) (d : Fin 128) (r : Fin 13056)
    (hr : r.val = t.val * 256 + a.val) :
    (((cfg0.win 13).blk t).view.emb (ix3 i a d) : S4x13056x128.Idx) = ix3 i r d := by
  blk_ext! [oidx t]

theorem emb14 (t : Fin cfg0.N) (i : Fin 4) (d : Fin 128) (a : Fin 256) (r : Fin 13056)
    (hr : r.val = t.val * 256 + a.val) :
    (((cfg0.win 14).blk t).view.emb (ix3 i d a) : S4x128x13056.Idx) = ix3 i d r := by
  blk_ext! [oidx t]

theorem emb15 (t : Fin cfg0.N) (a : Fin 256) (i : Fin 4) (d : Fin 128) (r : Fin 13056)
    (hr : r.val = t.val * 256 + a.val) :
    (((cfg0.win 15).blk t).view.emb (ix3 a i d) : S13056x4x128.Idx) = ix3 r i d := by
  blk_ext! [oidx t]

theorem emb16 (t : Fin cfg0.N) (a : Fin 2) (i : Fin 4) (b : Fin 128) (p : Fin 102) (hp : p.val = t.val * 2 + a.val) :
    (((cfg0.win 16).blk t).view.emb (ix3 a i b) : S102x4x128.Idx) = ix3 p i b := by
  blk_ext! [oidx t]

theorem emb17 (t : Fin cfg0.N) (a : Fin 256) (i : Fin 4) (d : Fin 128) (r : Fin 13056)
    (hr : r.val = t.val * 256 + a.val) :
    (((cfg0.win 17).blk t).view.emb (ix3 a i d) : S13056x4x128.Idx) = ix3 r i d := by
  blk_ext! [oidx t]

theorem emb18 (t : Fin cfg0.N) (a : Fin 2) (i : Fin 4) (b : Fin 128) (p : Fin 102) (hp : p.val = t.val * 2 + a.val) :
    (((cfg0.win 18).blk t).view.emb (ix3 a i b) : S102x4x128.Idx) = ix3 p i b := by
  blk_ext! [oidx t]

end Cert.KernelIdeal.Value

end
-- ==== Proof.KernelRows.lean ====
/- The kernel's block of 256 rows as functions of whole vectors, each read at an index: the rows' norm, scales and codes, and
   one head, held features by rows. -/
module

public import proofs.«01_k».proof.Proof.QkvSpec
public import proofs.«01_k».proof.Proof.Gen.KernelIdeal.Skeleton

@[expose] public section

set_option maxRecDepth 16384

noncomputable section

namespace Cert.KernelIdeal.Value

open Cert.KernelIdeal Cert.KernelIdeal.Gen Idealize.ShloMosaic

/-! ## The rows of the block -/

/-- The largest magnitudes of the block's rows. -/
def amaxBlock (h : FVec Ideal S256x5376 .f32) : FVec Ideal S256 .f32 :=
  multiReduction .maximumf [1] S256 (absf h) 0xFF800000#32 reduces_S256x5376_S256 (.inl rfl) rfl

/-- The scales at these magnitudes. -/
def scaleBlockOf (v20 : FVec Ideal S256 .f32) : FVec Ideal S256x1 .f32 :=
  have v21 : FVec Ideal S256x1 .f32 := shapeCast S256x1 v20 shapeCasts_S256_S256x1
  have cst_7 : Ideal .f32 := Scalar.ofBits .f32 0x00000000#32
  have v22 : FVec Ideal S256x1 .f32 := broadcast S256x1 cst_7
  have v23 : IVec S256x1 1 := cmpf .oeq v21 v22
  have cst_8 : Ideal .f32 := Scalar.ofBits .f32 0x43E00000#32
  have v24 : FVec Ideal S256x1 .f32 := broadcast S256x1 cst_8
  have v25 : FVec Ideal S256x1 .f32 := divf v21 v24
  have cst_9 : Ideal .f32 := Scalar.ofBits .f32 0x3F800000#32
  have v26 : FVec Ideal S256x1 .f32 := broadcast S256x1 cst_9
  have v27 : FVec Ideal S256x1 .f32 := select v23 v26 v25
  v27

/-- The codes of the block at its rows' scales. -/
def codeBlock (h : FVec Ideal S256x5376 .f32) (s : FVec Ideal S256x1 .f32) : FVec Ideal S256x5376 .fp8e4m3 :=
  have cst_10 : Ideal .f32 := Scalar.ofBits .f32 0x3F800000#32
  have v28 : FVec Ideal S256x1 .f32 := broadcast S256x1 cst_10
  have v29 : FVec Ideal S256x1 .f32 := divf v28 s
  have v30 : FVec Ideal S256x5376 .f32 := broadcastTo S256x5376 v29 broadcasts_S256x1_S256x5376
  have v31 : FVec Ideal S256x5376 .f32 := mulf h v30
  have cst_11 : Ideal .f32 := Scalar.ofBits .f32 0xC3E00000#32
  have cst_12 : Ideal .f32 := Scalar.ofBits .f32 0x43E00000#32
  have v32 : FVec Ideal S256x5376 .f32 := broadcast S256x5376 cst_11
  have v33 : FVec Ideal S256x5376 .f32 := maximumf v32 v31
  have v34 : FVec Ideal S256x5376 .f32 := broadcast S256x5376 cst_12
  have v35 : FVec Ideal S256x5376 .f32 := minimumf v34 v33
  have v36 : FVec Ideal S256x5376 .fp8e4m3 := truncf .fp8e4m3 v35 bitsLt_fp8e4m3_f32
  v36

/-- The normed row of a block. -/
def blockRow (x : Vec Ideal S256x5376 .bf16) (g : Vec Ideal S1x5376 .f32) (a : Fin 256) : Fin 5376 → EReal :=
  Row.normed (Ideal.ofBits .f32 0x45A80000#32) (fun d => x (ix2 a d)) fun d => g (ix2 0 d)

theorem pay2_apply (x : Vec Ideal S256x5376 .bf16) (g : Vec Ideal S1x5376 .f32) (a : Fin 256) (d : Fin 5376) :
    k0_pay2 (F := Ideal) x g (ix2 a d) = blockRow x g a d := by
  unfold blockRow Row.normed
  rw [← Row.mul_rms Row.width_pos]
  pointwise [k0_pay2]
  rfl

theorem amaxBlock_apply (h : FVec Ideal S256x5376 .f32) (a : Fin 256) :
    amaxBlock h (ix1 a) = Row.amax fun d => h (ix2 a d) :=
  Row.amax_last h _ _ _ a

theorem scaleBlockOf_apply (v : FVec Ideal S256 .f32) (a : Fin 256) :
    scaleBlockOf v (ix2 a 0) = Row.scale (v (ix1 a)) := by
  pointwise [scaleBlockOf]
  rfl

theorem codeBlock_apply (h : FVec Ideal S256x5376 .f32) (s : FVec Ideal S256x1 .f32) (a : Fin 256) (d : Fin 5376)
    (m : EReal) (hs : s (ix2 a 0) = Row.scale m) :
    codeBlock h s (ix2 a d) = Row.code (h (ix2 a d)) (Row.scale m) := by
  unfold Row.code
  rw [← Row.mul_scale, ← hs]
  pointwise [codeBlock]

theorem pay3_eq (x : Vec Ideal S256x5376 .bf16) (g : Vec Ideal S1x5376 .f32) :
    k0_pay3 (F := Ideal) x g = scaleBlockOf (amaxBlock (k0_pay2 x g)) := rfl

theorem pay4_eq (x : Vec Ideal S256x5376 .bf16) (g : Vec Ideal S1x5376 .f32) :
    k0_pay4 (F := Ideal) x g = codeBlock (k0_pay2 x g) (k0_pay3 x g) := rfl

theorem pay3_apply (x : Vec Ideal S256x5376 .bf16) (g : Vec Ideal S1x5376 .f32) (a : Fin 256) :
    k0_pay3 (F := Ideal) x g (ix2 a 0) = Row.rowScale (blockRow x g a) := by
  rw [pay3_eq, scaleBlockOf_apply, amaxBlock_apply]
  simp only [pay2_apply]
  rfl

theorem pay4_apply (x : Vec Ideal S256x5376 .bf16) (g : Vec Ideal S1x5376 .f32) (a : Fin 256) (d : Fin 5376) :
    k0_pay4 (F := Ideal) x g (ix2 a d) = Row.rowCode (blockRow x g a) d := by
  rw [pay4_eq, codeBlock_apply _ _ _ _ _ (pay3_apply x g a), pay2_apply]
  rfl

theorem pay5_apply (k : FVec Ideal S256x5376 .fp8e4m3) (w : Vec Ideal S5376x2048 .fp8e4m3) (a : Fin 256) (e : Fin 2048) :
    k0_pay5 (F := Ideal) k w (ix2 a e) = ∑ d : Fin 5376, k (ix2 a d) * w (ix2 d e) := by
  pointwise [k0_pay5]

/-- The first 128 rows' scales, along the lanes. -/
theorem pay7_apply (s : FVec Ideal S256x1 .f32) (b : Fin 128) :
    k0_pay7 (F := Ideal) s (ix2 0 b) = s (ix2 ⟨b.val, by omega⟩ 0) := by
  pointwise [k0_pay7, k0_pay6]

/-- The last 128 rows' scales, along the lanes. -/
theorem pay95_apply (s : FVec Ideal S256x1 .f32) (b : Fin 128) :
    k0_pay95 (F := Ideal) (k0_pay6 s) (ix2 0 b) = s (ix2 ⟨128 + b.val, by omega⟩ 0) := by
  pointwise [k0_pay95, k0_pay6]

/-! ## One head -/

/-- A head of the projected rows, features by rows. -/
def headT (v335 : FVec Ideal S128x128 .f32) (v336 : FVec Ideal S1x128 .f32) (v47 : FVec Ideal S1x128 .f32) :
    FVec Ideal S128x128 .f32 :=
  have v337 : FVec Ideal S1x128 .f32 := shapeCast S1x128 v336 shapeCasts_S1x128_S1x128
  have v338 : FVec Ideal S128x128 .f32 := broadcastTo S128x128 v337 broadcasts_S1x128_S128x128
  have v339 : FVec Ideal S128x128 .f32 := mulf v335 v338
  have v340 : FVec Ideal S128x128 .f32 := transpose S128x128 [1, 0] v339 transposes_S128x128_p1_0_S128x128
  have v341 : FVec Ideal S128x128 .f32 := broadcastTo S128x128 v47 broadcasts_S1x128_S128x128
  have v342 : FVec Ideal S128x128 .f32 := mulf v340 v341
  v342

/-- A head normed, with its gain. -/
def normT (v342 : FVec Ideal S128x128 .f32) (v343 : FVec Ideal S128x1 .f32) : FVec Ideal S128x128 .f32 :=
  have v344 : FVec Ideal S128x1 .f32 := shapeCast S128x1 v343 shapeCasts_S128x1_S128x1
  have v345 : FVec Ideal S128x128 .f32 := mulf v342 v342
  have v346 : FVec Ideal S128 .f32 := multiReduction .add [0] S128 v345 0x00000000#32 reduces_S128x128_S128 (.inl rfl) rfl
  have v347 : FVec Ideal S1x128 .f32 := shapeCast S1x128 v346 shapeCasts_S128_S1x128
  have cst_124 : Ideal .f32 := Scalar.ofBits .f32 0x43000000#32
  have v348 : FVec Ideal S1x128 .f32 := broadcast S1x128 cst_124
  have v349 : FVec Ideal S1x128 .f32 := divf v347 v348
  have cst_125 : Ideal .f32 := Scalar.ofBits .f32 0x358637BD#32
  have v350 : FVec Ideal S1x128 .f32 := broadcast S1x128 cst_125
  have v351 : FVec Ideal S1x128 .f32 := addf v349 v350
  have v352 : FVec Ideal S1x128 .f32 := sqrt v351
  have cst_126 : Ideal .f32 := Scalar.ofBits .f32 0x3F800000#32
  have v353 : FVec Ideal S1x128 .f32 := broadcast S1x128 cst_126
  have v354 : FVec Ideal S1x128 .f32 := divf v353 v352
  have v355 : FVec Ideal S128x128 .f32 := broadcastTo S128x128 v354 broadcasts_S1x128_S128x128
  have v356 : FVec Ideal S128x128 .f32 := mulf v342 v355
  have v357 : FVec Ideal S128x128 .f32 := broadcastTo S128x128 v344 broadcasts_S128x1_S128x128
  have v358 : FVec Ideal S128x128 .f32 := mulf v356 v357
  v358

/-- A normed head's two halves rotated. -/
def rotateT (v358 : FVec Ideal S128x128 .f32) (v52 v54 : FVec Ideal S64x128 .f32) : FVec Ideal S128x128 .f32 :=
  have v359 : FVec Ideal S64x128 .f32 := extractStridedSlice S64x128 ![0, 0] v358 slices_S128x128_o0_0_S64x128
  have v360 : FVec Ideal S64x128 .f32 := extractStridedSlice S64x128 ![64, 0] v358 slices_S128x128_o64_0_S64x128
  have v361 : FVec Ideal S64x128 .f32 := mulf v359 v52
  have v362 : FVec Ideal S64x128 .f32 := mulf v360 v54
  have v363 : FVec Ideal S64x128 .f32 := subf v361 v362
  have v364 : FVec Ideal S64x128 .f32 := mulf v360 v52
  have v365 : FVec Ideal S64x128 .f32 := mulf v359 v54
  have v366 : FVec Ideal S64x128 .f32 := addf v364 v365
  have v367 : FVec Ideal S128x128 .f32 := concatenate S128x128 0 [⟨S64x128, v363⟩, ⟨S64x128, v366⟩] concatenates_S64x128_S64x128_S128x128_d0
  v367

/-- The largest magnitudes of a head, one per row. -/
def amaxT (h : FVec Ideal S128x128 .f32) : FVec Ideal S128 .f32 :=
  multiReduction .maximumf [0] S128 (absf h) 0xFF800000#32 reduces_S128x128_S128 (.inl rfl) rfl

/-- The scales at these magnitudes. -/
def scaleTOf (v369 : FVec Ideal S128 .f32) : FVec Ideal S1x128 .f32 :=
  have v370 : FVec Ideal S1x128 .f32 := shapeCast S1x128 v369 shapeCasts_S128_S1x128
  have cst_128 : Ideal .f32 := Scalar.ofBits .f32 0x00000000#32
  have v371 : FVec Ideal S1x128 .f32 := broadcast S1x128 cst_128
  have v372 : IVec S1x128 1 := cmpf .oeq v370 v371
  have cst_129 : Ideal .f32 := Scalar.ofBits .f32 0x43E00000#32
  have v373 : FVec Ideal S1x128 .f32 := broadcast S1x128 cst_129
  have v374 : FVec Ideal S1x128 .f32 := divf v370 v373
  have cst_130 : Ideal .f32 := Scalar.ofBits .f32 0x3F800000#32
  have v375 : FVec Ideal S1x128 .f32 := broadcast S1x128 cst_130
  have v376 : FVec Ideal S1x128 .f32 := select v372 v375 v374
  v376

/-- A head scaled and clipped. -/
def clipT (h : FVec Ideal S128x128 .f32) (s : FVec Ideal S1x128 .f32) : FVec Ideal S128x128 .f32 :=
  have cst_131 : Ideal .f32 := Scalar.ofBits .f32 0x3F800000#32
  have v377 : FVec Ideal S1x128 .f32 := broadcast S1x128 cst_131
  have v378 : FVec Ideal S1x128 .f32 := divf v377 s
  have v379 : FVec Ideal S128x128 .f32 := broadcastTo S128x128 v378 broadcasts_S1x128_S128x128
  have v380 : FVec Ideal S128x128 .f32 := mulf h v379
  have cst_132 : Ideal .f32 := Scalar.ofBits .f32 0xC3E00000#32
  have v381 : FVec Ideal S128x128 .f32 := broadcast S128x128 cst_132
  have v382 : FVec Ideal S128x128 .f32 := maximumf v381 v380
  have cst_133 : Ideal .f32 := Scalar.ofBits .f32 0x43E00000#32
  have v383 : FVec Ideal S128x128 .f32 := broadcast S128x128 cst_133
  have v384 : FVec Ideal S128x128 .f32 := minimumf v383 v382
  v384

/-- Clipped values, rows first, as codes. -/
def rowsT (v384 : FVec Ideal S128x128 .f32) : FVec Ideal S128x128 .fp8e4m3 :=
  have v385 : FVec Ideal S128x128 .f32 := transpose S128x128 [1, 0] v384 transposes_S128x128_p1_0_S128x128
  have v386 : FVec Ideal S128x128 .fp8e4m3 := truncf .fp8e4m3 v385 bitsLt_fp8e4m3_f32
  v386

/-- Codes widened, as a piece of an array of heads. -/
def wideT (v386 : FVec Ideal S128x128 .fp8e4m3) : FVec Ideal S1x128x128 .bf16 :=
  have v390 : FVec Ideal S128x128 .bf16 := extf .bf16 v386 bitsLt_fp8e4m3_bf16
  have v393 : FVec Ideal S1x128x128 .bf16 := shapeCast S1x128x128 v390 shapeCasts_S128x128_S1x128x128
  v393

/-- Clipped values, features first, as codes. -/
def featuresT (v418 : FVec Ideal S128x128 .f32) : FVec Ideal S128x128 .fp8e4m3 :=
  truncf .fp8e4m3 v418 bitsLt_fp8e4m3_f32

/-- Scales as a piece of an array of tiles. -/
def tileT (s : FVec Ideal S1x128 .f32) : FVec Ideal S1x1x128 .f32 :=
  shapeCast S1x1x128 s shapeCasts_S1x128_S1x1x128

theorem headT_apply (A : FVec Ideal S128x128 .f32) (s c : FVec Ideal S1x128 .f32) (d b : Fin 128) :
    headT A s c (ix2 d b) = A (ix2 b d) * s (ix2 0 d) * c (ix2 0 b) := by
  pointwise [headT]

theorem normT_apply (t : FVec Ideal S128x128 .f32) (g : FVec Ideal S128x1 .f32) (d b : Fin 128) :
    normT t g (ix2 d b) =
      Row.normed (Ideal.ofBits .f32 0x43000000#32) (fun d => t (ix2 d b)) (fun d => g (ix2 d 0)) d := by
  unfold Row.normed
  rw [← Row.mul_rms Row.head_pos]
  pointwise [normT]
  rfl

theorem rotateT_apply (t : FVec Ideal S128x128 .f32) (c s : FVec Ideal S64x128 .f32) (d b : Fin 128) :
    rotateT t c s (ix2 d b) =
      if h : d.val < 64 then
        t (ix2 d b) * c (ix2 ⟨d.val, h⟩ b) - t (ix2 ⟨64 + d.val, by omega⟩ b) * s (ix2 ⟨d.val, h⟩ b)
      else t (ix2 d b) * c (ix2 ⟨d.val - 64, by omega⟩ b) + t (ix2 ⟨d.val - 64, by omega⟩ b) * s (ix2 ⟨d.val - 64, by omega⟩ b) := by
  pointwise [rotateT]
  refine dite_congr rfl (fun _ => rfl) fun h => ?_
  have e : ∀ h', (⟨64 + (d.val - 64), h'⟩ : Fin 128) = d := fun _ => Fin.ext (by simp only; omega)
  simp only [e]

/-- A head normed and rotated is the row arithmetic of its rows. -/
theorem rotated_apply (t : FVec Ideal S128x128 .f32) (g : FVec Ideal S128x1 .f32) (c s : FVec Ideal S64x128 .f32)
    (d b : Fin 128) :
    rotateT (normT t g) c s (ix2 d b) =
      Row.rotated (fun d => t (ix2 d b)) (fun d => g (ix2 d 0)) (fun d => c (ix2 d b)) (fun d => s (ix2 d b)) d := by
  rw [rotateT_apply]
  simp only [normT_apply]
  rfl

theorem amaxT_apply (h : FVec Ideal S128x128 .f32) (b : Fin 128) :
    amaxT h (ix1 b) = Row.amax fun d => h (ix2 d b) :=
  Row.amax_first h _ _ _ b

theorem scaleTOf_apply (v : FVec Ideal S128 .f32) (b : Fin 128) :
    scaleTOf v (ix2 0 b) = Row.scale (v (ix1 b)) := by
  pointwise [scaleTOf]
  rfl

/-- A head's scales. -/
theorem scaleT_apply (h : FVec Ideal S128x128 .f32) (b : Fin 128) :
    scaleTOf (amaxT h) (ix2 0 b) = Row.rowScale fun d => h (ix2 d b) := by
  rw [scaleTOf_apply, amaxT_apply]
  rfl

theorem clipT_apply (h : FVec Ideal S128x128 .f32) (s : FVec Ideal S1x128 .f32) (d b : Fin 128)
    (m : EReal) (hs : s (ix2 0 b) = Row.scale m) :
    clipT h s (ix2 d b) = Row.code (h (ix2 d b)) (Row.scale m) := by
  unfold Row.code
  rw [← Row.mul_scale, ← hs]
  pointwise [clipT]

/-- A head's codes, before they are laid out. -/
theorem codeT_apply (h : FVec Ideal S128x128 .f32) (d b : Fin 128) :
    clipT h (scaleTOf (amaxT h)) (ix2 d b) = Row.rowCode (fun d => h (ix2 d b)) d :=
  clipT_apply h _ d b _ (scaleT_apply h b)

theorem rowsT_apply (v : FVec Ideal S128x128 .f32) (b d : Fin 128) : rowsT v (ix2 b d) = v (ix2 d b) := by
  pointwise [rowsT]

theorem wideT_apply (v : FVec Ideal S128x128 .fp8e4m3) (a b : Fin 128) : wideT v (ix3 0 a b) = v (ix2 a b) := by
  pointwise [wideT]

theorem featuresT_apply (v : FVec Ideal S128x128 .f32) (d b : Fin 128) : featuresT v (ix2 d b) = v (ix2 d b) := rfl

theorem tileT_apply (s : FVec Ideal S1x128 .f32) (b : Fin 128) : tileT s (ix3 0 0 b) = s (ix2 0 b) := by
  pointwise [tileT]

/-- The four heads' codes side by side. -/
theorem pay1_apply (k0 k1 k2 k3 : FVec Ideal S128x128 .fp8e4m3) (b : Fin 128) (i : Fin 4) (d : Fin 128) :
    k0_pay1 k0 k1 k2 k3 (ix3 b i d) = (![k0, k1, k2, k3] i) (ix2 b d) := by
  fin_cases i <;> pointwise [k0_pay1] <;> rfl

end Cert.KernelIdeal.Value

end
-- ==== Proof.KernelHeads.lean ====
/- The kernel's stored pieces: a head of 128 of the block's rows, its codes and its scales are the row arithmetic of the
   arguments. -/
module

public import proofs.«01_k».proof.Proof.KernelBlocks
public import proofs.«01_k».proof.Proof.KernelRows
public import Idealize.ShloMosaic.Lib.Pipeline.ReadBack

@[expose] public section

set_option maxRecDepth 16384

noncomputable section

namespace Cert.KernelIdeal.Value

open Cert.KernelIdeal Cert.KernelIdeal.Gen Idealize.ShloMosaic Idealize.ShloMosaic.TcCoe Idealize.SL.Sem
open Cert.ReferenceIdeal.Value (row col angle headQ headK headV)

variable (m : (ℓ : Loc nD τ sig) → Buf (Elt Ideal) ℓ)

/-! ## The rows of the block are rows of the argument -/

theorem blockRow_eq (c : Dev nD) (t : Fin cfg0.N) (a : Fin 256) (r : Fin 13056) (hr : r.val = t.val * 256 + a.val) :
    blockRow (iblk m c 0 t) (iblk m c 1 t) a =
      row (m ((c : Thread nD τ).loc main_arg0)) (m ((c : Thread nD τ).loc main_arg1)) r := by
  unfold blockRow row
  congr 1
  · funext d; exact iblk0 m c t a d r hr
  · funext d; exact iblk1 m c t d

/-- Half of the block, 128 rows from `o` on: `L` is its rows' scales along the lanes, `cs` and `sn` its rows' angles. -/
structure Half (c : Dev nD) (t : Fin cfg0.N) (o : Nat) (L : FVec Ideal S1x128 .f32) (cs sn : FVec Ideal S64x128 .f32) :
    Prop where
  bound : o ≤ 128
  lanes_apply : ∀ b : Fin 128, L (ix2 0 b) =
    k0_pay3 (F := Ideal) (iblk m c 0 t) (iblk m c 1 t) (ix2 ⟨o + b.val, by omega⟩ 0)
  cos_apply : ∀ (r : Fin 13056) (b : Fin 128), r.val = t.val * 256 + (o + b.val) →
    ∀ d : Fin 64, cs (ix2 d b) = angle (m ((c : Thread nD τ).loc main_arg6)) r d
  sin_apply : ∀ (r : Fin 13056) (b : Fin 128), r.val = t.val * 256 + (o + b.val) →
    ∀ d : Fin 64, sn (ix2 d b) = angle (m ((c : Thread nD τ).loc main_arg7)) r d

theorem pay9_apply (v : Vec Ideal S1x64x128 .f32) (d : Fin 64) (b : Fin 128) :
    k0_pay9 (F := Ideal) v (ix2 d b) = v (ix3 0 d b) := by
  pointwise [k0_pay9]

/-- The block's first 128 rows. -/
theorem half0 (c : Dev nD) (t : Fin cfg0.N) :
    Half m c t 0 (k0_pay7 (F := Ideal) (k0_pay3 (iblk m c 0 t) (iblk m c 1 t))) (k0_pay9 (F := Ideal) (iblk m c 6 t))
      (k0_pay10 (F := Ideal) (iblk m c 7 t)) where
  bound := by omega
  lanes_apply b := by
    rw [pay7_apply]
    simp only [Nat.zero_add]
  cos_apply r b hr d := (pay9_apply _ d b).trans (iblk6 m c t d b r (by omega))
  sin_apply r b hr d := (pay9_apply _ d b).trans (iblk7 m c t d b r (by omega))

/-- The block's last 128 rows. -/
theorem half1 (c : Dev nD) (t : Fin cfg0.N) :
    Half m c t 128 (k0_pay95 (F := Ideal) (k0_pay6 (k0_pay3 (iblk m c 0 t) (iblk m c 1 t))))
      (k0_pay97 (F := Ideal) (iblk m c 8 t)) (k0_pay98 (F := Ideal) (iblk m c 9 t)) where
  bound := by omega
  lanes_apply b := pay95_apply _ b
  cos_apply r b hr d := (pay9_apply _ d b).trans (iblk8 m c t d b r hr)
  sin_apply r b hr d := (pay9_apply _ d b).trans (iblk9 m c t d b r hr)

/-! ## A head of a half of the block -/

/-- A square of 128 by 128 read from a block. -/
theorem ld_block (v : FVec Ideal S256x2048 .f32) (o p : Nat) (ho : o + 128 ≤ 256) (hp : p + 128 ≤ 2048)
    (inb : ∀ a, (![o, p] : Fin 2 → Nat) a + (![128, 128] : Fin 2 → Nat) a ≤ S256x2048.size a) (b d : Fin 128) :
    View.ld (Val := Elt Ideal) (S := S256x2048) (e' := .f32) v (Rect.unit (s := S256x2048) ![o, p] ![128, 128] inb) (ix2 b d) =
      v (ix2 ⟨o + b.val, by omega⟩ ⟨p + d.val, by omega⟩) := by
  refine congrArg v (funext fun a => ?_)
  fin_cases a <;> exact Fin.ext (by simp [Rect.unit])

/-- A span of 128 columns read from a row. -/
theorem ld_cols (v : FVec Ideal S1x2048 .f32) (p : Nat) (hp : p + 128 ≤ 2048)
    (inb : ∀ a, (![0, p] : Fin 2 → Nat) a + (![1, 128] : Fin 2 → Nat) a ≤ S1x2048.size a) (d : Fin 128) :
    View.ld (Val := Elt Ideal) (S := S1x2048) (e' := .f32) v (Rect.unit (s := S1x2048) ![0, p] ![1, 128] inb) (ix2 0 d) =
      v (ix2 0 ⟨p + d.val, by omega⟩) := by
  refine congrArg v (funext fun a => ?_)
  fin_cases a <;> exact Fin.ext (by simp [Rect.unit])

variable {o : Nat} {L : FVec Ideal S1x128 .f32} {cs sn : FVec Ideal S64x128 .f32}

/-- The product of the block's codes with the weights. -/
def product (c : Dev nD) (t : Fin cfg0.N) : FVec Ideal S256x2048 .f32 :=
  k0_pay5 (F := Ideal) (k0_pay4 (iblk m c 0 t) (iblk m c 1 t)) (iblk m c 2 t)

/-- Columns `p .. p + 127` of the product in a half of the block, as read back from the scratch. -/
def loaded (c : Dev nD) (t : Fin cfg0.N) (h : Half m c t o L cs sn) (p : Nat) (hp : p + 128 ≤ 2048) : FVec Ideal S128x128 .f32 :=
  (View.whole cc0_scratch0).readCov (Val := Elt Ideal)
    [⟨Rect.unit ![0, 0] ![256, 2048] inb_S256x2048_S256x2048_0_0, product m c t⟩]
    (Rect.unit (s := S256x2048) ![o, p] ![128, 128] (fun a => by
      have := h.bound
      fin_cases a
      · show o + 128 ≤ 256; omega
      · exact hp)).toLoadRect

/-- The columns' scales there. -/
def colScales (c : Dev nD) (t : Fin cfg0.N) (p : Nat) (hp : p + 128 ≤ 2048) : FVec Ideal S1x128 .f32 :=
  View.ld (iblk m c 3 t) (Rect.unit (s := S1x2048) ![0, p] ![1, 128] (fun a => by
    fin_cases a
    · exact Nat.le_refl 1
    · exact hp))

/-- The projected head, features by rows. -/
def head (c : Dev nD) (t : Fin cfg0.N) (h : Half m c t o L cs sn) (p : Nat) (hp : p + 128 ≤ 2048) : FVec Ideal S128x128 .f32 :=
  headT (loaded m c t h p hp) (colScales m c t p hp) L

theorem loaded_apply (c : Dev nD) (t : Fin cfg0.N) (h : Half m c t o L cs sn) (p : Nat) (hp : p + 128 ≤ 2048) (b d : Fin 128) :
    loaded m c t h p hp (ix2 b d) =
      product m c t (ix2 ⟨o + b.val, by have := h.bound; omega⟩ ⟨p + d.val, by omega⟩) := by
  unfold loaded
  exact (congrFun (View.readCov_fill (Val := Elt Ideal) (s := S256x2048) (e := .f32) (View.whole cc0_scratch0)
    (off := ![0, 0]) inb_S256x2048_S256x2048_0_0 (product m c t) [] (Rect.unit (s := S256x2048) ![o, p] ![128, 128] _)
    (fun a => by fin_cases a <;> rfl)) (ix2 b d)).trans
    (ld_block (product m c t) o p (by have := h.bound; omega) hp _ b d)

theorem colScales_apply (c : Dev nD) (t : Fin cfg0.N) (p : Nat) (hp : p + 128 ≤ 2048) (d : Fin 128) :
    colScales m c t p hp (ix2 0 d) = iblk m c 3 t (ix2 0 ⟨p + d.val, by omega⟩) := by
  exact ld_cols (iblk m c 3 t) p hp _ d

/-- An element of the projected head is an element of the projected row. -/
theorem head_apply (c : Dev nD) (t : Fin cfg0.N) (h : Half m c t o L cs sn) (p : Nat) (hp : p + 128 ≤ 2048) (d b : Fin 128)
    (r : Fin 13056) (hr : r.val = t.val * 256 + (o + b.val)) :
    head m c t h p hp (ix2 d b) =
      col (m ((c : Thread nD τ).loc main_arg0)) (m ((c : Thread nD τ).loc main_arg1))
        (m ((c : Thread nD τ).loc main_arg2)) (m ((c : Thread nD τ).loc main_arg3)) r ⟨p + d.val, by omega⟩ := by
  have hb := h.bound
  unfold head
  rw [headT_apply, loaded_apply, colScales_apply, h.lanes_apply, pay3_apply, iblk3]
  refine (show ∀ x y z : EReal, x * y * z = x * (z * y) from fun x y z => by rw [mul_assoc, mul_comm y]) _ _ _ |>.trans ?_
  unfold product col Row.projected
  rw [pay5_apply, ← blockRow_eq m c t ⟨o + b.val, by omega⟩ r hr]
  simp only [pay4_apply, iblk2]

/-- A head of the queries. -/
theorem query_apply (c : Dev nD) (t : Fin cfg0.N) (h : Half m c t o L cs sn) (i : Fin 8) (p : Nat) (hp : p + 128 ≤ 2048)
    (e : p = i.val * 128) (d b : Fin 128) (r : Fin 13056) (hr : r.val = t.val * 256 + (o + b.val)) :
    rotateT (normT (head m c t h p hp) (iblk m c 4 t)) cs sn (ix2 d b) =
      headQ (m ((c : Thread nD τ).loc main_arg0)) (m ((c : Thread nD τ).loc main_arg1))
        (m ((c : Thread nD τ).loc main_arg2)) (m ((c : Thread nD τ).loc main_arg3))
        (m ((c : Thread nD τ).loc main_arg4)) (m ((c : Thread nD τ).loc main_arg6))
        (m ((c : Thread nD τ).loc main_arg7)) r i d := by
  subst e
  rw [rotated_apply]
  simp only [head_apply m c t h _ hp _ b r hr, h.cos_apply r b hr, h.sin_apply r b hr, iblk4]
  rfl

/-- The keys' head in a half of the block. -/
def key (c : Dev nD) (t : Fin cfg0.N) (h : Half m c t o L cs sn) (p : Nat) (hp : p + 128 ≤ 2048) : FVec Ideal S128x128 .f32 :=
  rotateT (normT (head m c t h p hp) (iblk m c 5 t)) cs sn

/-- A head of the keys. -/
theorem key_apply (c : Dev nD) (t : Fin cfg0.N) (h : Half m c t o L cs sn) (i : Fin 4) (p : Nat) (hp : p + 128 ≤ 2048)
    (e : p = 1024 + i.val * 128) (d b : Fin 128) (r : Fin 13056) (hr : r.val = t.val * 256 + (o + b.val)) :
    key m c t h p hp (ix2 d b) =
      headK (m ((c : Thread nD τ).loc main_arg0)) (m ((c : Thread nD τ).loc main_arg1))
        (m ((c : Thread nD τ).loc main_arg2)) (m ((c : Thread nD τ).loc main_arg3))
        (m ((c : Thread nD τ).loc main_arg5)) (m ((c : Thread nD τ).loc main_arg6))
        (m ((c : Thread nD τ).loc main_arg7)) r i d := by
  subst e
  unfold key
  rw [rotated_apply]
  simp only [head_apply m c t h _ hp _ b r hr, h.cos_apply r b hr, h.sin_apply r b hr, iblk5, Nat.add_assoc]
  rfl

/-- A head of the values. -/
theorem value_apply (c : Dev nD) (t : Fin cfg0.N) (h : Half m c t o L cs sn) (i : Fin 4) (p : Nat) (hp : p + 128 ≤ 2048)
    (e : p = 1536 + i.val * 128) (d b : Fin 128) (r : Fin 13056) (hr : r.val = t.val * 256 + (o + b.val)) :
    head m c t h p hp (ix2 d b) =
      headV (m ((c : Thread nD τ).loc main_arg0)) (m ((c : Thread nD τ).loc main_arg1))
        (m ((c : Thread nD τ).loc main_arg2)) (m ((c : Thread nD τ).loc main_arg3)) r i d := by
  subst e
  rw [head_apply m c t h _ hp _ b r hr]
  unfold headV
  simp only [Nat.add_assoc]

/-! ## Codes and scales of a head known element by element -/

/-- The codes, rows first. -/
theorem codeRows_apply (v : FVec Ideal S128x128 .f32) (b d : Fin 128) (p : Fin 128 → EReal) (hv : ∀ d, v (ix2 d b) = p d) :
    rowsT (clipT v (scaleTOf (amaxT v))) (ix2 b d) = Row.rowCode p d := by
  rw [rowsT_apply, codeT_apply, funext hv]

/-- The codes, rows first, as a piece of an array of heads. -/
theorem codeRowsPiece_apply (v : FVec Ideal S128x128 .f32) (b d : Fin 128) (p : Fin 128 → EReal)
    (hv : ∀ d, v (ix2 d b) = p d) :
    wideT (rowsT (clipT v (scaleTOf (amaxT v)))) (ix3 0 b d) = Row.rowCode p d := by
  rw [wideT_apply, codeRows_apply v b d p hv]

/-- The codes, features first, as a piece of an array of heads. -/
theorem codeFeaturesPiece_apply (v : FVec Ideal S128x128 .f32) (d b : Fin 128) (p : Fin 128 → EReal)
    (hv : ∀ d, v (ix2 d b) = p d) :
    wideT (featuresT (clipT v (scaleTOf (amaxT v)))) (ix3 0 d b) = Row.rowCode p d := by
  rw [wideT_apply, featuresT_apply, codeT_apply, funext hv]

/-- The scales, as a piece of an array of tiles. -/
theorem scalePiece_apply (v : FVec Ideal S128x128 .f32) (b : Fin 128) (p : Fin 128 → EReal)
    (hv : ∀ d, v (ix2 d b) = p d) :
    tileT (scaleTOf (amaxT v)) (ix3 0 0 b) = Row.rowScale p := by
  rw [tileT_apply, scaleT_apply, funext hv]

/-- The codes of four heads side by side. -/
theorem codeHeads_apply (v : Fin 4 → FVec Ideal S128x128 .f32) (b : Fin 128) (i : Fin 4) (d : Fin 128)
    (p : Fin 128 → EReal) (hv : ∀ d, v i (ix2 d b) = p d) :
    k0_pay1 (F := Ideal) (rowsT (clipT (v 0) (scaleTOf (amaxT (v 0))))) (rowsT (clipT (v 1) (scaleTOf (amaxT (v 1)))))
      (rowsT (clipT (v 2) (scaleTOf (amaxT (v 2))))) (rowsT (clipT (v 3) (scaleTOf (amaxT (v 3))))) (ix3 b i d) =
      Row.rowCode p d := by
  rw [pay1_apply, ← codeRows_apply (v i) b d p hv]
  fin_cases i <;> rfl

end Cert.KernelIdeal.Value

end
-- ==== Proof.KernelTiles.lean ====
/- The kernel's stored pieces are blocks of the reference's arrays of the arguments. -/
module

public import proofs.«01_k».proof.Proof.KernelHeads

@[expose] public section

set_option maxRecDepth 16384

noncomputable section

namespace Cert.KernelIdeal.Value

open Cert.KernelIdeal Cert.KernelIdeal.Gen Idealize.ShloMosaic Idealize.ShloMosaic.TcCoe Idealize.SL.Sem
open Idealize.ShloMosaic.Pipeline (Dat)
open Cert.ReferenceIdeal.Value

variable (m : (ℓ : Loc nD τ sig) → Buf (Elt Ideal) ℓ)

/-! ## The reference's arrays of the arguments -/

/-- The reference's array: the rows' codes. -/
def want10 (c : Dev nD) : FVec Ideal S13056x5376 .fp8e4m3 :=
  G8 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))

/-- The reference's array: the rows' scales. -/
def want11 (c : Dev nD) : FVec Ideal S102x1x128 .f32 :=
  G9 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))

/-- The reference's array: the queries. -/
def want12 (c : Dev nD) : FVec Ideal S1024x13056 .bf16 :=
  G10 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))

/-- The reference's array: the keys' codes, heads first. -/
def want13 (c : Dev nD) : FVec Ideal S4x13056x128 .bf16 :=
  G11 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))

/-- The reference's array: the values' codes, heads and features first. -/
def want14 (c : Dev nD) : FVec Ideal S4x128x13056 .bf16 :=
  G12 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))

/-- The reference's array: the keys' codes. -/
def want15 (c : Dev nD) : FVec Ideal S13056x4x128 .fp8e4m3 :=
  G13 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))

/-- The reference's array: the keys' scales. -/
def want16 (c : Dev nD) : FVec Ideal S102x4x128 .f32 :=
  G14 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))

/-- The reference's array: the values' codes. -/
def want17 (c : Dev nD) : FVec Ideal S13056x4x128 .fp8e4m3 :=
  G15 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))

/-- The reference's array: the values' scales. -/
def want18 (c : Dev nD) : FVec Ideal S102x4x128 .f32 :=
  G16 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))

/-! ## A stored piece is a block of the reference's array -/

/-- The token row of a row of the point's block. -/
theorem row_lt (t : Fin cfg0.N) (a : Fin 256) : t.val * 256 + a.val < 13056 := by
  have hN : t.val < 51 := lt_of_lt_of_eq t.isLt (show cfg0.N = 51 by decide +kernel)
  omega

theorem tile_lt (t : Fin cfg0.N) (a : Fin 2) : t.val * 2 + a.val < 102 := by
  have hN : t.val < 51 := lt_of_lt_of_eq t.isLt (show cfg0.N = 51 by decide +kernel)
  omega

variable {o : Nat} {L : FVec Ideal S1x128 .f32} {cs sn : FVec Ideal S64x128 .f32}

theorem queryTile (c : Dev nD) (t : Fin cfg0.N) (h : Half m c t o L cs sn) (i : Fin 8) (p : Nat) (hp : p + 128 ≤ 2048)
    (e : p = i.val * 128) (y : S1024x256.Idx) :
    View.TileAt (Val := Elt Ideal) (S := S1024x256) (e := .bf16) y ![p, o] ![128, 128]
      (truncf .bf16 (rotateT (normT (head m c t h p hp) (iblk m c 4 t)) cs sn) bitsLt_bf16_f32)
      (want12 m c (((cfg0.win 12).blk t).view.emb y)) := by
  intro x hx
  have hb := h.bound
  obtain ⟨d, b, rfl⟩ : ∃ (d b : Fin 128), x = ix2 d b := ⟨x 0, x 1, eq_ix2 x⟩
  obtain rfl : y = ix2 ⟨p + d.val, by omega⟩ ⟨o + b.val, by omega⟩ := by
    rw [eq_ix2 y]; exact congrArg₂ ix2 (Fin.ext (hx 0)) (Fin.ext (hx 1))
  rw [emb12 t _ ⟨o + b.val, by omega⟩ ⟨_, row_lt t ⟨o + b.val, by omega⟩⟩ rfl]
  unfold want12
  rw [G10_apply]
  refine (query_apply m c t h i p hp e d b ⟨_, row_lt t ⟨o + b.val, by omega⟩⟩ rfl).trans ?_
  congr 1
  · exact Fin.ext (by simp only; omega)
  · exact Fin.ext (by simp only; omega)

theorem keyTile (c : Dev nD) (t : Fin cfg0.N) (h : Half m c t o L cs sn) (i : Fin 4) (p : Nat) (hp : p + 128 ≤ 2048)
    (e : p = 1024 + i.val * 128) (y : S4x256x128.Idx) :
    View.TileAt (Val := Elt Ideal) (S := S4x256x128) (e := .bf16) y ![i.val, o, 0] ![1, 128, 128]
      (wideT (rowsT (clipT (key m c t h p hp) (scaleTOf (amaxT (key m c t h p hp))))))
      (want13 m c (((cfg0.win 13).blk t).view.emb y)) := by
  intro x hx
  have hb := h.bound
  obtain ⟨z, b, d, rfl⟩ : ∃ (z : Fin 1) (b d : Fin 128), x = ix3 z b d := ⟨x 0, x 1, x 2, eq_ix3 x⟩
  obtain rfl : z = 0 := Subsingleton.elim _ _
  obtain rfl : y = ix3 i ⟨o + b.val, by omega⟩ d := by
    rw [eq_ix3 y]; congr 1
    · exact Fin.ext (hx 0)
    · exact Fin.ext (hx 1)
    · exact Fin.ext ((hx 2).trans (Nat.zero_add _))
  rw [emb13 t i ⟨o + b.val, by omega⟩ d ⟨_, row_lt t ⟨o + b.val, by omega⟩⟩ rfl]
  unfold want13
  rw [G11_apply]
  exact codeRowsPiece_apply _ b d _ fun d => key_apply m c t h i p hp e d b _ rfl

theorem valueTile (c : Dev nD) (t : Fin cfg0.N) (h : Half m c t o L cs sn) (i : Fin 4) (p : Nat) (hp : p + 128 ≤ 2048)
    (e : p = 1536 + i.val * 128) (y : S4x128x256.Idx) :
    View.TileAt (Val := Elt Ideal) (S := S4x128x256) (e := .bf16) y ![i.val, 0, o] ![1, 128, 128]
      (wideT (featuresT (clipT (head m c t h p hp) (scaleTOf (amaxT (head m c t h p hp))))))
      (want14 m c (((cfg0.win 14).blk t).view.emb y)) := by
  intro x hx
  have hb := h.bound
  obtain ⟨z, d, b, rfl⟩ : ∃ (z : Fin 1) (d b : Fin 128), x = ix3 z d b := ⟨x 0, x 1, x 2, eq_ix3 x⟩
  obtain rfl : z = 0 := Subsingleton.elim _ _
  obtain rfl : y = ix3 i d ⟨o + b.val, by omega⟩ := by
    rw [eq_ix3 y]; congr 1
    · exact Fin.ext (hx 0)
    · exact Fin.ext ((hx 1).trans (Nat.zero_add _))
    · exact Fin.ext (hx 2)
  rw [emb14 t i d ⟨o + b.val, by omega⟩ ⟨_, row_lt t ⟨o + b.val, by omega⟩⟩ rfl]
  unfold want14
  rw [G12_apply]
  exact codeFeaturesPiece_apply _ d b _ fun d => value_apply m c t h i p hp e d b _ rfl

theorem keysTile (c : Dev nD) (t : Fin cfg0.N) (h : Half m c t o L cs sn) (y : S256x4x128.Idx) :
    View.TileAt (Val := Elt Ideal) (S := S256x4x128) (e := .fp8e4m3) y ![o, 0, 0] ![128, 4, 128]
      (k0_pay1 (F := Ideal)
        (rowsT (clipT (key m c t h 1024 (by omega)) (scaleTOf (amaxT (key m c t h 1024 (by omega))))))
        (rowsT (clipT (key m c t h 1152 (by omega)) (scaleTOf (amaxT (key m c t h 1152 (by omega))))))
        (rowsT (clipT (key m c t h 1280 (by omega)) (scaleTOf (amaxT (key m c t h 1280 (by omega))))))
        (rowsT (clipT (key m c t h 1408 (by omega)) (scaleTOf (amaxT (key m c t h 1408 (by omega)))))))
      (want15 m c (((cfg0.win 15).blk t).view.emb y)) := by
  intro x hx
  have hb := h.bound
  obtain ⟨b, i, d, rfl⟩ : ∃ (b : Fin 128) (i : Fin 4) (d : Fin 128), x = ix3 b i d := ⟨x 0, x 1, x 2, eq_ix3 x⟩
  obtain rfl : y = ix3 ⟨o + b.val, by omega⟩ i d := by
    rw [eq_ix3 y]; congr 1
    · exact Fin.ext (hx 0)
    · exact Fin.ext ((hx 1).trans (Nat.zero_add _))
    · exact Fin.ext ((hx 2).trans (Nat.zero_add _))
  rw [emb15 t ⟨o + b.val, by omega⟩ i d ⟨_, row_lt t ⟨o + b.val, by omega⟩⟩ rfl]
  unfold want15
  rw [G13_apply]
  refine codeHeads_apply (fun i => key m c t h (1024 + i.val * 128) (by omega)) b i d _ fun d => ?_
  exact key_apply m c t h i _ _ rfl d b _ rfl

theorem valuesTile (c : Dev nD) (t : Fin cfg0.N) (h : Half m c t o L cs sn) (y : S256x4x128.Idx) :
    View.TileAt (Val := Elt Ideal) (S := S256x4x128) (e := .fp8e4m3) y ![o, 0, 0] ![128, 4, 128]
      (k0_pay1 (F := Ideal)
        (rowsT (clipT (head m c t h 1536 (by omega)) (scaleTOf (amaxT (head m c t h 1536 (by omega))))))
        (rowsT (clipT (head m c t h 1664 (by omega)) (scaleTOf (amaxT (head m c t h 1664 (by omega))))))
        (rowsT (clipT (head m c t h 1792 (by omega)) (scaleTOf (amaxT (head m c t h 1792 (by omega))))))
        (rowsT (clipT (head m c t h 1920 (by omega)) (scaleTOf (amaxT (head m c t h 1920 (by omega)))))))
      (want17 m c (((cfg0.win 17).blk t).view.emb y)) := by
  intro x hx
  have hb := h.bound
  obtain ⟨b, i, d, rfl⟩ : ∃ (b : Fin 128) (i : Fin 4) (d : Fin 128), x = ix3 b i d := ⟨x 0, x 1, x 2, eq_ix3 x⟩
  obtain rfl : y = ix3 ⟨o + b.val, by omega⟩ i d := by
    rw [eq_ix3 y]; congr 1
    · exact Fin.ext (hx 0)
    · exact Fin.ext ((hx 1).trans (Nat.zero_add _))
    · exact Fin.ext ((hx 2).trans (Nat.zero_add _))
  rw [emb17 t ⟨o + b.val, by omega⟩ i d ⟨_, row_lt t ⟨o + b.val, by omega⟩⟩ rfl]
  unfold want17
  rw [G15_apply]
  refine codeHeads_apply (fun i => head m c t h (1536 + i.val * 128) (by omega)) b i d _ fun d => ?_
  exact value_apply m c t h i _ _ rfl d b _ rfl

theorem keyScaleTile (c : Dev nD) (t : Fin cfg0.N) (h : Half m c t o L cs sn) (k : Fin 2) (hk : o = k.val * 128) (i : Fin 4)
    (p : Nat) (hp : p + 128 ≤ 2048) (e : p = 1024 + i.val * 128) (y : S2x4x128.Idx) :
    View.TileAt (Val := Elt Ideal) (S := S2x4x128) (e := .f32) y ![k.val, i.val, 0] ![1, 1, 128]
      (tileT (scaleTOf (amaxT (key m c t h p hp))))
      (want16 m c (((cfg0.win 16).blk t).view.emb y)) := by
  intro x hx
  have hb := h.bound
  obtain ⟨z, z', b, rfl⟩ : ∃ (z z' : Fin 1) (b : Fin 128), x = ix3 z z' b := ⟨x 0, x 1, x 2, eq_ix3 x⟩
  obtain rfl : z = 0 := Subsingleton.elim _ _
  obtain rfl : z' = 0 := Subsingleton.elim _ _
  obtain rfl : y = ix3 k i b := by
    rw [eq_ix3 y]; congr 1
    · exact Fin.ext (hx 0)
    · exact Fin.ext (hx 1)
    · exact Fin.ext ((hx 2).trans (Nat.zero_add _))
  rw [emb16 t k i b ⟨_, tile_lt t k⟩ rfl]
  unfold want16
  rw [G14_apply]
  exact scalePiece_apply _ b _ fun d => key_apply m c t h i p hp e d b _ (by simp only; omega)

theorem valueScaleTile (c : Dev nD) (t : Fin cfg0.N) (h : Half m c t o L cs sn) (k : Fin 2) (hk : o = k.val * 128) (i : Fin 4)
    (p : Nat) (hp : p + 128 ≤ 2048) (e : p = 1536 + i.val * 128) (y : S2x4x128.Idx) :
    View.TileAt (Val := Elt Ideal) (S := S2x4x128) (e := .f32) y ![k.val, i.val, 0] ![1, 1, 128]
      (tileT (scaleTOf (amaxT (head m c t h p hp))))
      (want18 m c (((cfg0.win 18).blk t).view.emb y)) := by
  intro x hx
  have hb := h.bound
  obtain ⟨z, z', b, rfl⟩ : ∃ (z z' : Fin 1) (b : Fin 128), x = ix3 z z' b := ⟨x 0, x 1, x 2, eq_ix3 x⟩
  obtain rfl : z = 0 := Subsingleton.elim _ _
  obtain rfl : z' = 0 := Subsingleton.elim _ _
  obtain rfl : y = ix3 k i b := by
    rw [eq_ix3 y]; congr 1
    · exact Fin.ext (hx 0)
    · exact Fin.ext (hx 1)
    · exact Fin.ext ((hx 2).trans (Nat.zero_add _))
  rw [emb18 t k i b ⟨_, tile_lt t k⟩ rfl]
  unfold want18
  rw [G16_apply]
  exact scalePiece_apply _ b _ fun d => value_apply m c t h i p hp e d b _ (by simp only; omega)

theorem rowScaleTile (c : Dev nD) (t : Fin cfg0.N) (h : Half m c t o L cs sn) (k : Fin 2) (hk : o = k.val * 128)
    (y : S2x1x128.Idx) :
    View.TileAt (Val := Elt Ideal) (S := S2x1x128) (e := .f32) y ![k.val, 0, 0] ![1, 1, 128] (tileT L)
      (want11 m c (((cfg0.win 11).blk t).view.emb y)) := by
  intro x hx
  have hb := h.bound
  obtain ⟨z, z', b, rfl⟩ : ∃ (z z' : Fin 1) (b : Fin 128), x = ix3 z z' b := ⟨x 0, x 1, x 2, eq_ix3 x⟩
  obtain rfl : z = 0 := Subsingleton.elim _ _
  obtain rfl : z' = 0 := Subsingleton.elim _ _
  obtain rfl : y = ix3 k 0 b := by
    rw [eq_ix3 y]; congr 1
    · exact Fin.ext (hx 0)
    · exact Fin.ext (hx 1)
    · exact Fin.ext ((hx 2).trans (Nat.zero_add _))
  rw [emb11 t k b ⟨_, tile_lt t k⟩ rfl]
  unfold want11
  rw [G9_apply, tileT_apply, h.lanes_apply, pay3_apply]
  exact congrArg _ (blockRow_eq m c t _ _ (by simp only; omega))

end Cert.KernelIdeal.Value

end
-- ==== Proof.KernelValue.lean ====
/- The kernel's nine result arrays after the run are the reference's arrays of the arguments. -/
module

public import proofs.«01_k».proof.Proof.KernelTiles

@[expose] public section

set_option maxRecDepth 16384
set_option maxHeartbeats 2000000

noncomputable section

namespace Cert.KernelIdeal.Value

open Cert.KernelIdeal Cert.KernelIdeal.Gen Idealize.ShloMosaic Idealize.ShloMosaic.TcCoe Idealize.SL.Sem
open Idealize.ShloMosaic.Pipeline (Dat)
open Cert.ReferenceIdeal.Value

variable (m : (ℓ : Loc nD τ sig) → Buf (Elt Ideal) ℓ)

/-- After the run, result 0 of the kernel holds the row codes of the arguments. -/
theorem final10 (c : Dev nD) : (dats m 0 c).arrAt 10 cfg0.N = want10 m c := by
  refine (dats m 0 c).arrAt_eq_of_covers 10 _ (by decide +kernel) fun t hf y => ?_
  rw [after0_10]
  unfold outsAt0
  frame_out
  obtain ⟨a, d, rfl⟩ : ∃ (a : Fin 256) (d : Fin 5376), y = ix2 a d := ⟨y 0, y 1, eq_ix2 y⟩
  rw [emb10 t a d ⟨_, row_lt t a⟩ rfl]
  refine (pay4_apply _ _ a d).trans ?_
  rw [blockRow_eq m c t a ⟨_, row_lt t a⟩ rfl]
  unfold want10
  rw [G8_apply]

/-- The pieces one iteration stores in window 11 make its block of the rows' scales. -/
theorem block11 (c : Dev nD) (t : Fin cfg0.N) (y : S2x1x128.Idx) :
    View.canon (Val := Elt Ideal) (s := S2x1x128) (e := .f32)
      [⟨Rect.unit ![1, 0, 0] ![1, 1, 128] inb_S2x1x128_S1x1x128_1_0_0, tileT (k0_pay95 (F := Ideal) (k0_pay6 (k0_pay3 (iblk m c 0 t) (iblk m c 1 t))))⟩,
        ⟨Rect.unit ![0, 0, 0] ![1, 1, 128] inb_S2x1x128_S1x1x128_0_0_0, tileT (k0_pay7 (F := Ideal) (k0_pay3 (iblk m c 0 t) (iblk m c 1 t)))⟩] y =
      want11 m c (((cfg0.win 11).blk t).view.emb y) := by
  refine View.canon_eq_of_allAt _ y _ ?_ ?_
  · exact View.cover_of_tiled_head _ _ _ (by rfl) _
  refine View.allAt_cons_unit _ _ _ _ _ (rowScaleTile m c t (half1 m c t) 1 rfl y) ?_
  refine View.allAt_cons_unit _ _ _ _ _ (rowScaleTile m c t (half0 m c t) 0 rfl y) ?_
  exact View.allAt_nil _ _

/-- After the run, result 1 of the kernel holds the rows' scales of the arguments. -/
theorem final11 (c : Dev nD) : (dats m 0 c).arrAt 11 cfg0.N = want11 m c := by
  refine (dats m 0 c).arrAt_eq_of_covers 11 _ (by decide +kernel) fun t hf y => ?_
  rw [after0_11]
  unfold outsAt0
  frame_out
  exact block11 m c t y

/-- The pieces one iteration stores in window 12 make its block of the turned queries, features by rows. -/
theorem block12 (c : Dev nD) (t : Fin cfg0.N) (y : S1024x256.Idx) :
    View.canon (Val := Elt Ideal) (s := S1024x256) (e := .bf16)
      [⟨Rect.unit ![896, 128] ![128, 128] inb_S1024x256_S128x128_896_128, truncf .bf16 (rotateT (normT (head m c t (half1 m c t) 896 (by omega)) (iblk m c 4 t)) (k0_pay97 (F := Ideal) (iblk m c 8 t)) (k0_pay98 (F := Ideal) (iblk m c 9 t))) bitsLt_bf16_f32⟩,
        ⟨Rect.unit ![768, 128] ![128, 128] inb_S1024x256_S128x128_768_128, truncf .bf16 (rotateT (normT (head m c t (half1 m c t) 768 (by omega)) (iblk m c 4 t)) (k0_pay97 (F := Ideal) (iblk m c 8 t)) (k0_pay98 (F := Ideal) (iblk m c 9 t))) bitsLt_bf16_f32⟩,
        ⟨Rect.unit ![640, 128] ![128, 128] inb_S1024x256_S128x128_640_128, truncf .bf16 (rotateT (normT (head m c t (half1 m c t) 640 (by omega)) (iblk m c 4 t)) (k0_pay97 (F := Ideal) (iblk m c 8 t)) (k0_pay98 (F := Ideal) (iblk m c 9 t))) bitsLt_bf16_f32⟩,
        ⟨Rect.unit ![512, 128] ![128, 128] inb_S1024x256_S128x128_512_128, truncf .bf16 (rotateT (normT (head m c t (half1 m c t) 512 (by omega)) (iblk m c 4 t)) (k0_pay97 (F := Ideal) (iblk m c 8 t)) (k0_pay98 (F := Ideal) (iblk m c 9 t))) bitsLt_bf16_f32⟩,
        ⟨Rect.unit ![384, 128] ![128, 128] inb_S1024x256_S128x128_384_128, truncf .bf16 (rotateT (normT (head m c t (half1 m c t) 384 (by omega)) (iblk m c 4 t)) (k0_pay97 (F := Ideal) (iblk m c 8 t)) (k0_pay98 (F := Ideal) (iblk m c 9 t))) bitsLt_bf16_f32⟩,
        ⟨Rect.unit ![256, 128] ![128, 128] inb_S1024x256_S128x128_256_128, truncf .bf16 (rotateT (normT (head m c t (half1 m c t) 256 (by omega)) (iblk m c 4 t)) (k0_pay97 (F := Ideal) (iblk m c 8 t)) (k0_pay98 (F := Ideal) (iblk m c 9 t))) bitsLt_bf16_f32⟩,
        ⟨Rect.unit ![128, 128] ![128, 128] inb_S1024x256_S128x128_128_128, truncf .bf16 (rotateT (normT (head m c t (half1 m c t) 128 (by omega)) (iblk m c 4 t)) (k0_pay97 (F := Ideal) (iblk m c 8 t)) (k0_pay98 (F := Ideal) (iblk m c 9 t))) bitsLt_bf16_f32⟩,
        ⟨Rect.unit ![0, 128] ![128, 128] inb_S1024x256_S128x128_0_128, truncf .bf16 (rotateT (normT (head m c t (half1 m c t) 0 (by omega)) (iblk m c 4 t)) (k0_pay97 (F := Ideal) (iblk m c 8 t)) (k0_pay98 (F := Ideal) (iblk m c 9 t))) bitsLt_bf16_f32⟩,
        ⟨Rect.unit ![896, 0] ![128, 128] inb_S1024x256_S128x128_896_0, truncf .bf16 (rotateT (normT (head m c t (half0 m c t) 896 (by omega)) (iblk m c 4 t)) (k0_pay9 (F := Ideal) (iblk m c 6 t)) (k0_pay10 (F := Ideal) (iblk m c 7 t))) bitsLt_bf16_f32⟩,
        ⟨Rect.unit ![768, 0] ![128, 128] inb_S1024x256_S128x128_768_0, truncf .bf16 (rotateT (normT (head m c t (half0 m c t) 768 (by omega)) (iblk m c 4 t)) (k0_pay9 (F := Ideal) (iblk m c 6 t)) (k0_pay10 (F := Ideal) (iblk m c 7 t))) bitsLt_bf16_f32⟩,
        ⟨Rect.unit ![640, 0] ![128, 128] inb_S1024x256_S128x128_640_0, truncf .bf16 (rotateT (normT (head m c t (half0 m c t) 640 (by omega)) (iblk m c 4 t)) (k0_pay9 (F := Ideal) (iblk m c 6 t)) (k0_pay10 (F := Ideal) (iblk m c 7 t))) bitsLt_bf16_f32⟩,
        ⟨Rect.unit ![512, 0] ![128, 128] inb_S1024x256_S128x128_512_0, truncf .bf16 (rotateT (normT (head m c t (half0 m c t) 512 (by omega)) (iblk m c 4 t)) (k0_pay9 (F := Ideal) (iblk m c 6 t)) (k0_pay10 (F := Ideal) (iblk m c 7 t))) bitsLt_bf16_f32⟩,
        ⟨Rect.unit ![384, 0] ![128, 128] inb_S1024x256_S128x128_384_0, truncf .bf16 (rotateT (normT (head m c t (half0 m c t) 384 (by omega)) (iblk m c 4 t)) (k0_pay9 (F := Ideal) (iblk m c 6 t)) (k0_pay10 (F := Ideal) (iblk m c 7 t))) bitsLt_bf16_f32⟩,
        ⟨Rect.unit ![256, 0] ![128, 128] inb_S1024x256_S128x128_256_0, truncf .bf16 (rotateT (normT (head m c t (half0 m c t) 256 (by omega)) (iblk m c 4 t)) (k0_pay9 (F := Ideal) (iblk m c 6 t)) (k0_pay10 (F := Ideal) (iblk m c 7 t))) bitsLt_bf16_f32⟩,
        ⟨Rect.unit ![128, 0] ![128, 128] inb_S1024x256_S128x128_128_0, truncf .bf16 (rotateT (normT (head m c t (half0 m c t) 128 (by omega)) (iblk m c 4 t)) (k0_pay9 (F := Ideal) (iblk m c 6 t)) (k0_pay10 (F := Ideal) (iblk m c 7 t))) bitsLt_bf16_f32⟩,
        ⟨Rect.unit ![0, 0] ![128, 128] inb_S1024x256_S128x128_0_0, truncf .bf16 (rotateT (normT (head m c t (half0 m c t) 0 (by omega)) (iblk m c 4 t)) (k0_pay9 (F := Ideal) (iblk m c 6 t)) (k0_pay10 (F := Ideal) (iblk m c 7 t))) bitsLt_bf16_f32⟩] y =
      want12 m c (((cfg0.win 12).blk t).view.emb y) := by
  refine View.canon_eq_of_allAt _ y _ ?_ ?_
  · exact View.cover_of_tiled_head _ _ _ (by rfl) _
  refine View.allAt_cons_unit _ _ _ _ _ (queryTile m c t (half1 m c t) 7 896 (by omega) rfl y) ?_
  refine View.allAt_cons_unit _ _ _ _ _ (queryTile m c t (half1 m c t) 6 768 (by omega) rfl y) ?_
  refine View.allAt_cons_unit _ _ _ _ _ (queryTile m c t (half1 m c t) 5 640 (by omega) rfl y) ?_
  refine View.allAt_cons_unit _ _ _ _ _ (queryTile m c t (half1 m c t) 4 512 (by omega) rfl y) ?_
  refine View.allAt_cons_unit _ _ _ _ _ (queryTile m c t (half1 m c t) 3 384 (by omega) rfl y) ?_
  refine View.allAt_cons_unit _ _ _ _ _ (queryTile m c t (half1 m c t) 2 256 (by omega) rfl y) ?_
  refine View.allAt_cons_unit _ _ _ _ _ (queryTile m c t (half1 m c t) 1 128 (by omega) rfl y) ?_
  refine View.allAt_cons_unit _ _ _ _ _ (queryTile m c t (half1 m c t) 0 0 (by omega) rfl y) ?_
  refine View.allAt_cons_unit _ _ _ _ _ (queryTile m c t (half0 m c t) 7 896 (by omega) rfl y) ?_
  refine View.allAt_cons_unit _ _ _ _ _ (queryTile m c t (half0 m c t) 6 768 (by omega) rfl y) ?_
  refine View.allAt_cons_unit _ _ _ _ _ (queryTile m c t (half0 m c t) 5 640 (by omega) rfl y) ?_
  refine View.allAt_cons_unit _ _ _ _ _ (queryTile m c t (half0 m c t) 4 512 (by omega) rfl y) ?_
  refine View.allAt_cons_unit _ _ _ _ _ (queryTile m c t (half0 m c t) 3 384 (by omega) rfl y) ?_
  refine View.allAt_cons_unit _ _ _ _ _ (queryTile m c t (half0 m c t) 2 256 (by omega) rfl y) ?_
  refine View.allAt_cons_unit _ _ _ _ _ (queryTile m c t (half0 m c t) 1 128 (by omega) rfl y) ?_
  refine View.allAt_cons_unit _ _ _ _ _ (queryTile m c t (half0 m c t) 0 0 (by omega) rfl y) ?_
  exact View.allAt_nil _ _

/-- After the run, result 2 of the kernel holds the turned queries, features by rows, of the arguments. -/
theorem final12 (c : Dev nD) : (dats m 0 c).arrAt 12 cfg0.N = want12 m c := by
  refine (dats m 0 c).arrAt_eq_of_covers 12 _ (by decide +kernel) fun t hf y => ?_
  rw [after0_12]
  unfold outsAt0
  frame_out
  exact block12 m c t y

/-- The pieces one iteration stores in window 13 make its block of the widened key codes, head by head. -/
theorem block13 (c : Dev nD) (t : Fin cfg0.N) (y : S4x256x128.Idx) :
    View.canon (Val := Elt Ideal) (s := S4x256x128) (e := .bf16)
      [⟨Rect.unit ![3, 128, 0] ![1, 128, 128] inb_S4x256x128_S1x128x128_3_128_0, wideT (rowsT (clipT (key m c t (half1 m c t) 1408 (by omega)) (scaleTOf (amaxT (key m c t (half1 m c t) 1408 (by omega))))))⟩,
        ⟨Rect.unit ![2, 128, 0] ![1, 128, 128] inb_S4x256x128_S1x128x128_2_128_0, wideT (rowsT (clipT (key m c t (half1 m c t) 1280 (by omega)) (scaleTOf (amaxT (key m c t (half1 m c t) 1280 (by omega))))))⟩,
        ⟨Rect.unit ![1, 128, 0] ![1, 128, 128] inb_S4x256x128_S1x128x128_1_128_0, wideT (rowsT (clipT (key m c t (half1 m c t) 1152 (by omega)) (scaleTOf (amaxT (key m c t (half1 m c t) 1152 (by omega))))))⟩,
        ⟨Rect.unit ![0, 128, 0] ![1, 128, 128] inb_S4x256x128_S1x128x128_0_128_0, wideT (rowsT (clipT (key m c t (half1 m c t) 1024 (by omega)) (scaleTOf (amaxT (key m c t (half1 m c t) 1024 (by omega))))))⟩,
        ⟨Rect.unit ![3, 0, 0] ![1, 128, 128] inb_S4x256x128_S1x128x128_3_0_0, wideT (rowsT (clipT (key m c t (half0 m c t) 1408 (by omega)) (scaleTOf (amaxT (key m c t (half0 m c t) 1408 (by omega))))))⟩,
        ⟨Rect.unit ![2, 0, 0] ![1, 128, 128] inb_S4x256x128_S1x128x128_2_0_0, wideT (rowsT (clipT (key m c t (half0 m c t) 1280 (by omega)) (scaleTOf (amaxT (key m c t (half0 m c t) 1280 (by omega))))))⟩,
        ⟨Rect.unit ![1, 0, 0] ![1, 128, 128] inb_S4x256x128_S1x128x128_1_0_0, wideT (rowsT (clipT (key m c t (half0 m c t) 1152 (by omega)) (scaleTOf (amaxT (key m c t (half0 m c t) 1152 (by omega))))))⟩,
        ⟨Rect.unit ![0, 0, 0] ![1, 128, 128] inb_S4x256x128_S1x128x128_0_0_0, wideT (rowsT (clipT (key m c t (half0 m c t) 1024 (by omega)) (scaleTOf (amaxT (key m c t (half0 m c t) 1024 (by omega))))))⟩] y =
      want13 m c (((cfg0.win 13).blk t).view.emb y) := by
  refine View.canon_eq_of_allAt _ y _ ?_ ?_
  · exact View.cover_of_tiled_head _ _ _ (by rfl) _
  refine View.allAt_cons_unit _ _ _ _ _ (keyTile m c t (half1 m c t) 3 1408 (by omega) rfl y) ?_
  refine View.allAt_cons_unit _ _ _ _ _ (keyTile m c t (half1 m c t) 2 1280 (by omega) rfl y) ?_
  refine View.allAt_cons_unit _ _ _ _ _ (keyTile m c t (half1 m c t) 1 1152 (by omega) rfl y) ?_
  refine View.allAt_cons_unit _ _ _ _ _ (keyTile m c t (half1 m c t) 0 1024 (by omega) rfl y) ?_
  refine View.allAt_cons_unit _ _ _ _ _ (keyTile m c t (half0 m c t) 3 1408 (by omega) rfl y) ?_
  refine View.allAt_cons_unit _ _ _ _ _ (keyTile m c t (half0 m c t) 2 1280 (by omega) rfl y) ?_
  refine View.allAt_cons_unit _ _ _ _ _ (keyTile m c t (half0 m c t) 1 1152 (by omega) rfl y) ?_
  refine View.allAt_cons_unit _ _ _ _ _ (keyTile m c t (half0 m c t) 0 1024 (by omega) rfl y) ?_
  exact View.allAt_nil _ _

/-- After the run, result 3 of the kernel holds the widened key codes, head by head, of the arguments. -/
theorem final13 (c : Dev nD) : (dats m 0 c).arrAt 13 cfg0.N = want13 m c := by
  refine (dats m 0 c).arrAt_eq_of_covers 13 _ (by decide +kernel) fun t hf y => ?_
  rw [after0_13]
  unfold outsAt0
  frame_out
  exact block13 m c t y

/-- The pieces one iteration stores in window 14 make its block of the widened value codes, head by head, features by rows. -/
theorem block14 (c : Dev nD) (t : Fin cfg0.N) (y : S4x128x256.Idx) :
    View.canon (Val := Elt Ideal) (s := S4x128x256) (e := .bf16)
      [⟨Rect.unit ![3, 0, 128] ![1, 128, 128] inb_S4x128x256_S1x128x128_3_0_128, wideT (featuresT (clipT (head m c t (half1 m c t) 1920 (by omega)) (scaleTOf (amaxT (head m c t (half1 m c t) 1920 (by omega))))))⟩,
        ⟨Rect.unit ![2, 0, 128] ![1, 128, 128] inb_S4x128x256_S1x128x128_2_0_128, wideT (featuresT (clipT (head m c t (half1 m c t) 1792 (by omega)) (scaleTOf (amaxT (head m c t (half1 m c t) 1792 (by omega))))))⟩,
        ⟨Rect.unit ![1, 0, 128] ![1, 128, 128] inb_S4x128x256_S1x128x128_1_0_128, wideT (featuresT (clipT (head m c t (half1 m c t) 1664 (by omega)) (scaleTOf (amaxT (head m c t (half1 m c t) 1664 (by omega))))))⟩,
        ⟨Rect.unit ![0, 0, 128] ![1, 128, 128] inb_S4x128x256_S1x128x128_0_0_128, wideT (featuresT (clipT (head m c t (half1 m c t) 1536 (by omega)) (scaleTOf (amaxT (head m c t (half1 m c t) 1536 (by omega))))))⟩,
        ⟨Rect.unit ![3, 0, 0] ![1, 128, 128] inb_S4x128x256_S1x128x128_3_0_0, wideT (featuresT (clipT (head m c t (half0 m c t) 1920 (by omega)) (scaleTOf (amaxT (head m c t (half0 m c t) 1920 (by omega))))))⟩,
        ⟨Rect.unit ![2, 0, 0] ![1, 128, 128] inb_S4x128x256_S1x128x128_2_0_0, wideT (featuresT (clipT (head m c t (half0 m c t) 1792 (by omega)) (scaleTOf (amaxT (head m c t (half0 m c t) 1792 (by omega))))))⟩,
        ⟨Rect.unit ![1, 0, 0] ![1, 128, 128] inb_S4x128x256_S1x128x128_1_0_0, wideT (featuresT (clipT (head m c t (half0 m c t) 1664 (by omega)) (scaleTOf (amaxT (head m c t (half0 m c t) 1664 (by omega))))))⟩,
        ⟨Rect.unit ![0, 0, 0] ![1, 128, 128] inb_S4x128x256_S1x128x128_0_0_0, wideT (featuresT (clipT (head m c t (half0 m c t) 1536 (by omega)) (scaleTOf (amaxT (head m c t (half0 m c t) 1536 (by omega))))))⟩] y =
      want14 m c (((cfg0.win 14).blk t).view.emb y) := by
  refine View.canon_eq_of_allAt _ y _ ?_ ?_
  · exact View.cover_of_tiled_head _ _ _ (by rfl) _
  refine View.allAt_cons_unit _ _ _ _ _ (valueTile m c t (half1 m c t) 3 1920 (by omega) rfl y) ?_
  refine View.allAt_cons_unit _ _ _ _ _ (valueTile m c t (half1 m c t) 2 1792 (by omega) rfl y) ?_
  refine View.allAt_cons_unit _ _ _ _ _ (valueTile m c t (half1 m c t) 1 1664 (by omega) rfl y) ?_
  refine View.allAt_cons_unit _ _ _ _ _ (valueTile m c t (half1 m c t) 0 1536 (by omega) rfl y) ?_
  refine View.allAt_cons_unit _ _ _ _ _ (valueTile m c t (half0 m c t) 3 1920 (by omega) rfl y) ?_
  refine View.allAt_cons_unit _ _ _ _ _ (valueTile m c t (half0 m c t) 2 1792 (by omega) rfl y) ?_
  refine View.allAt_cons_unit _ _ _ _ _ (valueTile m c t (half0 m c t) 1 1664 (by omega) rfl y) ?_
  refine View.allAt_cons_unit _ _ _ _ _ (valueTile m c t (half0 m c t) 0 1536 (by omega) rfl y) ?_
  exact View.allAt_nil _ _

/-- After the run, result 4 of the kernel holds the widened value codes, head by head, features by rows, of the arguments. -/
theorem final14 (c : Dev nD) : (dats m 0 c).arrAt 14 cfg0.N = want14 m c := by
  refine (dats m 0 c).arrAt_eq_of_covers 14 _ (by decide +kernel) fun t hf y => ?_
  rw [after0_14]
  unfold outsAt0
  frame_out
  exact block14 m c t y

/-- The pieces one iteration stores in window 15 make its block of the key codes, rows by heads. -/
theorem block15 (c : Dev nD) (t : Fin cfg0.N) (y : S256x4x128.Idx) :
    View.canon (Val := Elt Ideal) (s := S256x4x128) (e := .fp8e4m3)
      [⟨Rect.unit ![128, 0, 0] ![128, 4, 128] inb_S256x4x128_S128x4x128_128_0_0, k0_pay1 (F := Ideal) (rowsT (clipT (key m c t (half1 m c t) 1024 (by omega)) (scaleTOf (amaxT (key m c t (half1 m c t) 1024 (by omega)))))) (rowsT (clipT (key m c t (half1 m c t) 1152 (by omega)) (scaleTOf (amaxT (key m c t (half1 m c t) 1152 (by omega)))))) (rowsT (clipT (key m c t (half1 m c t) 1280 (by omega)) (scaleTOf (amaxT (key m c t (half1 m c t) 1280 (by omega)))))) (rowsT (clipT (key m c t (half1 m c t) 1408 (by omega)) (scaleTOf (amaxT (key m c t (half1 m c t) 1408 (by omega))))))⟩,
        ⟨Rect.unit ![0, 0, 0] ![128, 4, 128] inb_S256x4x128_S128x4x128_0_0_0, k0_pay1 (F := Ideal) (rowsT (clipT (key m c t (half0 m c t) 1024 (by omega)) (scaleTOf (amaxT (key m c t (half0 m c t) 1024 (by omega)))))) (rowsT (clipT (key m c t (half0 m c t) 1152 (by omega)) (scaleTOf (amaxT (key m c t (half0 m c t) 1152 (by omega)))))) (rowsT (clipT (key m c t (half0 m c t) 1280 (by omega)) (scaleTOf (amaxT (key m c t (half0 m c t) 1280 (by omega)))))) (rowsT (clipT (key m c t (half0 m c t) 1408 (by omega)) (scaleTOf (amaxT (key m c t (half0 m c t) 1408 (by omega))))))⟩] y =
      want15 m c (((cfg0.win 15).blk t).view.emb y) := by
  refine View.canon_eq_of_allAt _ y _ ?_ ?_
  · exact View.cover_of_tiled_head _ _ _ (by rfl) _
  refine View.allAt_cons_unit _ _ _ _ _ (keysTile m c t (half1 m c t) y) ?_
  refine View.allAt_cons_unit _ _ _ _ _ (keysTile m c t (half0 m c t) y) ?_
  exact View.allAt_nil _ _

/-- After the run, result 5 of the kernel holds the key codes, rows by heads of the arguments. -/
theorem final15 (c : Dev nD) : (dats m 0 c).arrAt 15 cfg0.N = want15 m c := by
  refine (dats m 0 c).arrAt_eq_of_covers 15 _ (by decide +kernel) fun t hf y => ?_
  rw [after0_15]
  unfold outsAt0
  frame_out
  exact block15 m c t y

/-- The pieces one iteration stores in window 16 make its block of the key scales. -/
theorem block16 (c : Dev nD) (t : Fin cfg0.N) (y : S2x4x128.Idx) :
    View.canon (Val := Elt Ideal) (s := S2x4x128) (e := .f32)
      [⟨Rect.unit ![1, 3, 0] ![1, 1, 128] inb_S2x4x128_S1x1x128_1_3_0, tileT (scaleTOf (amaxT (key m c t (half1 m c t) 1408 (by omega))))⟩,
        ⟨Rect.unit ![1, 2, 0] ![1, 1, 128] inb_S2x4x128_S1x1x128_1_2_0, tileT (scaleTOf (amaxT (key m c t (half1 m c t) 1280 (by omega))))⟩,
        ⟨Rect.unit ![1, 1, 0] ![1, 1, 128] inb_S2x4x128_S1x1x128_1_1_0, tileT (scaleTOf (amaxT (key m c t (half1 m c t) 1152 (by omega))))⟩,
        ⟨Rect.unit ![1, 0, 0] ![1, 1, 128] inb_S2x4x128_S1x1x128_1_0_0, tileT (scaleTOf (amaxT (key m c t (half1 m c t) 1024 (by omega))))⟩,
        ⟨Rect.unit ![0, 3, 0] ![1, 1, 128] inb_S2x4x128_S1x1x128_0_3_0, tileT (scaleTOf (amaxT (key m c t (half0 m c t) 1408 (by omega))))⟩,
        ⟨Rect.unit ![0, 2, 0] ![1, 1, 128] inb_S2x4x128_S1x1x128_0_2_0, tileT (scaleTOf (amaxT (key m c t (half0 m c t) 1280 (by omega))))⟩,
        ⟨Rect.unit ![0, 1, 0] ![1, 1, 128] inb_S2x4x128_S1x1x128_0_1_0, tileT (scaleTOf (amaxT (key m c t (half0 m c t) 1152 (by omega))))⟩,
        ⟨Rect.unit ![0, 0, 0] ![1, 1, 128] inb_S2x4x128_S1x1x128_0_0_0, tileT (scaleTOf (amaxT (key m c t (half0 m c t) 1024 (by omega))))⟩] y =
      want16 m c (((cfg0.win 16).blk t).view.emb y) := by
  refine View.canon_eq_of_allAt _ y _ ?_ ?_
  · exact View.cover_of_tiled_head _ _ _ (by rfl) _
  refine View.allAt_cons_unit _ _ _ _ _ (keyScaleTile m c t (half1 m c t) 1 rfl 3 1408 (by omega) rfl y) ?_
  refine View.allAt_cons_unit _ _ _ _ _ (keyScaleTile m c t (half1 m c t) 1 rfl 2 1280 (by omega) rfl y) ?_
  refine View.allAt_cons_unit _ _ _ _ _ (keyScaleTile m c t (half1 m c t) 1 rfl 1 1152 (by omega) rfl y) ?_
  refine View.allAt_cons_unit _ _ _ _ _ (keyScaleTile m c t (half1 m c t) 1 rfl 0 1024 (by omega) rfl y) ?_
  refine View.allAt_cons_unit _ _ _ _ _ (keyScaleTile m c t (half0 m c t) 0 rfl 3 1408 (by omega) rfl y) ?_
  refine View.allAt_cons_unit _ _ _ _ _ (keyScaleTile m c t (half0 m c t) 0 rfl 2 1280 (by omega) rfl y) ?_
  refine View.allAt_cons_unit _ _ _ _ _ (keyScaleTile m c t (half0 m c t) 0 rfl 1 1152 (by omega) rfl y) ?_
  refine View.allAt_cons_unit _ _ _ _ _ (keyScaleTile m c t (half0 m c t) 0 rfl 0 1024 (by omega) rfl y) ?_
  exact View.allAt_nil _ _

/-- After the run, result 6 of the kernel holds the key scales of the arguments. -/
theorem final16 (c : Dev nD) : (dats m 0 c).arrAt 16 cfg0.N = want16 m c := by
  refine (dats m 0 c).arrAt_eq_of_covers 16 _ (by decide +kernel) fun t hf y => ?_
  rw [after0_16]
  unfold outsAt0
  frame_out
  exact block16 m c t y

/-- The pieces one iteration stores in window 17 make its block of the value codes, rows by heads. -/
theorem block17 (c : Dev nD) (t : Fin cfg0.N) (y : S256x4x128.Idx) :
    View.canon (Val := Elt Ideal) (s := S256x4x128) (e := .fp8e4m3)
      [⟨Rect.unit ![128, 0, 0] ![128, 4, 128] inb_S256x4x128_S128x4x128_128_0_0, k0_pay1 (F := Ideal) (rowsT (clipT (head m c t (half1 m c t) 1536 (by omega)) (scaleTOf (amaxT (head m c t (half1 m c t) 1536 (by omega)))))) (rowsT (clipT (head m c t (half1 m c t) 1664 (by omega)) (scaleTOf (amaxT (head m c t (half1 m c t) 1664 (by omega)))))) (rowsT (clipT (head m c t (half1 m c t) 1792 (by omega)) (scaleTOf (amaxT (head m c t (half1 m c t) 1792 (by omega)))))) (rowsT (clipT (head m c t (half1 m c t) 1920 (by omega)) (scaleTOf (amaxT (head m c t (half1 m c t) 1920 (by omega))))))⟩,
        ⟨Rect.unit ![0, 0, 0] ![128, 4, 128] inb_S256x4x128_S128x4x128_0_0_0, k0_pay1 (F := Ideal) (rowsT (clipT (head m c t (half0 m c t) 1536 (by omega)) (scaleTOf (amaxT (head m c t (half0 m c t) 1536 (by omega)))))) (rowsT (clipT (head m c t (half0 m c t) 1664 (by omega)) (scaleTOf (amaxT (head m c t (half0 m c t) 1664 (by omega)))))) (rowsT (clipT (head m c t (half0 m c t) 1792 (by omega)) (scaleTOf (amaxT (head m c t (half0 m c t) 1792 (by omega)))))) (rowsT (clipT (head m c t (half0 m c t) 1920 (by omega)) (scaleTOf (amaxT (head m c t (half0 m c t) 1920 (by omega))))))⟩] y =
      want17 m c (((cfg0.win 17).blk t).view.emb y) := by
  refine View.canon_eq_of_allAt _ y _ ?_ ?_
  · exact View.cover_of_tiled_head _ _ _ (by rfl) _
  refine View.allAt_cons_unit _ _ _ _ _ (valuesTile m c t (half1 m c t) y) ?_
  refine View.allAt_cons_unit _ _ _ _ _ (valuesTile m c t (half0 m c t) y) ?_
  exact View.allAt_nil _ _

/-- After the run, result 7 of the kernel holds the value codes, rows by heads of the arguments. -/
theorem final17 (c : Dev nD) : (dats m 0 c).arrAt 17 cfg0.N = want17 m c := by
  refine (dats m 0 c).arrAt_eq_of_covers 17 _ (by decide +kernel) fun t hf y => ?_
  rw [after0_17]
  unfold outsAt0
  frame_out
  exact block17 m c t y

/-- The pieces one iteration stores in window 18 make its block of the value scales. -/
theorem block18 (c : Dev nD) (t : Fin cfg0.N) (y : S2x4x128.Idx) :
    View.canon (Val := Elt Ideal) (s := S2x4x128) (e := .f32)
      [⟨Rect.unit ![1, 3, 0] ![1, 1, 128] inb_S2x4x128_S1x1x128_1_3_0, tileT (scaleTOf (amaxT (head m c t (half1 m c t) 1920 (by omega))))⟩,
        ⟨Rect.unit ![1, 2, 0] ![1, 1, 128] inb_S2x4x128_S1x1x128_1_2_0, tileT (scaleTOf (amaxT (head m c t (half1 m c t) 1792 (by omega))))⟩,
        ⟨Rect.unit ![1, 1, 0] ![1, 1, 128] inb_S2x4x128_S1x1x128_1_1_0, tileT (scaleTOf (amaxT (head m c t (half1 m c t) 1664 (by omega))))⟩,
        ⟨Rect.unit ![1, 0, 0] ![1, 1, 128] inb_S2x4x128_S1x1x128_1_0_0, tileT (scaleTOf (amaxT (head m c t (half1 m c t) 1536 (by omega))))⟩,
        ⟨Rect.unit ![0, 3, 0] ![1, 1, 128] inb_S2x4x128_S1x1x128_0_3_0, tileT (scaleTOf (amaxT (head m c t (half0 m c t) 1920 (by omega))))⟩,
        ⟨Rect.unit ![0, 2, 0] ![1, 1, 128] inb_S2x4x128_S1x1x128_0_2_0, tileT (scaleTOf (amaxT (head m c t (half0 m c t) 1792 (by omega))))⟩,
        ⟨Rect.unit ![0, 1, 0] ![1, 1, 128] inb_S2x4x128_S1x1x128_0_1_0, tileT (scaleTOf (amaxT (head m c t (half0 m c t) 1664 (by omega))))⟩,
        ⟨Rect.unit ![0, 0, 0] ![1, 1, 128] inb_S2x4x128_S1x1x128_0_0_0, tileT (scaleTOf (amaxT (head m c t (half0 m c t) 1536 (by omega))))⟩] y =
      want18 m c (((cfg0.win 18).blk t).view.emb y) := by
  refine View.canon_eq_of_allAt _ y _ ?_ ?_
  · exact View.cover_of_tiled_head _ _ _ (by rfl) _
  refine View.allAt_cons_unit _ _ _ _ _ (valueScaleTile m c t (half1 m c t) 1 rfl 3 1920 (by omega) rfl y) ?_
  refine View.allAt_cons_unit _ _ _ _ _ (valueScaleTile m c t (half1 m c t) 1 rfl 2 1792 (by omega) rfl y) ?_
  refine View.allAt_cons_unit _ _ _ _ _ (valueScaleTile m c t (half1 m c t) 1 rfl 1 1664 (by omega) rfl y) ?_
  refine View.allAt_cons_unit _ _ _ _ _ (valueScaleTile m c t (half1 m c t) 1 rfl 0 1536 (by omega) rfl y) ?_
  refine View.allAt_cons_unit _ _ _ _ _ (valueScaleTile m c t (half0 m c t) 0 rfl 3 1920 (by omega) rfl y) ?_
  refine View.allAt_cons_unit _ _ _ _ _ (valueScaleTile m c t (half0 m c t) 0 rfl 2 1792 (by omega) rfl y) ?_
  refine View.allAt_cons_unit _ _ _ _ _ (valueScaleTile m c t (half0 m c t) 0 rfl 1 1664 (by omega) rfl y) ?_
  refine View.allAt_cons_unit _ _ _ _ _ (valueScaleTile m c t (half0 m c t) 0 rfl 0 1536 (by omega) rfl y) ?_
  exact View.allAt_nil _ _

/-- After the run, result 8 of the kernel holds the value scales of the arguments. -/
theorem final18 (c : Dev nD) : (dats m 0 c).arrAt 18 cfg0.N = want18 m c := by
  refine (dats m 0 c).arrAt_eq_of_covers 18 _ (by decide +kernel) fun t hf y => ?_
  rw [after0_18]
  unfold outsAt0
  frame_out
  exact block18 m c t y

end Cert.KernelIdeal.Value

end
-- ==== Proof.AttendMath.lean ====
/- The arithmetic of attention over the extended reals: the weights of a row of scores, the mixture of values they make,
   and why keys whose score is minus infinity may be left out. -/
module

public import proofs.«01_k».proof.Proof.Amax

@[expose] public section

noncomputable section

namespace Cert.Row

open Idealize.ShloMosaic

variable {ι κ : Type} [Fintype ι] [Fintype κ]

theorem ofBits_bot : Ideal.ofBits .f32 0xFF800000#32 = ⊥ := by simp [Ideal.ofBits, Ideal.ieee]

/-- The largest of a row of scores. -/
def best (s : ι → EReal) : EReal := Finset.univ.sup s

/-- The weight of a key: two to its score less the largest, rounded up. -/
def weight (s : ι → EReal) (j : ι) : EReal := Ideal.exp2 (s j - Ideal.liftRound Int.ceil (best s))

/-- The mixture of the values `v`, of scales `w`, at the scores `s`. -/
def mix (s w v : ι → EReal) : EReal := Ideal.div (∑ j, v j * (weight s j * w j)) (∑ j, weight s j)

/-- A maximum from minus infinity on is the largest. -/
theorem fold_eq_sup (s : ι → EReal) : Finset.univ.fold max (Ideal.ofBits .f32 0xFF800000#32) s = Finset.univ.sup s := by
  rw [ofBits_bot]; rfl

theorem weight_bot {s : ι → EReal} {j : ι} (h : s j = ⊥) : weight s j = 0 := by
  unfold weight
  rw [h, sub_eq_add_neg, EReal.bot_add, Ideal.exp2_bot]

/-- The largest score is that of the keys among which the others are minus infinity. -/
theorem best_restrict (e : κ → ι) (s : ι → EReal) (hs : ∀ i, i ∉ Set.range e → s i = ⊥) :
    best s = best fun k => s (e k) := by
  refine le_antisymm (Finset.sup_le fun i _ => ?_) (Finset.sup_le fun k _ => Finset.le_sup (f := s) (Finset.mem_univ (e k)))
  by_cases h : i ∈ Set.range e
  · obtain ⟨k, rfl⟩ := h
    exact Finset.le_sup (f := fun k => s (e k)) (Finset.mem_univ k)
  · rw [hs i h]; exact bot_le

/-- Keys whose score is minus infinity may be left out of the mixture. -/
theorem mix_restrict (e : κ → ι) (he : Function.Injective e) (s w v : ι → EReal)
    (hs : ∀ i, i ∉ Set.range e → s i = ⊥) :
    mix s w v = mix (fun k => s (e k)) (fun k => w (e k)) (fun k => v (e k)) := by
  have hw : ∀ k, weight (fun k => s (e k)) k = weight s (e k) := fun k => by
    unfold weight; rw [best_restrict e s hs]
  unfold mix
  congr 1
  · refine (Fintype.sum_of_injective e he _ _ (fun i hi => ?_) fun k => ?_).symm
    · rw [weight_bot (hs i hi), zero_mul, mul_zero]
    · rw [hw]
  · exact (Fintype.sum_of_injective e he _ _ (fun i hi => weight_bot (hs i hi)) hw).symm

/-- The largest of eight. -/
def max8 (f : Fin 8 → EReal) : EReal := max (max (max (max (max (max (max (f 0) (f 1)) (f 2)) (f 3)) (f 4)) (f 5)) (f 6)) (f 7)

theorem max8_eq (f : Fin 8 → EReal) : max8 f = Finset.univ.sup f := by
  refine le_antisymm ?_ (Finset.sup_le fun i _ => ?_)
  · simp only [max8, max_le_iff]
    refine ⟨⟨⟨⟨⟨⟨⟨?_, ?_⟩, ?_⟩, ?_⟩, ?_⟩, ?_⟩, ?_⟩, ?_⟩ <;> exact Finset.le_sup (Finset.mem_univ _)
  · fin_cases i <;> simp [max8]

/-- The largest magnitude of a row is the largest of its heads'. -/
theorem amax_heads (p : Fin 1024 → EReal) :
    amax p = max8 fun i => amax fun d : Fin 128 => p ⟨i.val * 128 + d.val, by omega⟩ := by
  rw [max8_eq]
  unfold amax
  simp only [fold_eq_sup]
  refine le_antisymm (Finset.sup_le fun k _ => ?_) (Finset.sup_le fun i _ => Finset.sup_le fun d _ => ?_)
  · have h : k = ⟨(⟨k.val / 128, by omega⟩ : Fin 8).val * 128 + (⟨k.val % 128, by omega⟩ : Fin 128).val, by simp; omega⟩ :=
      Fin.ext (by simp; omega)
    rw [h]
    refine le_trans ?_ (Finset.le_sup (Finset.mem_univ (⟨k.val / 128, by omega⟩ : Fin 8)))
    exact Finset.le_sup (f := fun d : Fin 128 => FloatOps.absf (F := Ideal) (φ := .f32)
      (p ⟨(⟨k.val / 128, by omega⟩ : Fin 8).val * 128 + d.val, by simp; omega⟩)) (Finset.mem_univ _)
  · exact Finset.le_sup (f := fun k => FloatOps.absf (F := Ideal) (φ := .f32) (p k)) (Finset.mem_univ _)

/-- The sum of eleven. -/
def sum11 (f : Fin 11 → EReal) : EReal :=
  f 0 + f 1 + f 2 + f 3 + f 4 + f 5 + f 6 + f 7 + f 8 + f 9 + f 10

theorem sum11_eq (f : Fin 11 → EReal) : sum11 f = ∑ c, f c := by
  simp only [Fin.sum_univ_succ, Fin.sum_univ_zero, sum11, add_zero]
  simp only [← add_assoc]
  rfl

/-- A sum over 128 keys, by groups of eight. -/
theorem sum_groups (f : Fin 128 → EReal) :
    ∑ r : Fin 8, ∑ i : Fin 16, f ⟨i.val * 8 + r.val, by omega⟩ = ∑ j, f j := by
  rw [Finset.sum_comm, ← Fintype.sum_prod_type' (f := fun (i : Fin 16) (r : Fin 8) => f ⟨i.val * 8 + r.val, by omega⟩)]
  exact Fintype.sum_equiv (finProdFinEquiv (m := 16) (n := 8)) _ _ fun x => congrArg f (Fin.ext (by
    simp [finProdFinEquiv]; omega))

/-- The largest of eleven. -/
def max11 (f : Fin 11 → EReal) : EReal :=
  max (max (max (max (max (max (max (max (max (max (f 0) (f 1)) (f 2)) (f 3)) (f 4)) (f 5)) (f 6)) (f 7)) (f 8)) (f 9)) (f 10)

theorem max11_eq (f : Fin 11 → EReal) : max11 f = Finset.univ.sup f := by
  refine le_antisymm ?_ (Finset.sup_le fun i _ => ?_)
  · simp only [max11, max_le_iff]
    refine ⟨⟨⟨⟨⟨⟨⟨⟨⟨⟨?_, ?_⟩, ?_⟩, ?_⟩, ?_⟩, ?_⟩, ?_⟩, ?_⟩, ?_⟩, ?_⟩, ?_⟩ <;> exact Finset.le_sup (Finset.mem_univ _)
  · fin_cases i <;> simp [max11]

/-- The largest score of eleven chunks of 128 keys, by groups of eight. -/
theorem best_groups (s : Fin 11 → Fin 128 → EReal) :
    (Finset.univ.sup fun r : Fin 8 => max11 fun c => Finset.univ.sup fun i : Fin 16 => s c ⟨i.val * 8 + r.val, by omega⟩) =
      best fun k : Fin 11 × Fin 128 => s k.1 k.2 := by
  simp only [max11_eq]
  refine le_antisymm (Finset.sup_le fun r _ => Finset.sup_le fun c _ => Finset.sup_le fun i _ => ?_)
    (Finset.sup_le fun k _ => ?_)
  · exact Finset.le_sup (f := fun k : Fin 11 × Fin 128 => s k.1 k.2) (Finset.mem_univ (c, _))
  · obtain ⟨c, j⟩ := k
    have h : j = ⟨(⟨j.val / 8, by omega⟩ : Fin 16).val * 8 + (⟨j.val % 8, by omega⟩ : Fin 8).val, by simp; omega⟩ :=
      Fin.ext (by simp; omega)
    show s c j ≤ _
    rw [h]
    refine le_trans ?_ (Finset.le_sup (Finset.mem_univ (⟨j.val % 8, by omega⟩ : Fin 8)))
    refine le_trans ?_ (Finset.le_sup (Finset.mem_univ c))
    exact Finset.le_sup (f := fun i : Fin 16 => s c ⟨i.val * 8 + (⟨j.val % 8, by omega⟩ : Fin 8).val, by simp; omega⟩)
      (Finset.mem_univ _)

/-- The largest along the first of three axes. -/
theorem max_first3 {A B C : Nat} (v : FVec Ideal ⟨3, ![A, B, C]⟩ .f32)
    (h : (⟨3, ![A, B, C]⟩ : Shape).Reduces [0] ⟨2, ![B, C]⟩) (hφ : FKind.Formats .f32)
    (hacc : 0xFF800000#32 = FKind.maximumf.neutral .f32 hφ) (b : Fin B) (c : Fin C) :
    multiReduction .maximumf [0] ⟨2, ![B, C]⟩ v 0xFF800000#32 h hφ hacc (ix2 b c) =
      Finset.univ.sup fun a => v (ix3 a b c) := by
  rw [multiReduction_maximumf_eq_fold, ← fold_eq_sup]
  simp only [pointwise]

/-- The largest along the last of three axes. -/
theorem max_last3 {A B C : Nat} (v : FVec Ideal ⟨3, ![A, B, C]⟩ .f32)
    (h : (⟨3, ![A, B, C]⟩ : Shape).Reduces [2] ⟨2, ![A, B]⟩) (hφ : FKind.Formats .f32)
    (hacc : 0xFF800000#32 = FKind.maximumf.neutral .f32 hφ) (a : Fin A) (b : Fin B) :
    multiReduction .maximumf [2] ⟨2, ![A, B]⟩ v 0xFF800000#32 h hφ hacc (ix2 a b) =
      Finset.univ.sup fun c => v (ix3 a b c) := by
  rw [multiReduction_maximumf_eq_fold, ← fold_eq_sup]
  simp only [pointwise]

/-- The largest along the first of two axes. -/
theorem max_first {A B : Nat} (v : FVec Ideal ⟨2, ![A, B]⟩ .f32) (h : (⟨2, ![A, B]⟩ : Shape).Reduces [0] ⟨1, ![B]⟩)
    (hφ : FKind.Formats .f32) (hacc : 0xFF800000#32 = FKind.maximumf.neutral .f32 hφ) (b : Fin B) :
    multiReduction .maximumf [0] ⟨1, ![B]⟩ v 0xFF800000#32 h hφ hacc (ix1 b) = Finset.univ.sup fun a => v (ix2 a b) := by
  rw [multiReduction_maximumf_eq_fold, ← fold_eq_sup]
  simp only [pointwise]

/-- Whether the key of number `n` lies from `lo` on and before `hi`. -/
def seen (n lo hi : BitVec 32) : BitVec 1 := IntOp.andi (IntOp.cmpi .sge n lo) (IntOp.cmpi .slt n hi)

end Cert.Row

end
-- ==== Proof.AttendSpec.lean ====
/- Attention on whole arrays: a head's output for a token is the mixture of the values of all the keys. -/
module

public import proofs.«01_k».proof.Proof.AttendMath
public import proofs.«01_k».proof.Proof.QkvSpec

@[expose] public section

noncomputable section

namespace Cert.Attention

open Idealize.ShloMosaic

variable (a0 : Vec Ideal ⟨2, ![1024, 13056]⟩ .bf16) (a1 : Vec Ideal ⟨4, ![6, 4, 3456, 128]⟩ .bf16)
  (a2 : Vec Ideal ⟨4, ![6, 4, 128, 3456]⟩ .bf16) (a3 a4 : Vec Ideal ⟨3, ![6, 4, 3456]⟩ .f32) (a5 : IVec ⟨1, ![6]⟩ 32)
  (a6 : IVec ⟨2, ![6, 2176]⟩ 32)

/-- The first key a query may see: no more than 1023 before it, and none before the past. -/
def first (b : Fin 6) (q : Fin 2176) : BitVec 32 :=
  IntOp.maxsi (IntOp.addi (IntOp.subi (BitVec.ofNat 32 q.val) 1024#32) 1#32) (IntOp.subi 0#32 (a5 (ix1 b)))

/-- The number of a key, counted from the end of the past. -/
def number (j : Fin 3456) : BitVec 32 := IntOp.subi (BitVec.ofNat 32 j.val) 1024#32

/-- Whether a query sees a key. -/
def sees (b : Fin 6) (q : Fin 2176) (j : Fin 3456) : BitVec 1 := Row.seen (number j) (first a5 b q) (a6 (ix2 b q))

/-- The scaled product of a query of a head with a key. -/
def product (b : Fin 6) (h : Fin 8) (q : Fin 2176) (j : Fin 3456) : EReal :=
  (∑ d : Fin 128, a1 (ix4 b ⟨h.val / 2, by omega⟩ j d) *
      a0 (ix2 ⟨h.val * 128 + d.val, by omega⟩ ⟨b.val * 2176 + q.val, by omega⟩)) *
    (a3 (ix3 b ⟨h.val / 2, by omega⟩ j) * Ideal.ofBits .f32 0x3E0293EE#32)

/-- The score of a key: the scaled product, minus infinity where the key is not seen. -/
def score (b : Fin 6) (h : Fin 8) (q : Fin 2176) (j : Fin 3456) : EReal :=
  Scalar.select (sees a5 a6 b q j) (product a0 a1 a3 b h q j) ⊥

/-- A head's output for a query. -/
def head (b : Fin 6) (h : Fin 8) (q : Fin 2176) (d : Fin 128) : EReal :=
  Row.mix (score a0 a1 a3 a5 a6 b h q) (fun j => a4 (ix3 b ⟨h.val / 2, by omega⟩ j))
    (fun j => a2 (ix4 b ⟨h.val / 2, by omega⟩ d j))

/-- A token's row of outputs, the heads side by side. -/
def row (r : Fin 13056) (e : Fin 1024) : EReal :=
  head a0 a1 a2 a3 a4 a5 a6 ⟨r.val / 2176, by omega⟩ ⟨e.val / 128, by omega⟩ ⟨r.val % 2176, by omega⟩
    ⟨e.val % 128, by omega⟩

end Cert.Attention

end
-- ==== Proof.AttendBlocks.lean ====
/- The attention kernel at one grid point: its input blocks and loads read off the arguments, and where its output blocks
   lie. -/
module

public import proofs.«01_k».proof.Proof.Gen.AttendIdeal.Value
public import proofs.«01_k».proof.Proof.AttendSpec
public import Idealize.ShloMosaic.Lib.Pipeline.ValueKit

@[expose] public section

set_option maxRecDepth 16384
set_option maxHeartbeats 2000000

noncomputable section

namespace Cert.AttendIdeal.Value

open Cert.AttendIdeal Cert.AttendIdeal.Gen Idealize.ShloMosaic Idealize.ShloMosaic.TcCoe Idealize.SL.Sem
open Idealize.ShloMosaic.Pipeline (Dat)

variable (m : (ℓ : Loc nD τ sig) → Buf (Elt Ideal) ℓ)

theorem points (t : Fin cfg0.N) : t.val < 102 := lt_of_lt_of_eq t.isLt (show cfg0.N = 102 by decide +kernel)

/-- The coordinates of a grid point: the sequence and the tile of queries. -/
theorem coords : ∀ t : Fin grid0.N, (grid0.coords t 0).val = t.val / 17 ∧ (grid0.coords t 1).val = t.val % 17 := by
  decide +kernel

/-- The windows' block indices at every grid point. -/
theorem idx : ∀ t : Fin grid0.N, win0_0.index t = ![0] ∧ win0_1.index t = ![0, t.val] ∧
    win0_2.index t = ![t.val, 0, 0] ∧ win0_3.index t = ![t.val / 17, 0, 0, 0] ∧ win0_4.index t = ![t.val / 17, 0, 0, 0] ∧
    win0_5.index t = ![t.val / 17, 0, 0, 0] ∧ win0_6.index t = ![t.val / 17, 0, 0, 0] ∧ win0_7.index t = ![t.val, 0] ∧
    win0_8.index t = ![t.val, 0] ∧ win0_9.index t = ![t.val, 0, 0] := by decide +kernel

/-! ## The input blocks -/

/-- The lengths of the past, whole at every point. -/
theorem iblk0 (c : Dev nD) (t : Fin cfg0.N) (b : Fin 6) :
    iblk m c 0 t (ix1 b) = (m ((c : Thread nD τ).loc main_arg5) : IVec S6 32) (ix1 b) := by
  blk_ext! [iblk, V, idx t]

/-- The queries of the tile. -/
theorem iblk1 (c : Dev nD) (t : Fin cfg0.N) (e : Fin 1024) (b : Fin 128) (r : Fin 13056)
    (hr : r.val = t.val * 128 + b.val) :
    iblk m c 1 t (ix2 e b) = (m ((c : Thread nD τ).loc main_arg0) : Vec Ideal S1024x13056 .bf16) (ix2 e r) := by
  blk_ext! [iblk, V, idx t]

/-- The ends of the spans of the tile. -/
theorem iblk2 (c : Dev nD) (t : Fin cfg0.N) (b : Fin 128) (s : Fin 6) (q : Fin 2176)
    (hr : s.val * 2176 + q.val = t.val * 128 + b.val) :
    iblk m c 2 t (ix3 0 0 b) = (m ((c : Thread nD τ).loc main_arg6) : IVec S6x2176 32) (ix2 s q) := by
  blk_ext! [iblk, V, idx t]

/-- The keys of the sequence. -/
theorem iblk3 (c : Dev nD) (t : Fin cfg0.N) (s : Fin 6) (hs : s.val = t.val / 17) (g : Fin 4) (j : Fin 3456) (d : Fin 128) :
    iblk m c 3 t (ix4 0 g j d) = (m ((c : Thread nD τ).loc main_arg1) : Vec Ideal S6x4x3456x128 .bf16) (ix4 s g j d) := by
  blk_ext! [iblk, V, idx t]

/-- The values of the sequence. -/
theorem iblk4 (c : Dev nD) (t : Fin cfg0.N) (s : Fin 6) (hs : s.val = t.val / 17) (g : Fin 4) (d : Fin 128) (j : Fin 3456) :
    iblk m c 4 t (ix4 0 g d j) = (m ((c : Thread nD τ).loc main_arg2) : Vec Ideal S6x4x128x3456 .bf16) (ix4 s g d j) := by
  blk_ext! [iblk, V, idx t]

/-- The keys' scales times the constant, along the lanes. -/
def alongLanes (x : FVec Ideal S6x4x3456 .f32) : FVec Ideal S6x4x3456x128 .f32 :=
  broadcastInDim S6x4x3456x128 (![0, 1, 2, 3] : Fin 4 → Fin 4) bcast_S6x4x3456x1_S6x4x3456x128_0_1_2_3
    (broadcastInDim S6x4x3456x1 (![0, 1, 2] : Fin 3 → Fin 4) bcast_S6x4x3456_S6x4x3456x1_0_1_2
      (mulf x (broadcastInDim S6x4x3456 (![] : Fin 0 → Fin 3) bcast_S_S6x4x3456 (constant S_ .f32 0x3E0293EE#32))))

theorem alongLanes_apply (x : FVec Ideal S6x4x3456 .f32) (s : Fin 6) (g : Fin 4) (j : Fin 3456) (d : Fin 128) :
    alongLanes x (ix4 s g j d) = x (ix3 s g j) * Ideal.ofBits .f32 0x3E0293EE#32 := by
  pointwise [alongLanes]

/-- The keys' scales of the sequence, times the constant, along the lanes. -/
theorem iblk5 (c : Dev nD) (t : Fin cfg0.N) (s : Fin 6) (hs : s.val = t.val / 17) (g : Fin 4) (j : Fin 3456) (d : Fin 128) :
    iblk m c 5 t (ix4 0 g j d) = @HMul.hMul EReal EReal EReal _
      ((m ((c : Thread nD τ).loc main_arg3) : Vec Ideal S6x4x3456 .f32) (ix3 s g j)) (Ideal.ofBits .f32 0x3E0293EE#32) := by
  have h : ((win0_5.blk t).view.emb (ix4 0 g j d) : S6x4x3456x128.Idx) = ix4 s g j d := by blk_ext! [idx t]
  simp only [iblk, V]
  entry_read
  exact Eq.trans (congrArg (alongLanes (m ((c : Thread nD τ).loc main_arg3))) h) (alongLanes_apply _ s g j d)

/-- The values' scales of the sequence, along the lanes. -/
theorem iblk6 (c : Dev nD) (t : Fin cfg0.N) (s : Fin 6) (hs : s.val = t.val / 17) (g : Fin 4) (j : Fin 3456) (d : Fin 128) :
    iblk m c 6 t (ix4 0 g j d) = (m ((c : Thread nD τ).loc main_arg4) : Vec Ideal S6x4x3456 .f32) (ix3 s g j) := by
  blk_ext! [iblk, V, idx t]

/-! ## The output blocks -/

theorem emb7 (t : Fin cfg0.N) (b : Fin 128) (e : Fin 1024) (r : Fin 13056) (hr : r.val = t.val * 128 + b.val) :
    (((cfg0.win 7).blk t).view.emb (ix2 b e) : S13056x1024.Idx) = ix2 r e := by
  blk_ext! [idx t]

theorem emb8 (t : Fin cfg0.N) (b : Fin 128) (e : Fin 1024) (r : Fin 13056) (hr : r.val = t.val * 128 + b.val) :
    (((cfg0.win 8).blk t).view.emb (ix2 b e) : S13056x1024.Idx) = ix2 r e := by
  blk_ext! [idx t]

theorem emb9 (t : Fin cfg0.N) (b : Fin 128) (a : Fin 102) (ha : a.val = t.val) :
    (((cfg0.win 9).blk t).view.emb (ix3 0 0 b) : S102x1x128.Idx) = ix3 a 0 b := by
  blk_ext! [idx t]

/-! ## The offsets of the chunks -/

theorem off1 : ∀ t : Fin grid0.N, k0_off1 (grid0.coords t) = ![t.val / 17] := by decide +kernel

theorem off2 : ∀ (t : Fin grid0.N) (c : Fin 11), k0_off2 (grid0.coords t) (BitVec.ofNat 32 c.val) =
    ![0, 0, (t.val % 17 + c.val) * 128, 0] := by decide +kernel

theorem off3 : ∀ (t : Fin grid0.N) (c : Fin 11), k0_off3 (grid0.coords t) (BitVec.ofNat 32 c.val) =
    ![0, 0, 0, (t.val % 17 + c.val) * 128] := by decide +kernel

theorem off4 : ∀ (t : Fin grid0.N) (c : Fin 11), k0_off4 (grid0.coords t) (BitVec.ofNat 32 c.val) =
    ![0, 1, (t.val % 17 + c.val) * 128, 0] := by decide +kernel

theorem off5 : ∀ (t : Fin grid0.N) (c : Fin 11), k0_off5 (grid0.coords t) (BitVec.ofNat 32 c.val) =
    ![0, 1, 0, (t.val % 17 + c.val) * 128] := by decide +kernel

theorem off6 : ∀ (t : Fin grid0.N) (c : Fin 11), k0_off6 (grid0.coords t) (BitVec.ofNat 32 c.val) =
    ![0, 2, (t.val % 17 + c.val) * 128, 0] := by decide +kernel

theorem off7 : ∀ (t : Fin grid0.N) (c : Fin 11), k0_off7 (grid0.coords t) (BitVec.ofNat 32 c.val) =
    ![0, 2, 0, (t.val % 17 + c.val) * 128] := by decide +kernel

theorem off8 : ∀ (t : Fin grid0.N) (c : Fin 11), k0_off8 (grid0.coords t) (BitVec.ofNat 32 c.val) =
    ![0, 3, (t.val % 17 + c.val) * 128, 0] := by decide +kernel

theorem off9 : ∀ (t : Fin grid0.N) (c : Fin 11), k0_off9 (grid0.coords t) (BitVec.ofNat 32 c.val) =
    ![0, 3, 0, (t.val % 17 + c.val) * 128] := by decide +kernel

/-- A chunk of keys, read off its block. -/
theorem ld_rows {e : EltTy} (X : Vec Ideal S1x4x3456x128 e) (off : Fin 4 → Nat) (inb : ∀ a, off a + S1x1x128x128.size a ≤ S1x4x3456x128.size a)
    (g : Fin 4) (o : Nat) (h : off = ![0, g.val, o, 0]) (j d : Fin 128) (k : Fin 3456) (hk : k.val = o + j.val) :
    View.ld (Val := Elt Ideal) (e' := e) X (Rect.unit (s := S1x4x3456x128) off S1x1x128x128.size inb) (ix4 0 0 j d) = X (ix4 0 g k d) := by
  subst h
  refine View.ld_unit_apply_of X _ _ inb _ _ fun a => ?_
  fin_cases a <;> simp [hk]

/-- A chunk of values, read off its block. -/
theorem ld_lanes {e : EltTy} (X : Vec Ideal S1x4x128x3456 e) (off : Fin 4 → Nat) (inb : ∀ a, off a + S1x1x128x128.size a ≤ S1x4x128x3456.size a)
    (g : Fin 4) (o : Nat) (h : off = ![0, g.val, 0, o]) (d j : Fin 128) (k : Fin 3456) (hk : k.val = o + j.val) :
    View.ld (Val := Elt Ideal) (e' := e) X (Rect.unit (s := S1x4x128x3456) off S1x1x128x128.size inb) (ix4 0 0 d j) = X (ix4 0 g d k) := by
  subst h
  refine View.ld_unit_apply_of X _ _ inb _ _ fun a => ?_
  fin_cases a <;> simp [hk]

/-- A head's queries, read off their block. -/
theorem ld_head (X : Vec Ideal S1024x128 .bf16) (o : Nat) (inb : ∀ a, ![o, 0] a + S128x128.size a ≤ S1024x128.size a)
    (d b : Fin 128) (k : Fin 1024) (hk : k.val = o + d.val) :
    View.ld (Val := Elt Ideal) (e' := .bf16) X (Rect.unit (s := S1024x128) ![o, 0] S128x128.size inb) (ix2 d b) = X (ix2 k b) := by
  refine View.ld_unit_apply_of X _ _ inb _ _ fun a => ?_
  fin_cases a <;> simp [hk]

end Cert.AttendIdeal.Value

end
-- ==== Proof.AttendRows.lean ====
/- The attention kernel's block of 128 queries as functions of whole vectors: the scores of a chunk of 128 keys against a
   pair of heads, the pair's largest score, its weights, its output, and the codes of the eight heads. -/
module

public import proofs.«01_k».proof.Proof.QkvSpec
public import proofs.«01_k».proof.Proof.Gen.AttendIdeal.Skeleton

@[expose] public section

set_option maxRecDepth 16384

noncomputable section

namespace Cert.AttendIdeal.Value

open Cert.AttendIdeal Cert.AttendIdeal.Gen Idealize.ShloMosaic

/-- A chunk's matrix, once for each head of the pair. -/
def twice (x : FVec Ideal S128x128 .f32) : FVec Ideal S128x256 .f32 :=
  concatenate S128x256 1 [⟨S128x128, x⟩, ⟨S128x128, x⟩] concatenates_S128x128_S128x128_S128x256_d1

/-- The number of the first key of a chunk, counted from the end of the past. -/
def chunkStart (a : BitVec 32) (c : Fin 11) : BitVec 32 :=
  Scalar.muli (Scalar.subi (Scalar.addi a (BitVec.ofNat 32 c.val)) 8#32) 128#32

/-- The numbers of a chunk's keys. -/
def keyNumbers (p : BitVec 32) : IVec S128x256 32 :=
  addi (iota .tc S128x256 32 [0] iota_S128x256_d0_w32) (broadcast S128x256 p)

/-- Which of the chunk's keys each query may see. -/
def seen (p : BitVec 32) (lo hi : IVec S1x256 32) : IVec S128x256 1 :=
  andi (cmpi .sge (keyNumbers p) (broadcastTo S128x256 lo broadcasts_S1x256_S128x256))
    (cmpi .slt (keyNumbers p) (broadcastTo S128x256 hi broadcasts_S1x256_S128x256))

/-- The products of a chunk's keys with the pair's queries, scaled. -/
def products (q : FVec Ideal S128x256 .bf16) (k : Vec Ideal S1x1x128x128 .bf16) (ks : Vec Ideal S1x1x128x128 .f32) :
    FVec Ideal S128x256 .f32 :=
  mulf (matmul (φ₁ := .bf16) dot_S128x128_S128x256_S128x256_1_0_0_1_n_n none
      (shapeCast S128x128 k shapeCasts_S1x1x128x128_S128x128) q (constant S128x256 .f32 0x00000000#32))
    (twice (shapeCast S128x128 ks shapeCasts_S1x1x128x128_S128x128))

/-- The scores of a chunk: the scaled products, minus infinity where a key is not seen. -/
def scores (b : IVec S128x256 1) (x : FVec Ideal S128x256 .f32) : FVec Ideal S128x256 .f32 :=
  select b x (broadcast S128x256 (Scalar.ofBits (F := Ideal) .f32 0xFF800000#32))

/-- The largest scores of a chunk, over the groups of eight keys. -/
def top8 (s : FVec Ideal S128x256 .f32) : FVec Ideal S8x256 .f32 :=
  multiReduction .maximumf [0] S8x256 (shapeCast S16x8x256 s shapeCasts_S128x256_S16x8x256) 0xFF800000#32
    reduces_S16x8x256_S8x256 (.inl rfl) rfl

/-- The largest scores, rounded up. -/
def top (s : FVec Ideal S8x256 .f32) : FVec Ideal S1x256 .f32 :=
  ceil (shapeCast S1x256 (multiReduction .maximumf [0] S256 s 0xFF800000#32 reduces_S8x256_S256 (.inl rfl) rfl)
    shapeCasts_S256_S1x256)

/-- The weights of a chunk: two to the score less the largest. -/
def weights (t : FVec Ideal S1x256 .f32) (s : FVec Ideal S128x256 .f32) : FVec Ideal S128x256 .f32 :=
  exp2 (subf (shapeCast S128x256 s shapeCasts_S128x256_S128x256) (broadcastTo S128x256 t broadcasts_S1x256_S128x256))

/-- The sums of a chunk's weights, over the groups of eight keys. -/
def sum8 (p : FVec Ideal S128x256 .f32) : FVec Ideal S8x256 .f32 :=
  multiReduction .add [0] S8x256 (shapeCast S16x8x256 p shapeCasts_S128x256_S16x8x256) 0x00000000#32
    reduces_S16x8x256_S8x256 (.inl rfl) rfl

/-- The sums of the weights. -/
def total (s : FVec Ideal S8x256 .f32) : FVec Ideal S128x256 .f32 :=
  broadcastTo S128x256 (shapeCast S1x256 (multiReduction .add [0] S256 s 0x00000000#32 reduces_S8x256_S256 (.inl rfl) rfl)
    shapeCasts_S256_S1x256) broadcasts_S1x256_S128x256

/-- The products of a chunk's values with its weights. -/
def blended (p : FVec Ideal S128x256 .f32) (vs : Vec Ideal S1x1x128x128 .f32) (vt : Vec Ideal S1x1x128x128 .bf16) :
    FVec Ideal S128x256 .f32 :=
  matmul (φ₁ := .bf16) dot_S128x128_S128x256_S128x256_1_0_0_1_n_n none (shapeCast S128x128 vt shapeCasts_S1x1x128x128_S128x128)
    (truncf .bf16 (mulf p (twice (shapeCast S128x128 vs shapeCasts_S1x1x128x128_S128x128))) bitsLt_bf16_f32)
    (constant S128x256 .f32 0x00000000#32)

/-- Eleven arrays, added from the first on. -/
def add11 {s : Shape} (f : Fin 11 → FVec Ideal s .f32) : FVec Ideal s .f32 :=
  addf (addf (addf (addf (addf (addf (addf (addf (addf (addf (f 0) (f 1)) (f 2)) (f 3)) (f 4)) (f 5)) (f 6)) (f 7)) (f 8)) (f 9)) (f 10)

/-- The larger of eleven arrays. -/
def max11 {s : Shape} (f : Fin 11 → FVec Ideal s .f32) : FVec Ideal s .f32 :=
  maximumf (maximumf (maximumf (maximumf (maximumf (maximumf (maximumf (maximumf (maximumf (maximumf (f 0) (f 1)) (f 2)) (f 3)) (f 4)) (f 5)) (f 6)) (f 7)) (f 8)) (f 9)) (f 10)

/-- The output of a pair of heads, from the scores of its eleven chunks. -/
def blend (s : Fin 11 → FVec Ideal S128x256 .f32) (vs : Fin 11 → Vec Ideal S1x1x128x128 .f32)
    (vt : Fin 11 → Vec Ideal S1x1x128x128 .bf16) : FVec Ideal S128x256 .f32 :=
  divf (add11 fun c => blended (weights (top (max11 fun c => top8 (s c))) (s c)) (vs c) (vt c))
    (total (add11 fun c => sum8 (weights (top (max11 fun c => top8 (s c))) (s c))))

/-- The output of a pair of heads. -/
def pairOut (a : BitVec 32) (lo hi : IVec S1x256 32) (q : FVec Ideal S128x256 .bf16)
    (k : Fin 11 → Vec Ideal S1x1x128x128 .bf16) (ks vs : Fin 11 → Vec Ideal S1x1x128x128 .f32)
    (vt : Fin 11 → Vec Ideal S1x1x128x128 .bf16) : FVec Ideal S128x256 .f32 :=
  blend (fun c => scores (seen (chunkStart a c) lo hi) (products q (k c) (ks c))) vs vt

/-- The first head of a pair. -/
def firstHead (o : FVec Ideal S128x256 .f32) : FVec Ideal S128x128 .f32 :=
  extractStridedSlice S128x128 ![0, 0] o slices_S128x256_o0_0_S128x128

/-- The second head of a pair. -/
def secondHead (o : FVec Ideal S128x256 .f32) : FVec Ideal S128x128 .f32 :=
  extractStridedSlice S128x128 ![0, 128] o slices_S128x256_o0_128_S128x128

/-- The largest magnitudes of a head's outputs. -/
def amaxHead (h : FVec Ideal S128x128 .f32) : FVec Ideal S1x128 .f32 :=
  shapeCast S1x128 (multiReduction .maximumf [0] S128 (absf h) 0xFF800000#32 reduces_S128x128_S128 (.inl rfl) rfl)
    shapeCasts_S128_S1x128

/-- The largest magnitudes of eight heads' outputs. -/
def amax8 (h : Fin 8 → FVec Ideal S128x128 .f32) : FVec Ideal S1x128 .f32 :=
  maximumf (maximumf (maximumf (maximumf (maximumf (maximumf (maximumf (amaxHead (h 0)) (amaxHead (h 1))) (amaxHead (h 2)))
    (amaxHead (h 3))) (amaxHead (h 4))) (amaxHead (h 5))) (amaxHead (h 6))) (amaxHead (h 7))

/-- The scales at these magnitudes. -/
def scaleOf (a : FVec Ideal S1x128 .f32) : FVec Ideal S1x128 .f32 :=
  select (cmpf .oeq a (broadcast S1x128 (Scalar.ofBits (F := Ideal) .f32 0x00000000#32)))
    (broadcast S1x128 (Scalar.ofBits (F := Ideal) .f32 0x3F800000#32))
    (divf a (broadcast S1x128 (Scalar.ofBits (F := Ideal) .f32 0x43E00000#32)))

/-- A head, turned: queries by features. -/
def turned (h : FVec Ideal S128x128 .f32) : FVec Ideal S128x128 .f32 :=
  transpose S128x128 [1, 0] h transposes_S128x128_p1_0_S128x128

/-- A head's codes at the scales, turned. -/
def codesOf (s : FVec Ideal S1x128 .f32) (h : FVec Ideal S128x128 .f32) : FVec Ideal S128x128 .fp8e4m3 :=
  truncf .fp8e4m3 (turned (minimumf (broadcast S128x128 (Scalar.ofBits (F := Ideal) .f32 0x43E00000#32))
    (maximumf (broadcast S128x128 (Scalar.ofBits (F := Ideal) .f32 0xC3E00000#32))
      (mulf h (broadcastTo S128x128 (divf (broadcast S1x128 (Scalar.ofBits (F := Ideal) .f32 0x3F800000#32)) s)
        broadcasts_S1x128_S128x128))))) bitsLt_fp8e4m3_f32

/-- The scales as the result holds them. -/
def scaleTile (s : FVec Ideal S1x128 .f32) : FVec Ideal S1x1x128 .f32 := shapeCast S1x1x128 s shapeCasts_S1x128_S1x1x128

end Cert.AttendIdeal.Value

end
-- ==== Proof.AttendPoint.lean ====
/- The attention kernel at one grid point: its outputs as functions of its input blocks. -/
module

public import proofs.«01_k».proof.Proof.Gen.AttendIdeal.Frame
public import proofs.«01_k».proof.Proof.AttendRows
public import Idealize.ShloMosaic.Lib.Pipeline.ValueKit
public import Idealize.ShloMosaic.Lib.Pipeline.ReadBack

@[expose] public section

set_option maxRecDepth 65536
set_option maxHeartbeats 8000000

noncomputable section

namespace Cert.AttendIdeal.Value

open Cert.AttendIdeal Cert.AttendIdeal.Gen Idealize.ShloMosaic Idealize.ShloMosaic.TcCoe Idealize.SL.Sem
open Idealize.ShloMosaic.Pipeline (Dat)

variable (m : (ℓ : Loc nD τ sig) → Buf (Elt Ideal) ℓ)

/-- The first key each query of the point may see. -/
def lows (c : Dev nD) (t : Fin cfg0.N) : IVec S1x256 32 :=
  k0_pay4 (F := Ideal) (grid0.coords t) (View.ld (iblk m c 0 t)
    (Rect.unit (s := S6) (k0_off1 (grid0.coords t)) S1.size (k0_off1_inb (grid0.coords t))) (Shape.Idx.first (s := S1) (by decide)))

/-- The output of the first pair of heads at a grid point. -/
def pair0 (c : Dev nD) (t : Fin cfg0.N) : FVec Ideal S128x256 .f32 :=
  pairOut (BitVec.ofNat 32 (grid0.coords t 1).val) (lows m c t) (k0_pay5 (F := Ideal) (iblk m c 2 t))
    (k0_pay6 (F := Ideal) (View.ld (iblk m c 1 t) (Rect.unit ![0, 0] ![128, 128] inb_S1024x128_S128x128_0_0))
      (View.ld (iblk m c 1 t) (Rect.unit ![128, 0] ![128, 128] inb_S1024x128_S128x128_128_0)))
    (fun d => View.ld (iblk m c 3 t) (Rect.unit (s := S1x4x3456x128) (k0_off2 (grid0.coords t) (BitVec.ofNat 32 d.val))
      S1x1x128x128.size (k0_off2_inb (grid0.coords t) d)))
    (fun d => View.ld (iblk m c 5 t) (Rect.unit (s := S1x4x3456x128) (k0_off2 (grid0.coords t) (BitVec.ofNat 32 d.val))
      S1x1x128x128.size (k0_off2_inb (grid0.coords t) d)))
    (fun d => View.ld (iblk m c 6 t) (Rect.unit (s := S1x4x3456x128) (k0_off2 (grid0.coords t) (BitVec.ofNat 32 d.val))
      S1x1x128x128.size (k0_off2_inb (grid0.coords t) d)))
    (fun d => View.ld (iblk m c 4 t) (Rect.unit (s := S1x4x128x3456) (k0_off3 (grid0.coords t) (BitVec.ofNat 32 d.val))
      S1x1x128x128.size (k0_off3_inb (grid0.coords t) d)))

/-- The output of the second pair of heads at a grid point. -/
def pair1 (c : Dev nD) (t : Fin cfg0.N) : FVec Ideal S128x256 .f32 :=
  pairOut (BitVec.ofNat 32 (grid0.coords t 1).val) (lows m c t) (k0_pay5 (F := Ideal) (iblk m c 2 t))
    (k0_pay6 (F := Ideal) (View.ld (iblk m c 1 t) (Rect.unit ![256, 0] ![128, 128] inb_S1024x128_S128x128_256_0))
      (View.ld (iblk m c 1 t) (Rect.unit ![384, 0] ![128, 128] inb_S1024x128_S128x128_384_0)))
    (fun d => View.ld (iblk m c 3 t) (Rect.unit (s := S1x4x3456x128) (k0_off4 (grid0.coords t) (BitVec.ofNat 32 d.val))
      S1x1x128x128.size (k0_off4_inb (grid0.coords t) d)))
    (fun d => View.ld (iblk m c 5 t) (Rect.unit (s := S1x4x3456x128) (k0_off4 (grid0.coords t) (BitVec.ofNat 32 d.val))
      S1x1x128x128.size (k0_off4_inb (grid0.coords t) d)))
    (fun d => View.ld (iblk m c 6 t) (Rect.unit (s := S1x4x3456x128) (k0_off4 (grid0.coords t) (BitVec.ofNat 32 d.val))
      S1x1x128x128.size (k0_off4_inb (grid0.coords t) d)))
    (fun d => View.ld (iblk m c 4 t) (Rect.unit (s := S1x4x128x3456) (k0_off5 (grid0.coords t) (BitVec.ofNat 32 d.val))
      S1x1x128x128.size (k0_off5_inb (grid0.coords t) d)))

/-- The output of the third pair of heads at a grid point. -/
def pair2 (c : Dev nD) (t : Fin cfg0.N) : FVec Ideal S128x256 .f32 :=
  pairOut (BitVec.ofNat 32 (grid0.coords t 1).val) (lows m c t) (k0_pay5 (F := Ideal) (iblk m c 2 t))
    (k0_pay6 (F := Ideal) (View.ld (iblk m c 1 t) (Rect.unit ![512, 0] ![128, 128] inb_S1024x128_S128x128_512_0))
      (View.ld (iblk m c 1 t) (Rect.unit ![640, 0] ![128, 128] inb_S1024x128_S128x128_640_0)))
    (fun d => View.ld (iblk m c 3 t) (Rect.unit (s := S1x4x3456x128) (k0_off6 (grid0.coords t) (BitVec.ofNat 32 d.val))
      S1x1x128x128.size (k0_off6_inb (grid0.coords t) d)))
    (fun d => View.ld (iblk m c 5 t) (Rect.unit (s := S1x4x3456x128) (k0_off6 (grid0.coords t) (BitVec.ofNat 32 d.val))
      S1x1x128x128.size (k0_off6_inb (grid0.coords t) d)))
    (fun d => View.ld (iblk m c 6 t) (Rect.unit (s := S1x4x3456x128) (k0_off6 (grid0.coords t) (BitVec.ofNat 32 d.val))
      S1x1x128x128.size (k0_off6_inb (grid0.coords t) d)))
    (fun d => View.ld (iblk m c 4 t) (Rect.unit (s := S1x4x128x3456) (k0_off7 (grid0.coords t) (BitVec.ofNat 32 d.val))
      S1x1x128x128.size (k0_off7_inb (grid0.coords t) d)))

/-- The output of the fourth pair of heads at a grid point. -/
def pair3 (c : Dev nD) (t : Fin cfg0.N) : FVec Ideal S128x256 .f32 :=
  pairOut (BitVec.ofNat 32 (grid0.coords t 1).val) (lows m c t) (k0_pay5 (F := Ideal) (iblk m c 2 t))
    (k0_pay6 (F := Ideal) (View.ld (iblk m c 1 t) (Rect.unit ![768, 0] ![128, 128] inb_S1024x128_S128x128_768_0))
      (View.ld (iblk m c 1 t) (Rect.unit ![896, 0] ![128, 128] inb_S1024x128_S128x128_896_0)))
    (fun d => View.ld (iblk m c 3 t) (Rect.unit (s := S1x4x3456x128) (k0_off8 (grid0.coords t) (BitVec.ofNat 32 d.val))
      S1x1x128x128.size (k0_off8_inb (grid0.coords t) d)))
    (fun d => View.ld (iblk m c 5 t) (Rect.unit (s := S1x4x3456x128) (k0_off8 (grid0.coords t) (BitVec.ofNat 32 d.val))
      S1x1x128x128.size (k0_off8_inb (grid0.coords t) d)))
    (fun d => View.ld (iblk m c 6 t) (Rect.unit (s := S1x4x3456x128) (k0_off8 (grid0.coords t) (BitVec.ofNat 32 d.val))
      S1x1x128x128.size (k0_off8_inb (grid0.coords t) d)))
    (fun d => View.ld (iblk m c 4 t) (Rect.unit (s := S1x4x128x3456) (k0_off9 (grid0.coords t) (BitVec.ofNat 32 d.val))
      S1x1x128x128.size (k0_off9_inb (grid0.coords t) d)))

/-- The outputs of the eight heads at a grid point, features by queries. -/
def heads (c : Dev nD) (t : Fin cfg0.N) : Fin 8 → FVec Ideal S128x128 .f32 :=
  ![firstHead (pair0 m c t), secondHead (pair0 m c t), firstHead (pair1 m c t), secondHead (pair1 m c t),
    firstHead (pair2 m c t), secondHead (pair2 m c t), firstHead (pair3 m c t), secondHead (pair3 m c t)]

/-- The scales of the point's queries. -/
def scalesAt (c : Dev nD) (t : Fin cfg0.N) : FVec Ideal S1x128 .f32 := scaleOf (amax8 (heads m c t))

end Cert.AttendIdeal.Value

end
-- ==== Proof.AttendIndex.lean ====
/- The attention kernel's block, read at an index: a pair's output is the mixture of the values of the eleven chunks. -/
module

public import proofs.«01_k».proof.Proof.AttendRows
public import proofs.«01_k».proof.Proof.AttendMath

@[expose] public section

set_option maxRecDepth 16384
set_option maxHeartbeats 2000000

noncomputable section

namespace Cert.AttendIdeal.Value

open Cert.AttendIdeal Cert.AttendIdeal.Gen Idealize.ShloMosaic

theorem twice_apply (x : FVec Ideal S128x128 .f32) (j : Fin 128) (e : Fin 256) :
    twice x (ix2 j e) = x (ix2 j ⟨e.val % 128, by omega⟩) := by
  pointwise [twice]
  split
  · exact congrArg (fun z => x (ix2 j z)) (Fin.ext (by simp; omega))
  · exact congrArg (fun z => x (ix2 j z)) (Fin.ext (by simp; omega))

theorem products_apply (q : FVec Ideal S128x256 .bf16) (k : Vec Ideal S1x1x128x128 .bf16)
    (ks : Vec Ideal S1x1x128x128 .f32) (j : Fin 128) (e : Fin 256) :
    products q k ks (ix2 j e) = (∑ d : Fin 128, k (ix4 0 0 j d) * q (ix2 d e)) * ks (ix4 0 0 j ⟨e.val % 128, by omega⟩) := by
  unfold products
  rw [show ∀ a b : FVec Ideal S128x256 .f32, mulf a b (ix2 j e) = a (ix2 j e) * b (ix2 j e) from fun _ _ => rfl, twice_apply]
  pointwise

theorem scores_apply (b : IVec S128x256 1) (x : FVec Ideal S128x256 .f32) (j : Fin 128) (e : Fin 256) :
    scores b x (ix2 j e) = Scalar.select (b (ix2 j e)) (x (ix2 j e)) ⊥ := by
  rw [← Row.ofBits_bot]
  pointwise [scores]

theorem seen_apply (p : BitVec 32) (lo hi : IVec S1x256 32) (j : Fin 128) (e : Fin 256) :
    seen p lo hi (ix2 j e) =
    Row.seen (IntOp.addi (BitVec.ofNat 32 j.val) p) (lo (ix2 0 e)) (hi (ix2 0 e)) := by
  pointwise [seen, keyNumbers]
  rfl

theorem top8_apply (s : FVec Ideal S128x256 .f32) (r : Fin 8) (e : Fin 256) :
    top8 s (ix2 r e) = Finset.univ.sup fun i : Fin 16 => s (ix2 ⟨i.val * 8 + r.val, by omega⟩ e) := by
  refine (Row.max_first3 _ reduces_S16x8x256_S8x256 (.inl rfl) rfl r e).trans ?_
  refine congrArg (Finset.univ.sup) (funext fun i => ?_)
  pointwise

theorem top_apply (s : FVec Ideal S8x256 .f32) (e : Fin 256) :
    top s (ix2 0 e) = Ideal.liftRound Int.ceil (Finset.univ.sup fun r : Fin 8 => s (ix2 r e)) := by
  rw [← Row.max_first s reduces_S8x256_S256 (.inl rfl) rfl e]
  pointwise [top]

theorem weights_apply (t : FVec Ideal S1x256 .f32) (s : FVec Ideal S128x256 .f32) (j : Fin 128) (e : Fin 256) :
    weights t s (ix2 j e) = Ideal.exp2 (s (ix2 j e) - t (ix2 0 e)) := by
  pointwise [weights]
  rfl

theorem sum8_apply (p : FVec Ideal S128x256 .f32) (r : Fin 8) (e : Fin 256) :
    sum8 p (ix2 r e) = ∑ i : Fin 16, p (ix2 ⟨i.val * 8 + r.val, by omega⟩ e) := by
  pointwise [sum8]

theorem total_apply (s : FVec Ideal S8x256 .f32) (d : Fin 128) (e : Fin 256) :
    total s (ix2 d e) = ∑ r : Fin 8, s (ix2 r e) := by
  pointwise [total]

theorem blended_apply (p : FVec Ideal S128x256 .f32) (vs : Vec Ideal S1x1x128x128 .f32) (vt : Vec Ideal S1x1x128x128 .bf16)
    (d : Fin 128) (e : Fin 256) :
    blended p vs vt (ix2 d e) =
      ∑ j : Fin 128, vt (ix4 0 0 d j) * (p (ix2 j e) * vs (ix4 0 0 j ⟨e.val % 128, by omega⟩)) := by
  have h : ∀ j : Fin 128, twice (shapeCast S128x128 vs shapeCasts_S1x1x128x128_S128x128) (ix2 j e) =
      vs (ix4 0 0 j ⟨e.val % 128, by omega⟩) := fun j => by rw [twice_apply]; pointwise
  simp only [← h]
  pointwise [blended]

theorem add11_apply {s : Shape} (f : Fin 11 → FVec Ideal s .f32) (i : s.Idx) : add11 f i = Row.sum11 fun c => f c i := rfl

theorem max11_apply {s : Shape} (f : Fin 11 → FVec Ideal s .f32) (i : s.Idx) : max11 f i = Row.max11 fun c => f c i := rfl

/-- The output of a pair of heads is the mixture of the values of the eleven chunks. -/
theorem blend_apply (s : Fin 11 → FVec Ideal S128x256 .f32) (vs : Fin 11 → Vec Ideal S1x1x128x128 .f32)
    (vt : Fin 11 → Vec Ideal S1x1x128x128 .bf16) (d : Fin 128) (e : Fin 256) :
    blend s vs vt (ix2 d e) = Row.mix (fun k : Fin 11 × Fin 128 => s k.1 (ix2 k.2 e))
      (fun k => vs k.1 (ix4 0 0 k.2 ⟨e.val % 128, by omega⟩)) (fun k => vt k.1 (ix4 0 0 d k.2)) := by
  have ht : top (max11 fun c => top8 (s c)) (ix2 0 e) =
      Ideal.liftRound Int.ceil (Row.best fun k : Fin 11 × Fin 128 => s k.1 (ix2 k.2 e)) := by
    rw [top_apply, ← Row.best_groups fun c j => s c (ix2 j e)]
    simp only [max11_apply, top8_apply]
  have hw : ∀ c j, weights (top (max11 fun c => top8 (s c))) (s c) (ix2 j e) =
      Row.weight (fun k : Fin 11 × Fin 128 => s k.1 (ix2 k.2 e)) (c, j) := fun c j => by
    rw [weights_apply, ht]; rfl
  show Ideal.div (add11 _ (ix2 d e)) (total _ (ix2 d e)) = _
  unfold Row.mix
  rw [Fintype.sum_prod_type, Fintype.sum_prod_type, total_apply]
  simp only [add11_apply, Row.sum11_eq, blended_apply, sum8_apply, hw]
  congr 1
  rw [Finset.sum_comm]
  exact Finset.sum_congr rfl fun c _ =>
    Row.sum_groups fun j => Row.weight (fun k : Fin 11 × Fin 128 => s k.1 (ix2 k.2 e)) (c, j)

theorem firstHead_apply (o : FVec Ideal S128x256 .f32) (d b : Fin 128) :
    firstHead o (ix2 d b) = o (ix2 d ⟨b.val, by omega⟩) := by
  pointwise [firstHead]

theorem secondHead_apply (o : FVec Ideal S128x256 .f32) (d b : Fin 128) :
    secondHead o (ix2 d b) = o (ix2 d ⟨128 + b.val, by omega⟩) := by
  pointwise [secondHead]

theorem amaxHead_apply (h : FVec Ideal S128x128 .f32) (b : Fin 128) :
    amaxHead h (ix2 0 b) = Row.amax fun d => h (ix2 d b) := by
  rw [← Row.amax_first h reduces_S128x128_S128 (.inl rfl) rfl b]
  pointwise [amaxHead]

theorem amax8_apply (h : Fin 8 → FVec Ideal S128x128 .f32) (b : Fin 128) :
    amax8 h (ix2 0 b) = Row.max8 fun i => Row.amax fun d => h i (ix2 d b) := by
  simp only [← amaxHead_apply]
  rfl

theorem scaleOf_apply (a : FVec Ideal S1x128 .f32) (b : Fin 128) : scaleOf a (ix2 0 b) = Row.scale (a (ix2 0 b)) := by
  pointwise [scaleOf]
  rfl

theorem turned_apply (h : FVec Ideal S128x128 .f32) (b d : Fin 128) : turned h (ix2 b d) = h (ix2 d b) := by
  pointwise [turned]

theorem codesOf_apply (s : FVec Ideal S1x128 .f32) (h : FVec Ideal S128x128 .f32) (b d : Fin 128) (m : EReal)
    (hs : s (ix2 0 b) = Row.scale m) : codesOf s h (ix2 b d) = Row.code (h (ix2 d b)) (Row.scale m) := by
  unfold Row.code
  rw [← Row.mul_scale, ← hs]
  pointwise [codesOf, turned]

theorem scaleTile_apply (s : FVec Ideal S1x128 .f32) (b : Fin 128) : scaleTile s (ix3 0 0 b) = s (ix2 0 b) := by
  pointwise [scaleTile]

end Cert.AttendIdeal.Value

end
-- ==== Proof.AttendWindow.lean ====
/- Which keys a tile of 128 queries can see: none outside the eleven chunks of 128 keys that begin at the tile. -/
module

public import proofs.«01_k».proof.Proof.AttendSpec
public import Idealize.ShloMosaic.Lib.Affine

@[expose] public section

noncomputable section

namespace Cert.Attention

open Idealize.ShloMosaic

/-- The value of a small number less a small number. -/
theorem toInt_sub (n k : Nat) (hn : n < 100000) (hk : k < 100000) :
    (BitVec.ofNat 32 n - BitVec.ofNat 32 k).toInt = (n : Int) - k := by
  rw [BitVec.toInt_sub, BitVec.toInt_eq_toNat_bmod, BitVec.toInt_eq_toNat_bmod, BitVec.toNat_ofNat, BitVec.toNat_ofNat]
  simp only [Int.bmod_def]
  omega

/-- The value of a small number plus a small number. -/
theorem toInt_add (n k : Nat) (hn : n < 100000) (hk : k < 100000) :
    (BitVec.ofNat 32 n + BitVec.ofNat 32 k).toInt = (n : Int) + k := by
  rw [BitVec.toInt_add, BitVec.toInt_eq_toNat_bmod, BitVec.toInt_eq_toNat_bmod, BitVec.toNat_ofNat, BitVec.toNat_ofNat]
  simp only [Int.bmod_def]
  omega

/-- The larger of two signed words is no less than the first. -/
theorem le_maxsi (x y : BitVec 32) : x.toInt ≤ (IntOp.maxsi x y).toInt := by
  unfold IntOp.maxsi
  split
  · exact le_rfl
  · rename_i h
    rw [BitVec.slt_iff_toInt_lt] at h
    omega

/-- A query whose span ends no later than 256 keys after it sees a key only from one after it to 1279 after it. -/
theorem sees_range (a5 : IVec ⟨1, ![6]⟩ 32) (a6 : IVec ⟨2, ![6, 2176]⟩ 32) (b : Fin 6) (q : Fin 2176) (j : Fin 3456)
    (hspan : (a6 (ix2 b q)).toInt ≤ q.val + 256) (h : sees a5 a6 b q j = 1#1) : q.val + 1 ≤ j.val ∧ j.val < q.val + 1280 := by
  obtain ⟨h1, h2⟩ := IntOp.andi_eq_one.1 h
  rw [IntOp.cmpi_sge] at h1
  rw [IntOp.cmpi_slt] at h2
  have hn : (number j).toInt = (j.val : Int) - 1024 := toInt_sub j.val 1024 (by omega) (by omega)
  have hf : (q.val : Int) - 1023 ≤ (first a5 b q).toInt := by
    refine le_trans (le_of_eq ?_) (le_maxsi _ _)
    have : IntOp.addi (IntOp.subi (BitVec.ofNat 32 q.val) 1024#32) 1#32 = BitVec.ofNat 32 q.val - BitVec.ofNat 32 1023 := by
      show BitVec.ofNat 32 q.val - 1024#32 + 1#32 = BitVec.ofNat 32 q.val - 1023#32
      generalize BitVec.ofNat 32 q.val = x
      bv_omega
    rw [this, toInt_sub q.val 1023 (by omega) (by omega)]
    rfl
  rw [hn] at h1 h2
  omega

/-- The key of a chunk's row. -/
def key (t : Fin 17) (k : Fin 11 × Fin 128) : Fin 3456 := ⟨(t.val + k.1.val) * 128 + k.2.val, by omega⟩

theorem key_injective (t : Fin 17) : Function.Injective (key t) := by
  rintro ⟨c, j⟩ ⟨c', j'⟩ h
  have h := congrArg Fin.val h
  simp only [key] at h
  exact Prod.ext (Fin.ext (by simp only; omega)) (Fin.ext (by simp only; omega))

/-- A query of the tile sees no key outside the tile's chunks. -/
theorem score_outside (a0 : Vec Ideal ⟨2, ![1024, 13056]⟩ .bf16) (a1 : Vec Ideal ⟨4, ![6, 4, 3456, 128]⟩ .bf16)
    (a3 : Vec Ideal ⟨3, ![6, 4, 3456]⟩ .f32) (a5 : IVec ⟨1, ![6]⟩ 32) (a6 : IVec ⟨2, ![6, 2176]⟩ 32)
    (b : Fin 6) (h : Fin 8) (q : Fin 2176) (hspan : (a6 (ix2 b q)).toInt ≤ q.val + 256)
    (t : Fin 17) (x : Fin 128) (hq : q.val = t.val * 128 + x.val) (j : Fin 3456) (hj : j ∉ Set.range (key t)) :
    score a0 a1 a3 a5 a6 b h q j = ⊥ := by
  unfold score
  rcases BitVec.eq_zero_or_eq_one (sees a5 a6 b q j) with h0 | h1
  · rw [h0]; rfl
  · obtain ⟨l, r⟩ := sees_range a5 a6 b q j hspan h1
    refine absurd ⟨(⟨j.val / 128 - t.val, by omega⟩, ⟨j.val % 128, by omega⟩), Fin.ext ?_⟩ hj
    simp only [key]
    omega

/-- The number of a chunk's key. -/
theorem number_key (t : Fin 17) (c : Fin 11) (j : Fin 128) :
    IntOp.addi (BitVec.ofNat 32 j.val) (Scalar.muli (Scalar.subi (Scalar.addi (BitVec.ofNat 32 t.val) (BitVec.ofNat 32 c.val)) 8#32)
      128#32) = number (key t (c, j)) := by
  show BitVec.ofNat 32 j.val + (BitVec.ofNat 32 t.val + BitVec.ofNat 32 c.val - 8#32) * 128#32 =
    BitVec.ofNat 32 ((t.val + c.val) * 128 + j.val) - 1024#32
  rw [BitVec.ofNat_add, BitVec.ofNat_mul, BitVec.ofNat_add]
  generalize BitVec.ofNat 32 j.val = x
  generalize BitVec.ofNat 32 t.val = y
  generalize BitVec.ofNat 32 c.val = z
  bv_omega

/-- A head's output is the mixture over the tile's chunks alone. -/
theorem head_tile (a0 : Vec Ideal ⟨2, ![1024, 13056]⟩ .bf16) (a1 : Vec Ideal ⟨4, ![6, 4, 3456, 128]⟩ .bf16)
    (a2 : Vec Ideal ⟨4, ![6, 4, 128, 3456]⟩ .bf16) (a3 a4 : Vec Ideal ⟨3, ![6, 4, 3456]⟩ .f32) (a5 : IVec ⟨1, ![6]⟩ 32)
    (a6 : IVec ⟨2, ![6, 2176]⟩ 32) (b : Fin 6) (h : Fin 8) (q : Fin 2176) (d : Fin 128)
    (hspan : (a6 (ix2 b q)).toInt ≤ q.val + 256) (t : Fin 17) (x : Fin 128) (hq : q.val = t.val * 128 + x.val) :
    head a0 a1 a2 a3 a4 a5 a6 b h q d = Row.mix (fun k => score a0 a1 a3 a5 a6 b h q (key t k))
      (fun k => a4 (ix3 b ⟨h.val / 2, by omega⟩ (key t k))) (fun k => a2 (ix4 b ⟨h.val / 2, by omega⟩ d (key t k))) :=
  Row.mix_restrict (key t) (key_injective t) _ _ _ fun j hj => score_outside a0 a1 a3 a5 a6 b h q hspan t x hq j hj

end Cert.Attention

end
-- ==== Proof.AttendPairs.lean ====
/- The heads of the attention kernel at one grid point, read at an index: each is attention's head for the tile's queries. -/
module

public import proofs.«01_k».proof.Proof.AttendBlocks
public import proofs.«01_k».proof.Proof.AttendPoint
public import proofs.«01_k».proof.Proof.AttendIndex
public import proofs.«01_k».proof.Proof.AttendWindow

@[expose] public section

set_option maxRecDepth 16384
set_option maxHeartbeats 2000000

noncomputable section

namespace Cert.AttendIdeal.Value

open Cert.AttendIdeal Cert.AttendIdeal.Gen Idealize.ShloMosaic Idealize.ShloMosaic.TcCoe Idealize.SL.Sem
open Idealize.ShloMosaic.Pipeline (Dat)
open Cert.Attention (key)

/-- A pair's output is attention's head, whichever arrays its eleven chunks were read from. -/
theorem pairOut_apply (a0 : Vec Ideal S1024x13056 .bf16) (a1 : Vec Ideal S6x4x3456x128 .bf16)
    (a2 : Vec Ideal S6x4x128x3456 .bf16) (a3 a4 : Vec Ideal S6x4x3456 .f32) (a5 : IVec S6 32) (a6 : IVec S6x2176 32)
    (s : Fin 6) (h : Fin 8) (q : Fin 2176) (u : Fin 17) (x : Fin 128) (hx : q.val = u.val * 128 + x.val)
    (hspan : (a6 (ix2 s q)).toInt ≤ q.val + 256) (e : Fin 256) (lo hi : IVec S1x256 32) (qs : FVec Ideal S128x256 .bf16)
    (k : Fin 11 → Vec Ideal S1x1x128x128 .bf16) (ks vs : Fin 11 → Vec Ideal S1x1x128x128 .f32)
    (vt : Fin 11 → Vec Ideal S1x1x128x128 .bf16)
    (hlo : lo (ix2 0 e) = Attention.first a5 s q) (hhi : hi (ix2 0 e) = a6 (ix2 s q))
    (hq : ∀ d : Fin 128, qs (ix2 d e) = a0 (ix2 ⟨h.val * 128 + d.val, by omega⟩ ⟨s.val * 2176 + q.val, by omega⟩))
    (hk : ∀ c (j d : Fin 128), k c (ix4 0 0 j d) = a1 (ix4 s ⟨h.val / 2, by omega⟩ (key u (c, j)) d))
    (hks : ∀ c (j d : Fin 128), ks c (ix4 0 0 j d) = @HMul.hMul EReal EReal EReal _
      (a3 (ix3 s ⟨h.val / 2, by omega⟩ (key u (c, j)))) (Ideal.ofBits .f32 0x3E0293EE#32))
    (hvs : ∀ c (j d : Fin 128), vs c (ix4 0 0 j d) = a4 (ix3 s ⟨h.val / 2, by omega⟩ (key u (c, j))))
    (hvt : ∀ c (d j : Fin 128), vt c (ix4 0 0 d j) = a2 (ix4 s ⟨h.val / 2, by omega⟩ d (key u (c, j)))) (d : Fin 128) :
    pairOut (BitVec.ofNat 32 u.val) lo hi qs k ks vs vt (ix2 d e) = Attention.head a0 a1 a2 a3 a4 a5 a6 s h q d := by
  rw [Attention.head_tile a0 a1 a2 a3 a4 a5 a6 s h q d hspan u x hx, pairOut, blend_apply]
  congr 1
  · funext ⟨c, j⟩
    rw [scores_apply, seen_apply, products_apply, hlo, hhi, hks]
    simp only [hk, hq]
    unfold Attention.score Attention.sees Attention.product chunkStart
    rw [Attention.number_key]
  · funext ⟨c, j⟩
    exact hvs c j _
  · funext ⟨c, j⟩
    exact hvt c d j

variable (m : (ℓ : Loc nD τ sig) → Buf (Elt Ideal) ℓ)

/-- The length of a past, read off the lengths. -/
theorem ld_past (X : Vec Ideal S6 .i32) (off : Fin 1 → Nat) (inb : ∀ a, off a + S1.size a ≤ S6.size a) (s : Fin 6)
    (h : off = ![s.val]) (y : S1.Idx) : View.ld (Val := Elt Ideal) (e' := .i32) X (Rect.unit (s := S6) off S1.size inb) y = X (ix1 s) := by
  subst h
  refine congrArg X (funext fun a => Fin.ext ?_)
  have h0 : (y 0).val < 1 := (y 0).isLt
  fin_cases a
  refine (Rect.idx_unit_val (s := S6) ![s.val] S1.size inb y _).trans ?_
  show s.val + (y 0).val = s.val
  omega

/-- The first keys a tile of queries may see, of a past of this length. -/
theorem firsts_apply (i : grid0.Coords) (p : BitVec 32) (e : Fin 256) : k0_pay4 (F := Ideal) i p (ix2 0 e) =
    IntOp.maxsi (IntOp.addi (IntOp.subi (BitVec.ofNat 32 (i 1).val * 128#32 + BitVec.ofNat 32 (e.val % 128)) 1024#32) 1#32)
      (IntOp.subi 0#32 p) := by
  pointwise [k0_pay4]
  split
  · rename_i h
    rw [show e.val % 128 = e.val by omega]
    rfl
  · rename_i h
    rw [show e.val % 128 = e.val - 128 by omega]
    rfl

/-- The first keys the point's queries may see. -/
theorem lows_apply (c : Dev nD) (t : Fin cfg0.N) (s : Fin 6) (hs : s.val = t.val / 17) (e : Fin 256) (q : Fin 2176)
    (hq : q.val = t.val % 17 * 128 + e.val % 128) :
    lows m c t (ix2 0 e) = Attention.first (m ((c : Thread nD τ).loc main_arg5) : IVec S6 32) s q := by
  have hp := (ld_past (iblk m c 0 t) (k0_off1 (grid0.coords t)) (k0_off1_inb (grid0.coords t)) s ((off1 t).trans (by rw [hs]))
    (Shape.Idx.first (s := S1) (by decide))).trans (iblk0 m c t s)
  refine (firsts_apply (grid0.coords t) _ e).trans ?_
  unfold Attention.first
  refine congrArg₂ IntOp.maxsi ?_ (congrArg (IntOp.subi 0#32) hp)
  rw [hq, (coords t).2, BitVec.ofNat_add, BitVec.ofNat_mul]

/-- The ends of the spans, once for each head of a pair. -/
theorem spans_apply (x : IVec S1x1x128 32) (e : Fin 256) :
    k0_pay5 (F := Ideal) x (ix2 0 e) = x (ix3 0 0 ⟨e.val % 128, by omega⟩) := by
  pointwise [k0_pay5]
  split
  · exact congrArg (fun z => x (ix3 0 0 z)) (Fin.ext (by simp; omega))
  · exact congrArg (fun z => x (ix3 0 0 z)) (Fin.ext (by simp; omega))

/-- The ends of the spans of the point's queries. -/
theorem ends_apply (c : Dev nD) (t : Fin cfg0.N) (s : Fin 6) (hs : s.val = t.val / 17) (e : Fin 256) (q : Fin 2176)
    (hq : q.val = t.val % 17 * 128 + e.val % 128) :
    k0_pay5 (F := Ideal) (iblk m c 2 t) (ix2 0 e) = (m ((c : Thread nD τ).loc main_arg6) : IVec S6x2176 32) (ix2 s q) :=
  (spans_apply (iblk m c 2 t) e).trans (iblk2 m c t ⟨e.val % 128, by omega⟩ s q (by simp only; omega))

/-- The queries of a pair of heads, side by side: the first head's. -/
theorem queries_first (x y : Vec Ideal S128x128 .bf16) (d b : Fin 128) :
    k0_pay6 (F := Ideal) x y (ix2 d ⟨b.val, by omega⟩) = x (ix2 d b) := by
  pointwise [k0_pay6]

/-- The queries of a pair of heads, side by side: the second head's. -/
theorem queries_second (x y : Vec Ideal S128x128 .bf16) (d b : Fin 128) :
    k0_pay6 (F := Ideal) x y (ix2 d ⟨128 + b.val, by omega⟩) = y (ix2 d b) := by
  pointwise [k0_pay6]

/-- Attention's head of the arguments. -/
def headAt (c : Dev nD) : Fin 6 → Fin 8 → Fin 2176 → Fin 128 → EReal :=
  Attention.head (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

/-- The span of a query of the arguments ends no later than 256 keys after it. -/
def Near (c : Dev nD) (s : Fin 6) (q : Fin 2176) : Prop :=
  ((m ((c : Thread nD τ).loc main_arg6) : IVec S6x2176 32) (ix2 s q)).toInt ≤ q.val + 256

/-- A pair's output is attention's head, its chunks read from the point's blocks at its group's offsets. -/
theorem pair_apply (c : Dev nD) (t : Fin cfg0.N) (s : Fin 6) (hs : s.val = t.val / 17) (q : Fin 2176) (b : Fin 128)
    (hq : q.val = t.val % 17 * 128 + b.val) (hn : Near m c s q) (h : Fin 8) (e : Fin 256) (he : e.val % 128 = b.val)
    (qs : FVec Ideal S128x256 .bf16)
    (hqs : ∀ d : Fin 128, qs (ix2 d e) = (m ((c : Thread nD τ).loc main_arg0) : Vec Ideal S1024x13056 .bf16)
      (ix2 ⟨h.val * 128 + d.val, by omega⟩ ⟨s.val * 2176 + q.val, by omega⟩))
    (ok ov : Fin 11 → Fin 4 → Nat)
    (hk : ∀ c, ok c = ![0, (⟨h.val / 2, by omega⟩ : Fin 4).val, (t.val % 17 + c.val) * 128, 0])
    (hv : ∀ c, ov c = ![0, (⟨h.val / 2, by omega⟩ : Fin 4).val, 0, (t.val % 17 + c.val) * 128])
    (ik : ∀ c a, ok c a + S1x1x128x128.size a ≤ S1x4x3456x128.size a)
    (iv : ∀ c a, ov c a + S1x1x128x128.size a ≤ S1x4x128x3456.size a) (d : Fin 128) :
    pairOut (BitVec.ofNat 32 (grid0.coords t 1).val) (lows m c t) (k0_pay5 (F := Ideal) (iblk m c 2 t)) qs
      (fun d => View.ld (iblk m c 3 t) (Rect.unit (s := S1x4x3456x128) (ok d) S1x1x128x128.size (ik d)))
      (fun d => View.ld (iblk m c 5 t) (Rect.unit (s := S1x4x3456x128) (ok d) S1x1x128x128.size (ik d)))
      (fun d => View.ld (iblk m c 6 t) (Rect.unit (s := S1x4x3456x128) (ok d) S1x1x128x128.size (ik d)))
      (fun d => View.ld (iblk m c 4 t) (Rect.unit (s := S1x4x128x3456) (ov d) S1x1x128x128.size (iv d))) (ix2 d e) =
    headAt m c s h q d := by
  rw [(coords t).2]
  refine pairOut_apply _ _ _ _ _ _ _ s h q ⟨t.val % 17, by omega⟩ b hq hn e _ _ qs _ _ _ _
    (lows_apply m c t s hs e q (by rw [he, hq])) (ends_apply m c t s hs e q (by rw [he, hq])) hqs
    (fun c' j d => ?_) (fun c' j d => ?_) (fun c' j d => ?_) (fun c' d j => ?_) d
  · exact (ld_rows (iblk m c 3 t) (ok c') (ik c') ⟨h.val / 2, by omega⟩ _ (hk c') j d _ rfl).trans (iblk3 m c t s hs _ _ d)
  · exact (ld_rows (iblk m c 5 t) (ok c') (ik c') ⟨h.val / 2, by omega⟩ _ (hk c') j d _ rfl).trans (iblk5 m c t s hs _ _ d)
  · exact (ld_rows (iblk m c 6 t) (ok c') (ik c') ⟨h.val / 2, by omega⟩ _ (hk c') j d _ rfl).trans (iblk6 m c t s hs _ _ d)
  · exact (ld_lanes (iblk m c 4 t) (ov c') (iv c') ⟨h.val / 2, by omega⟩ _ (hv c') d j _ rfl).trans (iblk4 m c t s hs _ d _)

/-- A head's queries, read off the point's block. -/
theorem query_apply (c : Dev nD) (t : Fin cfg0.N) (s : Fin 6) (hs : s.val = t.val / 17) (q : Fin 2176) (b : Fin 128)
    (hq : q.val = t.val % 17 * 128 + b.val) (h : Fin 8) (o : Nat) (ho : o = h.val * 128)
    (inb : ∀ a, ![o, 0] a + S128x128.size a ≤ S1024x128.size a) (d : Fin 128) :
    View.ld (Val := Elt Ideal) (e' := .bf16) (iblk m c 1 t) (Rect.unit (s := S1024x128) ![o, 0] S128x128.size inb) (ix2 d b) =
      (m ((c : Thread nD τ).loc main_arg0) : Vec Ideal S1024x13056 .bf16)
        (ix2 ⟨h.val * 128 + d.val, by omega⟩ ⟨s.val * 2176 + q.val, by omega⟩) :=
  (ld_head (iblk m c 1 t) o inb d b ⟨h.val * 128 + d.val, by omega⟩ (by subst ho; rfl)).trans
    (iblk1 m c t _ b _ (by simp only; omega))

/-- The eight heads at a grid point are attention's. -/
theorem heads_apply (c : Dev nD) (t : Fin cfg0.N) (s : Fin 6) (hs : s.val = t.val / 17) (q : Fin 2176) (b : Fin 128)
    (hq : q.val = t.val % 17 * 128 + b.val) (hn : Near m c s q) (h : Fin 8) (d : Fin 128) :
    heads m c t h (ix2 d b) = headAt m c s h q d := by
  have he : (⟨b.val, by omega⟩ : Fin 256).val % 128 = b.val := by simp only; omega
  have he' : (⟨128 + b.val, by omega⟩ : Fin 256).val % 128 = b.val := by simp only; omega
  fin_cases h
  · exact (firstHead_apply _ d b).trans (pair_apply m c t s hs q b hq hn 0 _ he _
      (fun d => (queries_first _ _ d b).trans (query_apply m c t s hs q b hq 0 0 rfl _ d)) _ _ (off2 t) (off3 t) _ _ d)
  · exact (secondHead_apply _ d b).trans (pair_apply m c t s hs q b hq hn 1 _ he' _
      (fun d => (queries_second _ _ d b).trans (query_apply m c t s hs q b hq 1 128 rfl _ d)) _ _ (off2 t) (off3 t) _ _ d)
  · exact (firstHead_apply _ d b).trans (pair_apply m c t s hs q b hq hn 2 _ he _
      (fun d => (queries_first _ _ d b).trans (query_apply m c t s hs q b hq 2 256 rfl _ d)) _ _ (off4 t) (off5 t) _ _ d)
  · exact (secondHead_apply _ d b).trans (pair_apply m c t s hs q b hq hn 3 _ he' _
      (fun d => (queries_second _ _ d b).trans (query_apply m c t s hs q b hq 3 384 rfl _ d)) _ _ (off4 t) (off5 t) _ _ d)
  · exact (firstHead_apply _ d b).trans (pair_apply m c t s hs q b hq hn 4 _ he _
      (fun d => (queries_first _ _ d b).trans (query_apply m c t s hs q b hq 4 512 rfl _ d)) _ _ (off6 t) (off7 t) _ _ d)
  · exact (secondHead_apply _ d b).trans (pair_apply m c t s hs q b hq hn 5 _ he' _
      (fun d => (queries_second _ _ d b).trans (query_apply m c t s hs q b hq 5 640 rfl _ d)) _ _ (off6 t) (off7 t) _ _ d)
  · exact (firstHead_apply _ d b).trans (pair_apply m c t s hs q b hq hn 6 _ he _
      (fun d => (queries_first _ _ d b).trans (query_apply m c t s hs q b hq 6 768 rfl _ d)) _ _ (off8 t) (off9 t) _ _ d)
  · exact (secondHead_apply _ d b).trans (pair_apply m c t s hs q b hq hn 7 _ he' _
      (fun d => (queries_second _ _ d b).trans (query_apply m c t s hs q b hq 7 896 rfl _ d)) _ _ (off8 t) (off9 t) _ _ d)

end Cert.AttendIdeal.Value

end
-- ==== Proof.AttendAfter.lean ====
/- What the attention kernel leaves in its blocks of the outputs at one grid point. -/
module

public import proofs.«01_k».proof.Proof.Gen.AttendIdeal.Frame
public import proofs.«01_k».proof.Proof.AttendPoint
public import Idealize.ShloMosaic.Lib.Pipeline.ValueKit
public import Idealize.ShloMosaic.Lib.Pipeline.ReadBack

@[expose] public section

set_option maxRecDepth 65536
set_option maxHeartbeats 8000000

noncomputable section

namespace Cert.AttendIdeal.Value

open Cert.AttendIdeal Cert.AttendIdeal.Gen Idealize.ShloMosaic Idealize.ShloMosaic.TcCoe Idealize.SL.Sem
open Idealize.ShloMosaic.Pipeline (Dat)

variable (m : (ℓ : Loc nD τ sig) → Buf (Elt Ideal) ℓ)

/-- What the point leaves in its block of the outputs: the heads, turned, side by side. -/
theorem after7 (c : Dev nD) (t : Fin cfg0.N) (y : S128x1024.Idx) : (dats m 0 c).after 7 t y =
    View.canon (Val := Elt Ideal) (s := S128x1024) (e := .f32)
      [⟨Rect.unit ![0, 896] ![128, 128] inb_S128x1024_S128x128_0_896, turned (heads m c t 7)⟩,
        ⟨Rect.unit ![0, 768] ![128, 128] inb_S128x1024_S128x128_0_768, turned (heads m c t 6)⟩,
        ⟨Rect.unit ![0, 640] ![128, 128] inb_S128x1024_S128x128_0_640, turned (heads m c t 5)⟩,
        ⟨Rect.unit ![0, 512] ![128, 128] inb_S128x1024_S128x128_0_512, turned (heads m c t 4)⟩,
        ⟨Rect.unit ![0, 384] ![128, 128] inb_S128x1024_S128x128_0_384, turned (heads m c t 3)⟩,
        ⟨Rect.unit ![0, 256] ![128, 128] inb_S128x1024_S128x128_0_256, turned (heads m c t 2)⟩,
        ⟨Rect.unit ![0, 128] ![128, 128] inb_S128x1024_S128x128_0_128, turned (heads m c t 1)⟩,
        ⟨Rect.unit ![0, 0] ![128, 128] inb_S128x1024_S128x128_0_0, turned (heads m c t 0)⟩] y := by
  rw [after0_7]
  unfold outsAt0
  frame_open
  simp (disch := decide) only [↓ View.readCov_skip, ↓ View.readCov_cons_toLoadRect, ↓ View.readCov_fill]
  frame_out
  sl_kernel_rfl

/-- What the point leaves in its block of the codes: the heads' codes, side by side. -/
theorem after8 (c : Dev nD) (t : Fin cfg0.N) (y : S128x1024.Idx) : (dats m 0 c).after 8 t y =
    View.canon (Val := Elt Ideal) (s := S128x1024) (e := .fp8e4m3)
      [⟨Rect.unit ![0, 896] ![128, 128] inb_S128x1024_S128x128_0_896, codesOf (scalesAt m c t) (heads m c t 7)⟩,
        ⟨Rect.unit ![0, 768] ![128, 128] inb_S128x1024_S128x128_0_768, codesOf (scalesAt m c t) (heads m c t 6)⟩,
        ⟨Rect.unit ![0, 640] ![128, 128] inb_S128x1024_S128x128_0_640, codesOf (scalesAt m c t) (heads m c t 5)⟩,
        ⟨Rect.unit ![0, 512] ![128, 128] inb_S128x1024_S128x128_0_512, codesOf (scalesAt m c t) (heads m c t 4)⟩,
        ⟨Rect.unit ![0, 384] ![128, 128] inb_S128x1024_S128x128_0_384, codesOf (scalesAt m c t) (heads m c t 3)⟩,
        ⟨Rect.unit ![0, 256] ![128, 128] inb_S128x1024_S128x128_0_256, codesOf (scalesAt m c t) (heads m c t 2)⟩,
        ⟨Rect.unit ![0, 128] ![128, 128] inb_S128x1024_S128x128_0_128, codesOf (scalesAt m c t) (heads m c t 1)⟩,
        ⟨Rect.unit ![0, 0] ![128, 128] inb_S128x1024_S128x128_0_0, codesOf (scalesAt m c t) (heads m c t 0)⟩] y := by
  rw [after0_8]
  unfold outsAt0
  frame_open
  simp (disch := decide) only [↓ View.readCov_skip, ↓ View.readCov_cons_toLoadRect, ↓ View.readCov_fill]
  frame_out
  sl_kernel_rfl

/-- What the point leaves in its block of the scales. -/
theorem after9 (c : Dev nD) (t : Fin cfg0.N) (y : S1x1x128.Idx) : (dats m 0 c).after 9 t y =
    scaleTile (scalesAt m c t) y := by
  rw [after0_9]
  unfold outsAt0
  frame_open
  simp (disch := decide) only [↓ View.readCov_skip, ↓ View.readCov_cons_toLoadRect, ↓ View.readCov_fill]
  frame_out
  sl_kernel_rfl

end Cert.AttendIdeal.Value

end
-- ==== Proof.AttendRef.lean ====
/- The reference's attention at an index: the mixtures of the values, their codes and their scales. -/
module

public import proofs.«01_k».proof.Proof.AttendSpec
public import proofs.«01_k».proof.Proof.Gen.AttendReferenceIdeal.Value
public import Idealize.ShloMosaic.Lib.Pipeline.ValueKit

@[expose] public section

set_option maxRecDepth 16384
set_option maxHeartbeats 2000000

noncomputable section

namespace Cert.AttendReferenceIdeal.Value

open Cert.AttendReferenceIdeal Cert.AttendReferenceIdeal.Gen Idealize.ShloMosaic

/-! ## The reference's steps on whole arrays; each pair of heads of a sequence is one of 24 -/

/-- The queries of the pairs of heads. -/
def pairs (v0 : Vec Ideal S1024x13056 .bf16) : FVec Ideal S24x4352x128 .bf16 :=
  shapeCast S24x4352x128 (transpose S6x8x2176x128 [2, 0, 3, 1]
    (shapeCast S8x128x6x2176 v0 shapeCasts_S1024x13056_S8x128x6x2176) transposes_S8x128x6x2176_p2_0_3_1_S6x8x2176x128)
    shapeCasts_S6x8x2176x128_S24x4352x128

/-- The scaled products. -/
def products (v3 : FVec Ideal S24x4352x128 .bf16) (v4 : Vec Ideal S6x4x3456 .f32) (v8 : Vec Ideal S6x4x3456x128 .bf16) :
    FVec Ideal S24x4352x3456 .f32 :=
  mulf (matmul (φ₁ := .bf16) (φ₂ := .bf16) dot_S24x4352x128_S24x3456x128_S24x4352x3456_2_2_1_1_0_0 none v3
      (shapeCast S24x3456x128 v8 shapeCasts_S6x4x3456x128_S24x3456x128) (constant S24x4352x3456 .f32 0x00000000#32))
    (broadcastTo S24x4352x3456 (mulf (shapeCast S24x1x3456 v4 shapeCasts_S6x4x3456_S24x1x3456)
      (broadcast S24x1x3456 (Scalar.ofBits (F := Ideal) .f32 0x3E0293EE#32))) broadcasts_S24x1x3456_S24x4352x3456)

/-- The scores: the products, minus infinity where a key is not seen. -/
def scores (v12 : FVec Ideal S24x4352x3456 .f32) (v40 : IVec S6x8x2176x3456 1) : FVec Ideal S24x4352x3456 .f32 :=
  shapeCast S24x4352x3456 (select v40 (shapeCast S6x8x2176x3456 v12 shapeCasts_S24x4352x3456_S6x8x2176x3456)
    (broadcast S6x8x2176x3456 (Scalar.ofBits (F := Ideal) .f32 0xFF800000#32))) shapeCasts_S6x8x2176x3456_S24x4352x3456

/-- The largest scores. -/
def tops (v43 : FVec Ideal S24x4352x3456 .f32) : FVec Ideal S24x4352 .f32 :=
  multiReduction .maximumf [2] S24x4352 v43 0xFF800000#32 reduces_S24x4352x3456_S24x4352 (.inl rfl) rfl

/-- The weights. -/
def weights (v43 : FVec Ideal S24x4352x3456 .f32) (v44 : FVec Ideal S24x4352 .f32) : FVec Ideal S24x4352x3456 .f32 :=
  exp2 (subf v43 (broadcastTo S24x4352x3456 (ceil (shapeCast S24x4352x1 v44 shapeCasts_S24x4352_S24x4352x1))
    broadcasts_S24x4352x1_S24x4352x3456))

/-- The mixtures of the values. -/
def mixtures (v49 : FVec Ideal S24x4352x3456 .f32) (v52 : Vec Ideal S6x4x3456 .f32) (v57 : Vec Ideal S6x4x128x3456 .bf16) :
    FVec Ideal S24x4352x128 .f32 :=
  divf (matmul (φ₁ := .bf16) (φ₂ := .bf16) dot_S24x4352x3456_S24x128x3456_S24x4352x128_2_2_1_1_0_0 none
      (truncf .bf16 (mulf v49 (broadcastTo S24x4352x3456 (shapeCast S24x1x3456 v52 shapeCasts_S6x4x3456_S24x1x3456)
        broadcasts_S24x1x3456_S24x4352x3456)) bitsLt_bf16_f32)
      (shapeCast S24x128x3456 v57 shapeCasts_S6x4x128x3456_S24x128x3456) (constant S24x4352x128 .f32 0x00000000#32))
    (broadcastTo S24x4352x128 (shapeCast S24x4352x1 (multiReduction .add [2] S24x4352 v49 0x00000000#32
      reduces_S24x4352x3456_S24x4352 (.inl rfl) rfl) shapeCasts_S24x4352_S24x4352x1) broadcasts_S24x4352x1_S24x4352x128)

/-- The mixtures as rows of tokens. -/
def tokens (v61 : FVec Ideal S24x4352x128 .f32) : FVec Ideal S13056x1024 .f32 :=
  shapeCast S13056x1024 (transpose S6x2176x8x128 [0, 2, 1, 3]
    (shapeCast S6x8x2176x128 v61 shapeCasts_S24x4352x128_S6x8x2176x128) transposes_S6x8x2176x128_p0_2_1_3_S6x2176x8x128)
    shapeCasts_S6x2176x8x128_S13056x1024

/-- The largest magnitudes of the rows. -/
def amaxRows (h : FVec Ideal S13056x1024 .f32) : FVec Ideal S13056 .f32 :=
  multiReduction .maximumf [1] S13056 (absf h) 0xFF800000#32 reduces_S13056x1024_S13056 (.inl rfl) rfl

/-- The scales at these magnitudes. -/
def scaleRowsOf (a : FVec Ideal S13056 .f32) : FVec Ideal S13056x1 .f32 :=
  select (cmpf .oeq (shapeCast S13056x1 a shapeCasts_S13056_S13056x1)
      (broadcast S13056x1 (Scalar.ofBits (F := Ideal) .f32 0x00000000#32)))
    (broadcast S13056x1 (Scalar.ofBits (F := Ideal) .f32 0x3F800000#32))
    (divf (shapeCast S13056x1 a shapeCasts_S13056_S13056x1)
      (broadcast S13056x1 (Scalar.ofBits (F := Ideal) .f32 0x43E00000#32)))

/-- The codes of an array at its rows' scales. -/
def codeRows (h : FVec Ideal S13056x1024 .f32) (s : FVec Ideal S13056x1 .f32) : FVec Ideal S13056x1024 .fp8e4m3 :=
  truncf .fp8e4m3 (minimumf (broadcast S13056x1024 (Scalar.ofBits (F := Ideal) .f32 0x43E00000#32))
    (maximumf (broadcast S13056x1024 (Scalar.ofBits (F := Ideal) .f32 0xC3E00000#32))
      (divf h (broadcastTo S13056x1024 s broadcasts_S13056x1_S13056x1024)))) bitsLt_fp8e4m3_f32

/-! ## The steps at an index -/

theorem pairs_apply (v0 : Vec Ideal S1024x13056 .bf16) (b : Fin 6) (h : Fin 8) (q : Fin 2176) (d : Fin 128) (n : Fin 24)
    (r : Fin 4352) (hn : n.val = b.val * 4 + h.val / 2) (hr : r.val = h.val % 2 * 2176 + q.val) :
    pairs v0 (ix3 n r d) = v0 (ix2 ⟨h.val * 128 + d.val, by omega⟩ ⟨b.val * 2176 + q.val, by omega⟩) := by
  pointwise [pairs]
  congr 2 <;> exact Fin.ext (by simp only; omega)

theorem products_apply (v3 : FVec Ideal S24x4352x128 .bf16) (v4 : Vec Ideal S6x4x3456 .f32)
    (v8 : Vec Ideal S6x4x3456x128 .bf16) (b : Fin 6) (g : Fin 4) (n : Fin 24) (hn : n.val = b.val * 4 + g.val)
    (r : Fin 4352) (j : Fin 3456) :
    products v3 v4 v8 (ix3 n r j) =
      (∑ d : Fin 128, v3 (ix3 n r d) * v8 (ix4 b g j d)) * (v4 (ix3 b g j) * Ideal.ofBits .f32 0x3E0293EE#32) := by
  pointwise [products]
  have hb : ∀ h', (⟨n.val / 4, h'⟩ : Fin 6) = b := fun _ => Fin.ext (by simp only; omega)
  have hg : ∀ h', (⟨n.val % 4, h'⟩ : Fin 4) = g := fun _ => Fin.ext (by simp only; omega)
  simp only [hb, hg]

theorem scores_apply (v12 : FVec Ideal S24x4352x3456 .f32) (v40 : IVec S6x8x2176x3456 1) (b : Fin 6) (h : Fin 8)
    (q : Fin 2176) (j : Fin 3456) (n : Fin 24)
    (r : Fin 4352) (hn : n.val = b.val * 4 + h.val / 2) (hr : r.val = h.val % 2 * 2176 + q.val) :
    scores v12 v40 (ix3 n r j) = Scalar.select (v40 (ix4 b h q j)) (v12 (ix3 n r j)) ⊥ := by
  rw [← Row.ofBits_bot]
  pointwise [scores]
  have hb : ∀ h', (⟨n.val / 4, h'⟩ : Fin 6) = b := fun _ => Fin.ext (by simp only; omega)
  have hh : ∀ h', (⟨n.val % 4 * 2 + r.val / 2176, h'⟩ : Fin 8) = h := fun _ => Fin.ext (by simp only; omega)
  have hq : ∀ h', (⟨r.val % 2176, h'⟩ : Fin 2176) = q := fun _ => Fin.ext (by simp only; omega)
  simp only [hb, hh, hq]

theorem seen_apply (a5 : IVec S6 32) (a6 : IVec S6x2176 32) (b : Fin 6) (h : Fin 8)
    (q : Fin 2176) (j : Fin 3456) :
    k0_pay3 (F := Ideal) a5 a6 (ix4 b h q j) = Attention.sees a5 a6 b q j := by
  pointwise [k0_pay3, Attention.sees, Attention.number, Attention.first]
  rfl

theorem tops_apply (v43 : FVec Ideal S24x4352x3456 .f32) (n : Fin 24) (r : Fin 4352) :
    tops v43 (ix2 n r) = Row.best fun j => v43 (ix3 n r j) :=
  Row.max_last3 v43 reduces_S24x4352x3456_S24x4352 (.inl rfl) rfl n r

theorem weights_apply (v43 : FVec Ideal S24x4352x3456 .f32) (v44 : FVec Ideal S24x4352 .f32) (n : Fin 24) (r : Fin 4352)
    (j : Fin 3456) : weights v43 v44 (ix3 n r j) = Ideal.exp2 (v43 (ix3 n r j) - Ideal.liftRound Int.ceil (v44 (ix2 n r))) := by
  pointwise [weights]
  rfl

theorem mixtures_apply (v49 : FVec Ideal S24x4352x3456 .f32) (v52 : Vec Ideal S6x4x3456 .f32)
    (v57 : Vec Ideal S6x4x128x3456 .bf16) (b : Fin 6) (g : Fin 4) (n : Fin 24) (hn : n.val = b.val * 4 + g.val)
    (r : Fin 4352) (d : Fin 128) :
    mixtures v49 v52 v57 (ix3 n r d) =
      Ideal.div (∑ j : Fin 3456, v49 (ix3 n r j) * v52 (ix3 b g j) * v57 (ix4 b g d j)) (∑ j : Fin 3456, v49 (ix3 n r j)) := by
  pointwise [mixtures]
  have hb : ∀ h', (⟨n.val / 4, h'⟩ : Fin 6) = b := fun _ => Fin.ext (by simp only; omega)
  have hg : ∀ h', (⟨n.val % 4, h'⟩ : Fin 4) = g := fun _ => Fin.ext (by simp only; omega)
  simp only [hb, hg]

theorem tokens_apply (v61 : FVec Ideal S24x4352x128 .f32) (k : Fin 13056) (e : Fin 1024) :
    tokens v61 (ix2 k e) = v61 (ix3 ⟨k.val / 2176 * 4 + e.val / 128 / 2, by omega⟩
      ⟨e.val / 128 % 2 * 2176 + k.val % 2176, by omega⟩ ⟨e.val % 128, by omega⟩) := by
  pointwise [tokens]

theorem amaxRows_apply (h : FVec Ideal S13056x1024 .f32) (r : Fin 13056) :
    amaxRows h (ix1 r) = Row.amax fun d => h (ix2 r d) :=
  Row.amax_last h _ _ _ r

theorem scaleRowsOf_apply (a : FVec Ideal S13056 .f32) (r : Fin 13056) :
    scaleRowsOf a (ix2 r 0) = Row.scale (a (ix1 r)) := by
  pointwise [scaleRowsOf]
  rfl

theorem codeRows_apply (h : FVec Ideal S13056x1024 .f32) (s : FVec Ideal S13056x1 .f32) (r : Fin 13056) (d : Fin 1024) :
    codeRows h s (ix2 r d) = Row.code (h (ix2 r d)) (s (ix2 r 0)) := by
  pointwise [codeRows]
  rfl

/-! ## The reference's arrays -/

variable (a0 : Vec Ideal S1024x13056 .bf16) (a1 : Vec Ideal S6x4x3456x128 .bf16) (a2 : Vec Ideal S6x4x128x3456 .bf16)
  (a3 a4 : Vec Ideal S6x4x3456 .f32) (a5 : IVec S6 32) (a6 : IVec S6x2176 32)

/-- The scores of the arguments. -/
def scoresOf : FVec Ideal S24x4352x3456 .f32 := scores (products (pairs a0) a3 a1) (k0_pay3 (F := Ideal) a5 a6)

/-- The mixtures of the arguments, as rows of tokens. -/
def tokensOf : FVec Ideal S13056x1024 .f32 :=
  tokens (mixtures (weights (scoresOf a0 a1 a3 a5 a6) (tops (scoresOf a0 a1 a3 a5 a6))) a4 a2)

theorem scoresOf_apply (b : Fin 6) (h : Fin 8) (q : Fin 2176) (j : Fin 3456) (n : Fin 24)
    (r : Fin 4352) (hn : n.val = b.val * 4 + h.val / 2) (hr : r.val = h.val % 2 * 2176 + q.val) :
    scoresOf a0 a1 a3 a5 a6 (ix3 n r j) = Attention.score a0 a1 a3 a5 a6 b h q j := by
  unfold scoresOf Attention.score Attention.product
  rw [scores_apply _ _ b h q j n r hn hr, seen_apply, products_apply _ _ _ b ⟨h.val / 2, by omega⟩ n hn]
  simp only [pairs_apply a0 b h q _ n r hn hr]
  simp only [mul_comm (a0 _)]

theorem tokensOf_apply (k : Fin 13056) (e : Fin 1024) :
    tokensOf a0 a1 a2 a3 a4 a5 a6 (ix2 k e) = Attention.row a0 a1 a2 a3 a4 a5 a6 k e := by
  unfold tokensOf Attention.row Attention.head Row.mix Row.weight
  rw [tokens_apply, mixtures_apply _ _ _ ⟨k.val / 2176, by omega⟩ ⟨e.val / 128 / 2, by omega⟩ _ rfl]
  simp only [weights_apply, tops_apply]
  have hs : ∀ h1 h2 j, scoresOf a0 a1 a3 a5 a6 (ix3 ⟨k.val / 2176 * 4 + e.val / 128 / 2, h1⟩
      ⟨e.val / 128 % 2 * 2176 + k.val % 2176, h2⟩ j) = Attention.score a0 a1 a3 a5 a6 ⟨k.val / 2176, by omega⟩
        ⟨e.val / 128, by omega⟩ ⟨k.val % 2176, by omega⟩ j := fun _ _ j => scoresOf_apply a0 a1 a3 a5 a6 _ _ _ j _ _ rfl rfl
  simp only [hs, mul_comm _ (a2 _)]

theorem zero4 : (![0, 0, 0, 0] : Fin 4 → Nat) = fun _ => 0 := funext fun a => by fin_cases a <;> rfl

theorem zero3 : (![0, 0, 0] : Fin 3 → Nat) = fun _ => 0 := funext fun a => by fin_cases a <;> rfl

theorem zero2 : (![0, 0] : Fin 2 → Nat) = fun _ => 0 := funext fun a => by fin_cases a <;> rfl

theorem zero1 : (![0] : Fin 1 → Nat) = fun _ => 0 := funext fun a => by fin_cases a <;> rfl

theorem pay7_eq : k0_pay7 (F := Ideal) a0 a1 a2 a3 a4 a5 a6 = k0_pay2 a0 a3 a1 := by
  unfold k0_pay7
  rw [View.ld_unit_zero zero2, View.ld_unit_zero zero3, View.ld_unit_zero zero4]

theorem pay8_eq : k0_pay8 (F := Ideal) a0 a1 a2 a3 a4 a5 a6 = k0_pay3 (F := Ideal) a5 a6 := by
  unfold k0_pay8
  rw [View.ld_unit_zero zero1, View.ld_unit_zero zero2]

/-- The reference's first array is the mixtures of the arguments. -/
theorem G7_eq : G7 (F := Ideal) a0 a1 a2 a3 a4 a5 a6 = tokensOf a0 a1 a2 a3 a4 a5 a6 := by
  unfold G7
  rw [pay7_eq, pay8_eq]
  rfl

theorem G8_eq : G8 (F := Ideal) a0 a1 a2 a3 a4 a5 a6 = codeRows (tokensOf a0 a1 a2 a3 a4 a5 a6)
    (scaleRowsOf (amaxRows (tokensOf a0 a1 a2 a3 a4 a5 a6))) := by
  rw [← G7_eq]
  rfl

theorem G9_eq : G9 (F := Ideal) a0 a1 a2 a3 a4 a5 a6 =
    k0_pay1 (F := Ideal) (scaleRowsOf (amaxRows (tokensOf a0 a1 a2 a3 a4 a5 a6))) := by
  rw [← G7_eq]
  rfl

/-- The reference's outputs. -/
theorem G7_apply (r : Fin 13056) (e : Fin 1024) :
    G7 (F := Ideal) a0 a1 a2 a3 a4 a5 a6 (ix2 r e) = Attention.row a0 a1 a2 a3 a4 a5 a6 r e := by
  rw [G7_eq, tokensOf_apply]

theorem scales_apply (r : Fin 13056) : scaleRowsOf (amaxRows (tokensOf a0 a1 a2 a3 a4 a5 a6)) (ix2 r 0) =
    Row.rowScale (Attention.row a0 a1 a2 a3 a4 a5 a6 r) := by
  rw [scaleRowsOf_apply, amaxRows_apply]
  simp only [tokensOf_apply]
  rfl

/-- The reference's codes. -/
theorem G8_apply (r : Fin 13056) (e : Fin 1024) :
    G8 (F := Ideal) a0 a1 a2 a3 a4 a5 a6 (ix2 r e) = Row.rowCode (Attention.row a0 a1 a2 a3 a4 a5 a6 r) e := by
  rw [G8_eq, codeRows_apply, tokensOf_apply, scales_apply]
  rfl

theorem tile_apply (s : FVec Ideal S13056x1 .f32) (a : Fin 102) (b : Fin 128) :
    k0_pay1 (F := Ideal) s (ix3 a 0 b) = s (ix2 ⟨a.val * 128 + b.val, by omega⟩ 0) := by
  pointwise [k0_pay1]

/-- The reference's scales. -/
theorem G9_apply (a : Fin 102) (b : Fin 128) :
    G9 (F := Ideal) a0 a1 a2 a3 a4 a5 a6 (ix3 a 0 b) =
      Row.rowScale (Attention.row a0 a1 a2 a3 a4 a5 a6 ⟨a.val * 128 + b.val, by omega⟩) := by
  rw [G9_eq, tile_apply, scales_apply]

end Cert.AttendReferenceIdeal.Value

end
-- ==== Proof.AttendValue.lean ====
/- The attention kernel's three result arrays after the run are the reference's arrays of the arguments. -/
module

public import proofs.«01_k».proof.Proof.AttendPairs
public import proofs.«01_k».proof.Proof.AttendAfter
public import proofs.«01_k».proof.Proof.AttendRef
public import proofs.«01_k».proof.Pre_spans
public import Idealize.ShloMosaic.Lib.ReduceAll

@[expose] public section

set_option maxRecDepth 16384
set_option maxHeartbeats 2000000

noncomputable section

/-- The side conditions of the precondition's operations. -/
theorem Cert.Pre_spans.facts : Cert.Pre_spans.Facts where
  bcast_S2176_S1x2176_1 := by decide
  bcast_S_S1x2176 := by decide
  bcast_S1x2176_S6x2176_0_1 := by decide
  reducesTo_S6x2176_S_d0_1 := by decide
  h_S_ := by decide

namespace Cert.AttendIdeal.Value

open Cert.AttendIdeal Cert.AttendIdeal.Gen Idealize.ShloMosaic Idealize.ShloMosaic.TcCoe Idealize.SL.Sem
open Idealize.ShloMosaic.Pipeline (Dat)
open Cert.AttendReferenceIdeal.Value (G7 G8 G9 G7_apply G8_apply G9_apply)

attribute [local instance] Cert.Pre_spans.facts

/-- The precondition, read at a query: its span ends no later than 256 keys after it. -/
theorem near_of_spans (a0 : Vec Ideal S1024x13056 .bf16) (a1 : Vec Ideal S6x4x3456x128 .bf16)
    (a2 : Vec Ideal S6x4x128x3456 .bf16) (a3 a4 : Vec Ideal S6x4x3456 .f32) (a5 : IVec S6 32) (a6 : IVec S6x2176 32)
    (h : Cert.Pre_spans.fn (F := Ideal) a0 a1 a2 a3 a4 a5 a6 = fun _ => 1#1) (s : Fin 6) (q : Fin 2176) :
    (a6 (ix2 s q)).toInt ≤ q.val + 256 := by
  have h0 := congrFun h (Shape.Idx.first (s := Cert.Pre_spans.S_) (by decide))
  dsimp only [Cert.Pre_spans.fn] at h0
  haveI : Subsingleton Cert.Pre_spans.S_.Idx := ⟨fun a b => funext fun i => i.elim0⟩
  have h1 := Host.reduce_andi_all _ _ _ _ _ h0 (ix2 s q)
  have h2 := IntOp.cmpi_sle.1 h1
  refine h2.trans (le_of_eq ?_)
  refine Eq.trans ?_ (Attention.toInt_add q.val 256 (by omega) (by omega))
  refine congrArg BitVec.toInt ?_
  pointwise
  rfl

variable (m : (ℓ : Loc nD τ sig) → Buf (Elt Ideal) ℓ)

/-- A token's row of outputs of the arguments. -/
def rowAt (c : Dev nD) : Fin 13056 → Fin 1024 → EReal :=
  Attention.row (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

/-- What the run leaves in the outputs. -/
def want7 (c : Dev nD) : FVec Ideal S13056x1024 .f32 :=
  G7 (F := Ideal) (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

/-- What the run leaves in the codes. -/
def want8 (c : Dev nD) : FVec Ideal S13056x1024 .fp8e4m3 :=
  G8 (F := Ideal) (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

/-- What the run leaves in the scales. -/
def want9 (c : Dev nD) : FVec Ideal S102x1x128 .f32 :=
  G9 (F := Ideal) (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

theorem row_lt (t : Fin cfg0.N) (b : Fin 128) : t.val * 128 + b.val < 13056 := by
  have := points t
  omega

/-- A head at a grid point is its part of the tokens' rows. -/
theorem heads_row (c : Dev nD) (hn : ∀ s q, Near m c s q) (t : Fin cfg0.N) (h : Fin 8) (d b : Fin 128) :
    heads m c t h (ix2 d b) = rowAt m c ⟨_, row_lt t b⟩ ⟨h.val * 128 + d.val, by omega⟩ := by
  have ht := points t
  rw [heads_apply m c t ⟨t.val / 17, by omega⟩ rfl ⟨t.val % 17 * 128 + b.val, by omega⟩ b rfl (hn _ _) h d]
  unfold headAt rowAt Attention.row
  congr 1
  · exact Fin.ext (by simp only; omega)
  · exact Fin.ext (by simp only; omega)
  · exact Fin.ext (by simp only; omega)
  · exact Fin.ext (by simp only; omega)

/-- The scales at a grid point are its tokens'. -/
theorem scales_row (c : Dev nD) (hn : ∀ s q, Near m c s q) (t : Fin cfg0.N) (b : Fin 128) :
    scalesAt m c t (ix2 0 b) = Row.rowScale (rowAt m c ⟨_, row_lt t b⟩) := by
  unfold scalesAt Row.rowScale
  rw [scaleOf_apply, amax8_apply, Row.amax_heads]
  simp only [heads_row m c hn]

/-- A head's tile of the outputs. -/
theorem outTile (c : Dev nD) (hn : ∀ s q, Near m c s q) (t : Fin cfg0.N) (h : Fin 8) (p : Nat) (hp : p = h.val * 128)
    (y : S128x1024.Idx) : View.TileAt (Val := Elt Ideal) (S := S128x1024) (e := .f32) y ![0, p] ![128, 128]
      (turned (heads m c t h)) (want7 m c (((cfg0.win 7).blk t).view.emb y)) := by
  intro x hx
  obtain ⟨b, d, rfl⟩ : ∃ (b d : Fin 128), x = ix2 b d := ⟨x 0, x 1, eq_ix2 x⟩
  obtain rfl : y = ix2 b ⟨h.val * 128 + d.val, by omega⟩ := by
    rw [eq_ix2 y]
    exact congrArg₂ ix2 (Fin.ext ((hx 0).trans (Nat.zero_add _))) (Fin.ext ((hx 1).trans (by subst hp; rfl)))
  rw [emb7 t b _ ⟨_, row_lt t b⟩ rfl]
  unfold want7
  rw [G7_apply]
  exact (turned_apply _ b d).trans (heads_row m c hn t h d b)

/-- A head's tile of the codes. -/
theorem codeTile (c : Dev nD) (hn : ∀ s q, Near m c s q) (t : Fin cfg0.N) (h : Fin 8) (p : Nat) (hp : p = h.val * 128)
    (y : S128x1024.Idx) : View.TileAt (Val := Elt Ideal) (S := S128x1024) (e := .fp8e4m3) y ![0, p] ![128, 128]
      (codesOf (scalesAt m c t) (heads m c t h)) (want8 m c (((cfg0.win 8).blk t).view.emb y)) := by
  intro x hx
  obtain ⟨b, d, rfl⟩ : ∃ (b d : Fin 128), x = ix2 b d := ⟨x 0, x 1, eq_ix2 x⟩
  obtain rfl : y = ix2 b ⟨h.val * 128 + d.val, by omega⟩ := by
    rw [eq_ix2 y]
    exact congrArg₂ ix2 (Fin.ext ((hx 0).trans (Nat.zero_add _))) (Fin.ext ((hx 1).trans (by subst hp; rfl)))
  rw [emb8 t b _ ⟨_, row_lt t b⟩ rfl]
  unfold want8
  rw [G8_apply]
  refine (codesOf_apply _ _ b d _ (scales_row m c hn t b)).trans ?_
  rw [heads_row m c hn t h d b]
  rfl

/-- A grid point's block of the outputs. -/
theorem block7 (c : Dev nD) (hn : ∀ s q, Near m c s q) (t : Fin cfg0.N) (y : S128x1024.Idx) :
    (dats m 0 c).after 7 t y = want7 m c (((cfg0.win 7).blk t).view.emb y) := by
  rw [after7 m c t y]
  refine View.canon_eq_of_allAt _ y _ ?_ ?_
  · exact View.cover_of_tiled_head _ _ _ (by rfl) _
  refine View.allAt_cons_unit _ _ _ _ _ (outTile m c hn t 7 896 rfl y) ?_
  refine View.allAt_cons_unit _ _ _ _ _ (outTile m c hn t 6 768 rfl y) ?_
  refine View.allAt_cons_unit _ _ _ _ _ (outTile m c hn t 5 640 rfl y) ?_
  refine View.allAt_cons_unit _ _ _ _ _ (outTile m c hn t 4 512 rfl y) ?_
  refine View.allAt_cons_unit _ _ _ _ _ (outTile m c hn t 3 384 rfl y) ?_
  refine View.allAt_cons_unit _ _ _ _ _ (outTile m c hn t 2 256 rfl y) ?_
  refine View.allAt_cons_unit _ _ _ _ _ (outTile m c hn t 1 128 rfl y) ?_
  refine View.allAt_cons_unit _ _ _ _ _ (outTile m c hn t 0 0 rfl y) ?_
  exact View.allAt_nil _ _

/-- After the run, the first result holds the outputs of the arguments. -/
theorem final7 (c : Dev nD) (hn : ∀ s q, Near m c s q) : (dats m 0 c).arrAt 7 cfg0.N = want7 m c :=
  (dats m 0 c).arrAt_eq_of_covers 7 _ (by decide +kernel) fun t _ y => block7 m c hn t y

/-- A grid point's block of the codes. -/
theorem block8 (c : Dev nD) (hn : ∀ s q, Near m c s q) (t : Fin cfg0.N) (y : S128x1024.Idx) :
    (dats m 0 c).after 8 t y = want8 m c (((cfg0.win 8).blk t).view.emb y) := by
  rw [after8 m c t y]
  refine View.canon_eq_of_allAt _ y _ ?_ ?_
  · exact View.cover_of_tiled_head _ _ _ (by rfl) _
  refine View.allAt_cons_unit _ _ _ _ _ (codeTile m c hn t 7 896 rfl y) ?_
  refine View.allAt_cons_unit _ _ _ _ _ (codeTile m c hn t 6 768 rfl y) ?_
  refine View.allAt_cons_unit _ _ _ _ _ (codeTile m c hn t 5 640 rfl y) ?_
  refine View.allAt_cons_unit _ _ _ _ _ (codeTile m c hn t 4 512 rfl y) ?_
  refine View.allAt_cons_unit _ _ _ _ _ (codeTile m c hn t 3 384 rfl y) ?_
  refine View.allAt_cons_unit _ _ _ _ _ (codeTile m c hn t 2 256 rfl y) ?_
  refine View.allAt_cons_unit _ _ _ _ _ (codeTile m c hn t 1 128 rfl y) ?_
  refine View.allAt_cons_unit _ _ _ _ _ (codeTile m c hn t 0 0 rfl y) ?_
  exact View.allAt_nil _ _

/-- After the run, the second result holds the codes of the outputs. -/
theorem final8 (c : Dev nD) (hn : ∀ s q, Near m c s q) : (dats m 0 c).arrAt 8 cfg0.N = want8 m c :=
  (dats m 0 c).arrAt_eq_of_covers 8 _ (by decide +kernel) fun t _ y => block8 m c hn t y

/-- A grid point's block of the scales. -/
theorem block9 (c : Dev nD) (hn : ∀ s q, Near m c s q) (t : Fin cfg0.N) (y : S1x1x128.Idx) :
    (dats m 0 c).after 9 t y = want9 m c (((cfg0.win 9).blk t).view.emb y) := by
  rw [after9 m c t y]
  obtain ⟨b, rfl⟩ : ∃ b : Fin 128, y = ix3 0 0 b := ⟨y 2, (eq_ix3 y).trans (by
    congr 1
    · exact Subsingleton.elim (α := Fin 1) _ _
    · exact Subsingleton.elim (α := Fin 1) _ _)⟩
  rw [emb9 t b ⟨t.val, points t⟩ rfl]
  unfold want9
  rw [G9_apply]
  exact (scaleTile_apply _ b).trans (scales_row m c hn t b)

/-- After the run, the third result holds the scales of the outputs. -/
theorem final9 (c : Dev nD) (hn : ∀ s q, Near m c s q) : (dats m 0 c).arrAt 9 cfg0.N = want9 m c :=
  (dats m 0 c).arrAt_eq_of_covers 9 _ (by decide +kernel) fun t _ y => block9 m c hn t y

end Cert.AttendIdeal.Value

end
-- ==== Proof.ProjValue.lean ====
/- The output projection: what the kernel's blocks of 256 rows leave in the result array is the reference's array. -/
module

public import proofs.«01_k».proof.Proof.Gen.ProjIdeal.Value
public import proofs.«01_k».proof.Proof.Gen.ProjReferenceIdeal.Value
public import proofs.«01_k».proof.Proof.RowMath
public import Idealize.ShloMosaic.Lib.Pipeline.ValueKit

@[expose] public section

set_option maxRecDepth 16384

noncomputable section

namespace Cert.ProjIdeal.Value

open Cert.ProjIdeal Cert.ProjIdeal.Gen Idealize.ShloMosaic Idealize.ShloMosaic.TcCoe Idealize.SL.Sem
open Idealize.ShloMosaic.Pipeline (Dat)

/-- One element of the projected row: the product of the codes with a column of the weights, rescaled. -/
def proj (a1 : Vec Ideal S13056x1024 .fp8e4m3) (a2 : Vec Ideal S102x1x128 .f32) (a3 : Vec Ideal S1024x5376 .fp8e4m3)
    (a4 : Vec Ideal S5376 .f32) (r : Fin 13056) (d : Fin 5376) : EReal :=
  (∑ k : Fin 1024, a1 (ix2 r k) * a3 (ix2 k d)) *
    (a2 (ix3 ⟨r.val / 128, by omega⟩ 0 ⟨r.val % 128, by omega⟩) * a4 (ix1 d))

/-- One element of the result: the residual plus the normed projection. -/
def out (a0 : Vec Ideal S6x2176x5376 .bf16) (a1 : Vec Ideal S13056x1024 .fp8e4m3) (a2 : Vec Ideal S102x1x128 .f32)
    (a3 : Vec Ideal S1024x5376 .fp8e4m3) (a4 a5 : Vec Ideal S5376 .f32) (r : Fin 13056) (d : Fin 5376) : EReal :=
  a0 (ix3 ⟨r.val / 2176, by omega⟩ ⟨r.val % 2176, by omega⟩ d) +
    Ideal.div (proj a1 a2 a3 a4 r d) (Row.rms (Ideal.ofBits .f32 0x45A80000#32) (proj a1 a2 a3 a4 r)) * a5 (ix1 d)

/-- The reference's array, at an index. -/
theorem ref_apply (a0 : Vec Ideal S6x2176x5376 .bf16) (a1 : Vec Ideal S13056x1024 .fp8e4m3)
    (a2 : Vec Ideal S102x1x128 .f32) (a3 : Vec Ideal S1024x5376 .fp8e4m3) (a4 a5 : Vec Ideal S5376 .f32)
    (r : Fin 13056) (d : Fin 5376) :
    Cert.ProjReferenceIdeal.Value.G6 (F := Ideal) a0 a1 a2 a3 a4 a5 (ix2 r d) = out a0 a1 a2 a3 a4 a5 r d := by
  pointwise [Cert.ProjReferenceIdeal.Value.G6, Cert.ProjReferenceIdeal.Gen.k0_pay1]
  rfl

variable (m : (ℓ : Loc nD τ sig) → Buf (Elt Ideal) ℓ)

/-- The block indices at every grid point. -/
theorem idx : ∀ t : Fin grid0.N, win0_0.index t = ![t.val, 0] ∧ win0_1.index t = ![t.val, 0] ∧
    win0_2.index t = ![t.val, 0, 0] ∧ win0_3.index t = ![0, 0] ∧ win0_4.index t = ![0, 0] ∧
    win0_5.index t = ![0, 0] ∧ win0_6.index t = ![t.val, 0] := by decide +kernel

/-- The block of residual rows, read off the argument. -/
theorem iblk0 (c : Dev nD) (t : Fin cfg0.N) (a : Fin 256) (b : Fin 5376) (r : Fin 13056)
    (hr : r.val = t.val * 256 + a.val) :
    iblk m c 0 t (ix2 a b) = (m ((c : Thread nD τ).loc main_arg0) : Vec Ideal S6x2176x5376 .bf16)
      (ix3 ⟨r.val / 2176, by omega⟩ ⟨r.val % 2176, by omega⟩ b) := by
  blk_ext! [iblk, V, idx t]

/-- The block of code rows. -/
theorem iblk1 (c : Dev nD) (t : Fin cfg0.N) (a : Fin 256) (b : Fin 1024) (r : Fin 13056)
    (hr : r.val = t.val * 256 + a.val) :
    iblk m c 1 t (ix2 a b) = (m ((c : Thread nD τ).loc main_arg1) : Vec Ideal S13056x1024 .fp8e4m3) (ix2 r b) := by
  blk_ext! [iblk, V, idx t]

/-- The block of scales: two tiles of 128 rows. -/
theorem iblk2 (c : Dev nD) (t : Fin cfg0.N) (a : Fin 2) (b : Fin 128) (r : Fin 13056)
    (hr : r.val = t.val * 256 + 128 * a.val + b.val) :
    iblk m c 2 t (ix3 a 0 b) = (m ((c : Thread nD τ).loc main_arg2) : Vec Ideal S102x1x128 .f32)
      (ix3 ⟨r.val / 128, by omega⟩ 0 ⟨r.val % 128, by omega⟩) := by
  blk_ext! [iblk, V, idx t]

/-- The weights, whole at every point. -/
theorem iblk3 (c : Dev nD) (t : Fin cfg0.N) (k : Fin 1024) (b : Fin 5376) :
    iblk m c 3 t (ix2 k b) = (m ((c : Thread nD τ).loc main_arg3) : Vec Ideal S1024x5376 .fp8e4m3) (ix2 k b) := by
  blk_ext! [iblk, V, idx t]

/-- The columns' scales, whole at every point. -/
theorem iblk4 (c : Dev nD) (t : Fin cfg0.N) (b : Fin 5376) :
    iblk m c 4 t (ix2 0 b) = (m ((c : Thread nD τ).loc main_arg4) : Vec Ideal S5376 .f32) (ix1 b) := by
  blk_ext! [iblk, V, idx t]

/-- The norm's gain, whole at every point. -/
theorem iblk5 (c : Dev nD) (t : Fin cfg0.N) (b : Fin 5376) :
    iblk m c 5 t (ix2 0 b) = (m ((c : Thread nD τ).loc main_arg5) : Vec Ideal S5376 .f32) (ix1 b) := by
  blk_ext! [iblk, V, idx t]

/-- Where an element of the point's block lies in the result. -/
theorem emb6 (t : Fin cfg0.N) (a : Fin 256) (b : Fin 5376) (r : Fin 13056) (hr : r.val = t.val * 256 + a.val) :
    (((cfg0.win 6).blk t).view.emb (ix2 a b) : S13056x5376.Idx) = ix2 r b := by
  blk_ext! [idx t]

/-- The body's value at an element of its block, as a function of the input blocks: the reference's row arithmetic,
    with the scale of row `a` read from tile `a / 128`. -/
theorem body_apply (x : Vec Ideal S256x5376 .bf16) (k : Vec Ideal S256x1024 .fp8e4m3) (s0 s1 : Vec Ideal S1x1x128 .f32)
    (w : Vec Ideal S1024x5376 .fp8e4m3) (s g : Vec Ideal S1x5376 .f32) (a : Fin 256) (b : Fin 5376)
    (p : Fin 5376 → EReal)
    (hp : ∀ d, p d = (∑ j : Fin 1024, k (ix2 a j) * w (ix2 j d)) *
      ((if h : a.val < 128 then s0 (ix3 0 0 ⟨a.val, h⟩) else s1 (ix3 0 0 ⟨a.val - 128, by omega⟩)) * s (ix2 0 d))) :
    k0_pay1 (F := Ideal) (k0_pay3 s0 s1 (k0_pay2 k w) s) g x (ix2 a b) =
      x (ix2 a b) + Ideal.div (p b) (Row.rms (Ideal.ofBits .f32 0x45A80000#32) p) * g (ix2 0 b) := by
  rw [← Row.mul_rms Row.width_pos]
  obtain rfl : p = _ := funext hp
  pointwise [k0_pay1, k0_pay2, k0_pay3]
  rfl

/-- The result array after the run is the reference's array of the arguments. -/
theorem final (c : Dev nD) : (dats m 0 c).arrAt 6 cfg0.N =
    Cert.ProjReferenceIdeal.Value.G6 (F := Ideal) (m ((c : Thread nD τ).loc main_arg0))
      (m ((c : Thread nD τ).loc main_arg1)) (m ((c : Thread nD τ).loc main_arg2))
      (m ((c : Thread nD τ).loc main_arg3)) (m ((c : Thread nD τ).loc main_arg4))
      (m ((c : Thread nD τ).loc main_arg5)) := by
  refine (dats m 0 c).arrAt_eq_of_covers 6 _ (by decide +kernel) fun t hf y => ?_
  have hN : t.val < 51 := lt_of_lt_of_eq t.isLt (show cfg0.N = 51 by decide +kernel)
  rw [after0_6]
  unfold outsAt0
  frame_out
  obtain ⟨a, b, rfl⟩ : ∃ (a : Fin 256) (b : Fin 5376), y = ix2 a b := ⟨y 0, y 1, eq_ix2 y⟩
  have hr : (⟨t.val * 256 + a.val, by omega⟩ : Fin 13056).val = t.val * 256 + a.val := rfl
  rw [emb6 t a b _ hr, ref_apply]
  refine (body_apply _ _ _ _ _ _ _ a b (proj (m ((c : Thread nD τ).loc main_arg1))
    (m ((c : Thread nD τ).loc main_arg2)) (m ((c : Thread nD τ).loc main_arg3)) (m ((c : Thread nD τ).loc main_arg4))
    ⟨t.val * 256 + a.val, by omega⟩) fun d => ?_).trans ?_
  · unfold proj
    congr 1
    · exact Finset.sum_congr rfl fun j _ => by rw [iblk1 m c t a j _ hr, iblk3]
    · rw [iblk4]
      congr 1
      split
      · rw [← iblk2 m c t 0 ⟨a.val, by omega⟩ _ (by simp)]
        pointwise
      · rw [← iblk2 m c t 1 ⟨a.val - 128, by omega⟩ _ (by simp; omega)]
        pointwise
  · rw [iblk0 m c t a b _ hr, iblk5]; rfl

end Cert.ProjIdeal.Value
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.RefRun
public import proofs.«01_k».proof.Proof.KernelValue
public import proofs.«01_k».proof.Proof.Gen.Attend
public import proofs.«01_k».proof.Proof.Gen.Attend.Skeleton
public import proofs.«01_k».proof.Proof.Gen.Attend.Launch
public import proofs.«01_k».proof.Proof.Gen.Attend.Points
public import proofs.«01_k».proof.Proof.Gen.Attend.Frame
public import proofs.«01_k».proof.Proof.Gen.AttendIdeal
public import proofs.«01_k».proof.Proof.Gen.AttendIdeal.Skeleton
public import proofs.«01_k».proof.Proof.Gen.AttendIdeal.Launch
public import proofs.«01_k».proof.Proof.Gen.AttendIdeal.Points
public import proofs.«01_k».proof.Proof.Gen.AttendIdeal.Frame
public import proofs.«01_k».proof.Proof.Gen.AttendReferenceIdeal
public import proofs.«01_k».proof.Proof.Gen.AttendReferenceIdeal.Skeleton
public import proofs.«01_k».proof.Proof.Gen.AttendReferenceIdeal.Launch
public import proofs.«01_k».proof.Proof.Gen.AttendReferenceIdeal.Points
public import proofs.«01_k».proof.Proof.Gen.AttendReferenceIdeal.Frame
public import proofs.«01_k».proof.Proof.Gen.AttendIdeal.Value
public import proofs.«01_k».proof.Proof.Gen.AttendReferenceIdeal.Value
public import proofs.«01_k».proof.Proof.AttendValue
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjIdeal.Value
public import proofs.«01_k».proof.Proof.Gen.ProjReferenceIdeal
public import proofs.«01_k».proof.Proof.Gen.ProjReferenceIdeal.Skeleton
public import proofs.«01_k».proof.Proof.Gen.ProjReferenceIdeal.Launch
public import proofs.«01_k».proof.Proof.Gen.ProjReferenceIdeal.Points
public import proofs.«01_k».proof.Proof.Gen.ProjReferenceIdeal.Frame
public import proofs.«01_k».proof.Proof.Gen.ProjReferenceIdeal.Value
public import proofs.«01_k».proof.Proof.ProjValue
public import Idealize.ShloMosaic.Adequacy
public import Idealize.ShloMosaic.Init

@[expose] public section

set_option maxHeartbeats 4000000

noncomputable section

namespace Cert.Proof

open Idealize.ShloMosaic Idealize.SL.Sem Cert.Kernel

/-- The projection call: from memories that agree on the arguments the kernel and the reference end with the same nine
    result arrays. -/
theorem qkv_equal : algebraic_KernelIdeal_ReferenceIdeal := fun m g m' g' _ hag =>
  ⟨fun c => Cert.KernelIdeal.Value.want10 m c,
    fun c => Cert.KernelIdeal.Value.want11 m c,
    fun c => Cert.KernelIdeal.Value.want12 m c,
    fun c => Cert.KernelIdeal.Value.want13 m c,
    fun c => Cert.KernelIdeal.Value.want14 m c,
    fun c => Cert.KernelIdeal.Value.want15 m c,
    fun c => Cert.KernelIdeal.Value.want16 m c,
    fun c => Cert.KernelIdeal.Value.want17 m c,
    fun c => Cert.KernelIdeal.Value.want18 m c,
    (θ_run _ _ _).mono (fun r h c => by
      obtain ⟨q0, q1, q2, q3, q4, q5, q6, q7, q8, kept⟩ := h c
      exact ⟨q0.trans (Cert.KernelIdeal.Value.final10 m c),
      q1.trans (Cert.KernelIdeal.Value.final11 m c),
      q2.trans (Cert.KernelIdeal.Value.final12 m c),
      q3.trans (Cert.KernelIdeal.Value.final13 m c),
      q4.trans (Cert.KernelIdeal.Value.final14 m c),
      q5.trans (Cert.KernelIdeal.Value.final15 m c),
      q6.trans (Cert.KernelIdeal.Value.final16 m c),
      q7.trans (Cert.KernelIdeal.Value.final17 m c),
      q8.trans (Cert.KernelIdeal.Value.final18 m c), kept⟩)
      (Cert.KernelIdeal.Value.run_blocks m g),
    (θ_run _ _ _).mono (fun r h c => by
      obtain ⟨e0, e1, e2, e3, e4, e5, e6, e7⟩ := hag c
      obtain ⟨q0, q1, q2, q3, q4, q5, q6, q7, q8, kept⟩ := h c
      exact ⟨q0.trans (by unfold Cert.KernelIdeal.Value.want10; rw [e0, e1, e2, e3, e4, e5, e6, e7]),
        q1.trans (by unfold Cert.KernelIdeal.Value.want11; rw [e0, e1, e2, e3, e4, e5, e6, e7]),
        q2.trans (by unfold Cert.KernelIdeal.Value.want12; rw [e0, e1, e2, e3, e4, e5, e6, e7]),
        q3.trans (by unfold Cert.KernelIdeal.Value.want13; rw [e0, e1, e2, e3, e4, e5, e6, e7]),
        q4.trans (by unfold Cert.KernelIdeal.Value.want14; rw [e0, e1, e2, e3, e4, e5, e6, e7]),
        q5.trans (by unfold Cert.KernelIdeal.Value.want15; rw [e0, e1, e2, e3, e4, e5, e6, e7]),
        q6.trans (by unfold Cert.KernelIdeal.Value.want16; rw [e0, e1, e2, e3, e4, e5, e6, e7]),
        q7.trans (by unfold Cert.KernelIdeal.Value.want17; rw [e0, e1, e2, e3, e4, e5, e6, e7]),
        q8.trans (by unfold Cert.KernelIdeal.Value.want18; rw [e0, e1, e2, e3, e4, e5, e6, e7]), kept⟩)
      (Cert.ReferenceIdeal.Value.run m' g')⟩

/-- The output projection: from memories that agree on the arguments the kernel and the reference end with the same
    result array. -/
theorem proj_equal : algebraic_ProjIdeal_ProjReferenceIdeal := fun m g m' g' _ hag =>
  ⟨fun c => Cert.ProjReferenceIdeal.Value.G6 (F := Ideal) (m ((c.tc : Thread Cert.ProjIdeal.nD Cert.ProjIdeal.τ).loc Cert.ProjIdeal.main_arg0))
      (m ((c.tc : Thread Cert.ProjIdeal.nD Cert.ProjIdeal.τ).loc Cert.ProjIdeal.main_arg1)) (m ((c.tc : Thread Cert.ProjIdeal.nD Cert.ProjIdeal.τ).loc Cert.ProjIdeal.main_arg2))
      (m ((c.tc : Thread Cert.ProjIdeal.nD Cert.ProjIdeal.τ).loc Cert.ProjIdeal.main_arg3)) (m ((c.tc : Thread Cert.ProjIdeal.nD Cert.ProjIdeal.τ).loc Cert.ProjIdeal.main_arg4))
      (m ((c.tc : Thread Cert.ProjIdeal.nD Cert.ProjIdeal.τ).loc Cert.ProjIdeal.main_arg5)),
    (θ_run _ _ _).mono (fun r h c => ⟨(h c).1.trans (Cert.ProjIdeal.Value.final m c), (h c).2⟩)
      (Cert.ProjIdeal.Value.run_blocks m g),
    (θ_run _ _ _).mono (fun r h c => by
      obtain ⟨e0, e1, e2, e3, e4, e5⟩ := hag c
      exact ⟨(h c).1.trans (by rw [e0, e1, e2, e3, e4, e5]), (h c).2⟩)
      (Cert.ProjReferenceIdeal.Value.run m' g')⟩

attribute [local instance] Cert.Pre_spans.facts

/-- The attention: from memories that agree on the arguments, every query's span ending no later than 256 keys after it,
    the kernel and the reference end with the same three result arrays. -/
theorem attend_equal : algebraic_AttendIdeal_AttendReferenceIdeal_pre_spans := fun m g m' g' hpre hag =>
  have hn : ∀ c s q, Cert.AttendIdeal.Value.Near m c s q := fun c s q =>
    Cert.AttendIdeal.Value.near_of_spans _ _ _ _ _ _ _ (hpre c) s q
  ⟨fun c => Cert.AttendIdeal.Value.want7 m c,
    fun c => Cert.AttendIdeal.Value.want8 m c,
    fun c => Cert.AttendIdeal.Value.want9 m c,
    (θ_run _ _ _).mono (fun r h c => by
      obtain ⟨q0, q1, q2, kept⟩ := h c
      exact ⟨q0.trans (Cert.AttendIdeal.Value.final7 m c (hn c)),
      q1.trans (Cert.AttendIdeal.Value.final8 m c (hn c)),
      q2.trans (Cert.AttendIdeal.Value.final9 m c (hn c)), kept⟩)
      (Cert.AttendIdeal.Value.run_blocks m g),
    (θ_run _ _ _).mono (fun r h c => by
      obtain ⟨e0, e1, e2, e3, e4, e5, e6⟩ := hag c
      obtain ⟨q0, q1, q2, kept⟩ := h c
      exact ⟨q0.trans (by unfold Cert.AttendIdeal.Value.want7; rw [e0, e1, e2, e3, e4, e5, e6]),
        q1.trans (by unfold Cert.AttendIdeal.Value.want8; rw [e0, e1, e2, e3, e4, e5, e6]),
        q2.trans (by unfold Cert.AttendIdeal.Value.want9; rw [e0, e1, e2, e3, e4, e5, e6]), kept⟩)
      (Cert.AttendReferenceIdeal.Value.run m' g')⟩

/-- Every claim of the certificate. -/
theorem claim : Cert.Claim := ⟨Cert.Kernel.Gen.facts, Cert.KernelIdeal.Gen.facts, Cert.ReferenceIdeal.Gen.facts,
  Cert.Attend.Gen.facts, Cert.AttendIdeal.Gen.facts, Cert.AttendReferenceIdeal.Gen.facts,
  Cert.Proj.Gen.facts, Cert.ProjIdeal.Gen.facts, Cert.ProjReferenceIdeal.Gen.facts, Cert.Pre_spans.facts,
  fun m ρ _ => Cert.Kernel.Gen.frame m ρ, fun m ρ _ => Cert.KernelIdeal.Gen.frame m ρ,
  fun m ρ _ => Cert.ReferenceIdeal.Gen.frame m ρ,
  fun m ρ _ => Cert.Attend.Gen.frame m ρ, fun m ρ _ => Cert.AttendIdeal.Gen.frame m ρ,
  fun m ρ _ => Cert.AttendIdeal.Gen.frame m ρ, fun m ρ _ => Cert.AttendReferenceIdeal.Gen.frame m ρ,
  fun m ρ _ => Cert.AttendReferenceIdeal.Gen.frame m ρ,
  fun m ρ _ => Cert.Proj.Gen.frame m ρ,
  fun m ρ _ => Cert.ProjIdeal.Gen.frame m ρ, fun m ρ _ => Cert.ProjReferenceIdeal.Gen.frame m ρ,
  trivial, qkv_equal, trivial, attend_equal, trivial, proj_equal⟩

end Cert.Proof

end
